-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v141) = v0 c
          ∧ r.2.mem ((c.tc : Thread Cert.ReferenceIdeal.nD Cert.ReferenceIdeal.τ).loc Cert.ReferenceIdeal.main_v144) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x3960 : Shape := ⟨2, ![4, 3960]⟩
abbrev S3960x3960 : Shape := ⟨2, ![3960, 3960]⟩
abbrev S_ : Shape := ⟨0, ![]⟩
abbrev S325x128 : Shape := ⟨2, ![325, 128]⟩
abbrev S128 : Shape := ⟨1, ![128]⟩
abbrev S325x64 : Shape := ⟨2, ![325, 64]⟩
abbrev S64 : Shape := ⟨1, ![64]⟩
abbrev S640x128 : Shape := ⟨2, ![640, 128]⟩
abbrev S640x64 : Shape := ⟨2, ![640, 64]⟩
abbrev S64x1 : Shape := ⟨2, ![64, 1]⟩
abbrev S1 : Shape := ⟨1, ![1]⟩
abbrev S3960x4 : Shape := ⟨2, ![3960, 4]⟩
abbrev S5 : Shape := ⟨1, ![5]⟩
abbrev S5x1 : Shape := ⟨2, ![5, 1]⟩
abbrev S5x128 : Shape := ⟨2, ![5, 128]⟩
abbrev S5x64 : Shape := ⟨2, ![5, 64]⟩
abbrev S1x64 : Shape := ⟨2, ![1, 64]⟩
abbrev S320 : Shape := ⟨1, ![320]⟩
abbrev S320x1 : Shape := ⟨2, ![320, 1]⟩
abbrev S320x128 : Shape := ⟨2, ![320, 128]⟩
abbrev S320x64 : Shape := ⟨2, ![320, 64]⟩
abbrev S1x1 : Shape := ⟨2, ![1, 1]⟩
abbrev S1x3960 : Shape := ⟨2, ![1, 3960]⟩
abbrev S3960x1 : Shape := ⟨2, ![3960, 1]⟩
abbrev S3960x256 : Shape := ⟨2, ![3960, 256]⟩
abbrev S2x4x3960x64 : Shape := ⟨4, ![2, 4, 3960, 64]⟩
abbrev S2x4x253440 : Shape := ⟨3, ![2, 4, 253440]⟩
abbrev S792x3960 : Shape := ⟨2, ![792, 3960]⟩
abbrev S792x4 : Shape := ⟨2, ![792, 4]⟩
abbrev S792 : Shape := ⟨1, ![792]⟩
abbrev S792x1 : Shape := ⟨2, ![792, 1]⟩
abbrev S3960 : Shape := ⟨1, ![3960]⟩
abbrev S792x256 : Shape := ⟨2, ![792, 256]⟩
abbrev S792x64 : Shape := ⟨2, ![792, 64]⟩
abbrev S2x4x792x64 : Shape := ⟨4, ![2, 4, 792, 64]⟩
abbrev S792x320 : Shape := ⟨2, ![792, 320]⟩
abbrev S1x1x792x64 : Shape := ⟨4, ![1, 1, 792, 64]⟩

abbrev nBuf : Space → Nat
  | .hbm => 107
  | .vmem => 82
  | .smem => 0
  | _ => 0

abbrev bufTy : (tb : Table) → Fin (tcTables nBuf tb) → BufTy
  | .hbm, ⟨0, _⟩ => ⟨S4x3960, .f32⟩
  | .hbm, ⟨1, _⟩ => ⟨S3960x3960, .f32⟩
  | .hbm, ⟨2, _⟩ => ⟨S_, .i32⟩
  | .hbm, ⟨3, _⟩ => ⟨S325x128, .f32⟩
  | .hbm, ⟨4, _⟩ => ⟨S128, .f32⟩
  | .hbm, ⟨5, _⟩ => ⟨S325x64, .f32⟩
  | .hbm, ⟨6, _⟩ => ⟨S64, .f32⟩
  | .hbm, ⟨7, _⟩ => ⟨S640x128, .f32⟩
  | .hbm, ⟨8, _⟩ => ⟨S128, .f32⟩
  | .hbm, ⟨9, _⟩ => ⟨S640x64, .f32⟩
  | .hbm, ⟨10, _⟩ => ⟨S64, .f32⟩
  | .hbm, ⟨11, _⟩ => ⟨S64x1, .f32⟩
  | .hbm, ⟨12, _⟩ => ⟨S1, .f32⟩
  | .hbm, ⟨13, _⟩ => ⟨S3960x4, .f32⟩
  | .hbm, ⟨14, _⟩ => ⟨S3960x4, .bf16⟩
  | .hbm, ⟨15, _⟩ => ⟨S5, .i32⟩
  | .hbm, ⟨16, _⟩ => ⟨S_, .i32⟩
  | .hbm, ⟨17, _⟩ => ⟨S5, .i32⟩
  | .hbm, ⟨18, _⟩ => ⟨S5, .i32⟩
  | .hbm, ⟨19, _⟩ => ⟨S_, .i32⟩
  | .hbm, ⟨20, _⟩ => ⟨S5, .i32⟩
  | .hbm, ⟨21, _⟩ => ⟨S5, .i1⟩
  | .hbm, ⟨22, _⟩ => ⟨S_, .i32⟩
  | .hbm, ⟨23, _⟩ => ⟨S5, .i32⟩
  | .hbm, ⟨24, _⟩ => ⟨S5, .i32⟩
  | .hbm, ⟨25, _⟩ => ⟨S5, .i32⟩
  | .hbm, ⟨26, _⟩ => ⟨S5x1, .i32⟩
  | .hbm, ⟨27, _⟩ => ⟨S5x128, .f32⟩
  | .hbm, ⟨28, _⟩ => ⟨S5x64, .f32⟩
  | .hbm, ⟨29, _⟩ => ⟨S5x64, .bf16⟩
  | .hbm, ⟨30, _⟩ => ⟨S_, .i32⟩
  | .hbm, ⟨31, _⟩ => ⟨S5, .i32⟩
  | .hbm, ⟨32, _⟩ => ⟨S5, .i1⟩
  | .hbm, ⟨33, _⟩ => ⟨S_, .i32⟩
  | .hbm, ⟨34, _⟩ => ⟨S5, .i32⟩
  | .hbm, ⟨35, _⟩ => ⟨S5, .i32⟩
  | .hbm, ⟨36, _⟩ => ⟨S5, .i32⟩
  | .hbm, ⟨37, _⟩ => ⟨S5x1, .i32⟩
  | .hbm, ⟨38, _⟩ => ⟨S5x64, .f32⟩
  | .hbm, ⟨39, _⟩ => ⟨S5x64, .bf16⟩
  | .hbm, ⟨40, _⟩ => ⟨S5, .i32⟩
  | .hbm, ⟨41, _⟩ => ⟨S5x1, .i32⟩
  | .hbm, ⟨42, _⟩ => ⟨S_, .i32⟩
  | .hbm, ⟨43, _⟩ => ⟨S5x1, .i32⟩
  | .hbm, ⟨44, _⟩ => ⟨S5x1, .i32⟩
  | .hbm, ⟨45, _⟩ => ⟨S64, .i32⟩
  | .hbm, ⟨46, _⟩ => ⟨S1x64, .i32⟩
  | .hbm, ⟨47, _⟩ => ⟨S5x64, .i32⟩
  | .hbm, ⟨48, _⟩ => ⟨S5x64, .i32⟩
  | .hbm, ⟨49, _⟩ => ⟨S5x64, .i32⟩
  | .hbm, ⟨50, _⟩ => ⟨S320, .i32⟩
  | .hbm, ⟨51, _⟩ => ⟨S_, .i32⟩
  | .hbm, ⟨52, _⟩ => ⟨S320, .i32⟩
  | .hbm, ⟨53, _⟩ => ⟨S320, .i1⟩
  | .hbm, ⟨54, _⟩ => ⟨S_, .i32⟩
  | .hbm, ⟨55, _⟩ => ⟨S320, .i32⟩
  | .hbm, ⟨56, _⟩ => ⟨S320, .i32⟩
  | .hbm, ⟨57, _⟩ => ⟨S320, .i32⟩
  | .hbm, ⟨58, _⟩ => ⟨S320x1, .i32⟩
  | .hbm, ⟨59, _⟩ => ⟨S320x128, .f32⟩
  | .hbm, ⟨60, _⟩ => ⟨S320x64, .f32⟩
  | .hbm, ⟨61, _⟩ => ⟨S320x64, .bf16⟩
  | .hbm, ⟨62, _⟩ => ⟨S_, .i32⟩
  | .hbm, ⟨63, _⟩ => ⟨S320, .i32⟩
  | .hbm, ⟨64, _⟩ => ⟨S320, .i1⟩
  | .hbm, ⟨65, _⟩ => ⟨S_, .i32⟩
  | .hbm, ⟨66, _⟩ => ⟨S320, .i32⟩
  | .hbm, ⟨67, _⟩ => ⟨S320, .i32⟩
  | .hbm, ⟨68, _⟩ => ⟨S320, .i32⟩
  | .hbm, ⟨69, _⟩ => ⟨S320x1, .i32⟩
  | .hbm, ⟨70, _⟩ => ⟨S320x64, .f32⟩
  | .hbm, ⟨71, _⟩ => ⟨S320x64, .bf16⟩
  | .hbm, ⟨72, _⟩ => ⟨S64, .f32⟩
  | .hbm, ⟨73, _⟩ => ⟨S1x64, .f32⟩
  | .hbm, ⟨74, _⟩ => ⟨S1x64, .f32⟩
  | .hbm, ⟨75, _⟩ => ⟨S64, .f32⟩
  | .hbm, ⟨76, _⟩ => ⟨S1x64, .f32⟩
  | .hbm, ⟨77, _⟩ => ⟨S1x64, .f32⟩
  | .hbm, ⟨78, _⟩ => ⟨S1x64, .f32⟩
  | .hbm, ⟨79, _⟩ => ⟨S1x64, .bf16⟩
  | .hbm, ⟨80, _⟩ => ⟨S1x1, .f32⟩
  | .hbm, ⟨81, _⟩ => ⟨S3960x4, .bf16⟩
  | .hbm, ⟨82, _⟩ => ⟨S1x3960, .f32⟩
  | .hbm, ⟨83, _⟩ => ⟨S3960x4, .f32⟩
  | .hbm, ⟨84, _⟩ => ⟨S_, .f32⟩
  | .hbm, ⟨85, _⟩ => ⟨S1x3960, .f32⟩
  | .hbm, ⟨86, _⟩ => ⟨S1x3960, .i1⟩
  | .hbm, ⟨87, _⟩ => ⟨S_, .f32⟩
  | .hbm, ⟨88, _⟩ => ⟨S1x3960, .f32⟩
  | .hbm, ⟨89, _⟩ => ⟨S1x3960, .f32⟩
  | .hbm, ⟨90, _⟩ => ⟨S_, .f32⟩
  | .hbm, ⟨91, _⟩ => ⟨S_, .f32⟩
  | .hbm, ⟨92, _⟩ => ⟨S1x3960, .f32⟩
  | .hbm, ⟨93, _⟩ => ⟨S1x3960, .f32⟩
  | .hbm, ⟨94, _⟩ => ⟨S3960x1, .f32⟩
  | .hbm, ⟨95, _⟩ => ⟨S3960x4, .bf16⟩
  | .hbm, ⟨96, _⟩ => ⟨S3960x4, .f32⟩
  | .hbm, ⟨97, _⟩ => ⟨S3960x256, .f32⟩
  | .hbm, ⟨98, _⟩ => ⟨S3960x256, .bf16⟩
  | .hbm, ⟨99, _⟩ => ⟨S3960x256, .bf16⟩
  | .hbm, ⟨100, _⟩ => ⟨S3960x256, .f32⟩
  | .hbm, ⟨101, _⟩ => ⟨S3960x256, .bf16⟩
  | .hbm, ⟨102, _⟩ => ⟨S3960x256, .f32⟩
  | .hbm, ⟨103, _⟩ => ⟨S2x4x3960x64, .f32⟩
  | .hbm, ⟨104, _⟩ => ⟨S3960x4, .f32⟩
  | .hbm, ⟨105, _⟩ => ⟨S4x3960, .f32⟩
  | .hbm, ⟨106, _⟩ => ⟨S2x4x253440, .f32⟩
  | .local _ .vmem, ⟨0, _⟩ => ⟨S792x3960, .f32⟩
  | .local _ .vmem, ⟨1, _⟩ => ⟨S792x3960, .f32⟩
  | .local _ .vmem, ⟨2, _⟩ => ⟨S3960x4, .bf16⟩
  | .local _ .vmem, ⟨3, _⟩ => ⟨S792x4, .f32⟩
  | .local _ .vmem, ⟨4, _⟩ => ⟨S792x4, .f32⟩
  | .local _ .vmem, ⟨5, _⟩ => ⟨S792x4, .bf16⟩
  | .local _ .vmem, ⟨6, _⟩ => ⟨S792x4, .bf16⟩
  | .local _ .vmem, ⟨7, _⟩ => ⟨S1x3960, .f32⟩
  | .local _ .vmem, ⟨8, _⟩ => ⟨S3960x4, .f32⟩
  | .local _ .vmem, ⟨9, _⟩ => ⟨S792x3960, .f32⟩
  | .local _ .vmem, ⟨10, _⟩ => ⟨S792x3960, .f32⟩
  | .local _ .vmem, ⟨11, _⟩ => ⟨S1x3960, .f32⟩
  | .local _ .vmem, ⟨12, _⟩ => ⟨S792x1, .f32⟩
  | .local _ .vmem, ⟨13, _⟩ => ⟨S792x1, .f32⟩
  | .local _ .vmem, ⟨14, _⟩ => ⟨S3960x4, .bf16⟩
  | .local _ .vmem, ⟨15, _⟩ => ⟨S792x4, .f32⟩
  | .local _ .vmem, ⟨16, _⟩ => ⟨S792x4, .f32⟩
  | .local _ .vmem, ⟨17, _⟩ => ⟨S792x4, .f32⟩
  | .local _ .vmem, ⟨18, _⟩ => ⟨S792x4, .f32⟩
  | .local _ .vmem, ⟨19, _⟩ => ⟨S792x4, .bf16⟩
  | .local _ .vmem, ⟨20, _⟩ => ⟨S792x4, .bf16⟩
  | .local _ .vmem, ⟨21, _⟩ => ⟨S3960x4, .f32⟩
  | .local _ .vmem, ⟨22, _⟩ => ⟨S792x4, .f32⟩
  | .local _ .vmem, ⟨23, _⟩ => ⟨S792x4, .f32⟩
  | .local _ .vmem, ⟨24, _⟩ => ⟨S792x4, .bf16⟩
  | .local _ .vmem, ⟨25, _⟩ => ⟨S792x4, .bf16⟩
  | .local _ .vmem, ⟨26, _⟩ => ⟨S792x4, .bf16⟩
  | .local _ .vmem, ⟨27, _⟩ => ⟨S792x4, .bf16⟩
  | .local _ .vmem, ⟨28, _⟩ => ⟨S792x4, .f32⟩
  | .local _ .vmem, ⟨29, _⟩ => ⟨S792x4, .f32⟩
  | .local _ .vmem, ⟨30, _⟩ => ⟨S792x1, .f32⟩
  | .local _ .vmem, ⟨31, _⟩ => ⟨S792x1, .f32⟩
  | .local _ .vmem, ⟨32, _⟩ => ⟨S792x4, .f32⟩
  | .local _ .vmem, ⟨33, _⟩ => ⟨S792x4, .f32⟩
  | .local _ .vmem, ⟨34, _⟩ => ⟨S5x64, .bf16⟩
  | .local _ .vmem, ⟨35, _⟩ => ⟨S5x64, .bf16⟩
  | .local _ .vmem, ⟨36, _⟩ => ⟨S1x64, .f32⟩
  | .local _ .vmem, ⟨37, _⟩ => ⟨S1x64, .f32⟩
  | .local _ .vmem, ⟨38, _⟩ => ⟨S792x256, .f32⟩
  | .local _ .vmem, ⟨39, _⟩ => ⟨S792x256, .f32⟩
  | .local _ .vmem, ⟨40, _⟩ => ⟨S792x256, .bf16⟩
  | .local _ .vmem, ⟨41, _⟩ => ⟨S792x256, .bf16⟩
  | .local _ .vmem, ⟨42, _⟩ => ⟨S792x3960, .f32⟩
  | .local _ .vmem, ⟨43, _⟩ => ⟨S792x3960, .f32⟩
  | .local _ .vmem, ⟨44, _⟩ => ⟨S1x3960, .f32⟩
  | .local _ .vmem, ⟨45, _⟩ => ⟨S3960x256, .bf16⟩
  | .local _ .vmem, ⟨46, _⟩ => ⟨S792x256, .bf16⟩
  | .local _ .vmem, ⟨47, _⟩ => ⟨S792x256, .bf16⟩
  | .local _ .vmem, ⟨48, _⟩ => ⟨S792x256, .bf16⟩
  | .local _ .vmem, ⟨49, _⟩ => ⟨S792x256, .bf16⟩
  | .local _ .vmem, ⟨50, _⟩ => ⟨S3960x256, .f32⟩
  | .local _ .vmem, ⟨51, _⟩ => ⟨S792x3960, .f32⟩
  | .local _ .vmem, ⟨52, _⟩ => ⟨S792x3960, .f32⟩
  | .local _ .vmem, ⟨53, _⟩ => ⟨S1x3960, .f32⟩
  | .local _ .vmem, ⟨54, _⟩ => ⟨S3960x256, .bf16⟩
  | .local _ .vmem, ⟨55, _⟩ => ⟨S792x256, .f32⟩
  | .local _ .vmem, ⟨56, _⟩ => ⟨S792x256, .f32⟩
  | .local _ .vmem, ⟨57, _⟩ => ⟨S792x256, .f32⟩
  | .local _ .vmem, ⟨58, _⟩ => ⟨S792x256, .f32⟩
  | .local _ .vmem, ⟨59, _⟩ => ⟨S792x256, .bf16⟩
  | .local _ .vmem, ⟨60, _⟩ => ⟨S792x256, .bf16⟩
  | .local _ .vmem, ⟨61, _⟩ => ⟨S3960x256, .f32⟩
  | .local _ .vmem, ⟨62, _⟩ => ⟨S792x256, .f32⟩
  | .local _ .vmem, ⟨63, _⟩ => ⟨S792x256, .f32⟩
  | .local _ .vmem, ⟨64, _⟩ => ⟨S792x256, .bf16⟩
  | .local _ .vmem, ⟨65, _⟩ => ⟨S792x256, .bf16⟩
  | .local _ .vmem, ⟨66, _⟩ => ⟨S792x256, .bf16⟩
  | .local _ .vmem, ⟨67, _⟩ => ⟨S792x256, .bf16⟩
  | .local _ .vmem, ⟨68, _⟩ => ⟨S792x256, .f32⟩
  | .local _ .vmem, ⟨69, _⟩ => ⟨S792x256, .f32⟩
  | .local _ .vmem, ⟨70, _⟩ => ⟨S792x256, .f32⟩
  | .local _ .vmem, ⟨71, _⟩ => ⟨S792x256, .f32⟩
  | .local _ .vmem, ⟨72, _⟩ => ⟨S320x64, .bf16⟩
  | .local _ .vmem, ⟨73, _⟩ => ⟨S320x64, .bf16⟩
  | .local _ .vmem, ⟨74, _⟩ => ⟨S1x64, .f32⟩
  | .local _ .vmem, ⟨75, _⟩ => ⟨S1x64, .f32⟩
  | .local _ .vmem, ⟨76, _⟩ => ⟨S1x64, .bf16⟩
  | .local _ .vmem, ⟨77, _⟩ => ⟨S1x1, .f32⟩
  | .local _ .vmem, ⟨78, _⟩ => ⟨S2x4x792x64, .f32⟩
  | .local _ .vmem, ⟨79, _⟩ => ⟨S2x4x792x64, .f32⟩
  | .local _ .vmem, ⟨80, _⟩ => ⟨S792x4, .f32⟩
  | .local _ .vmem, ⟨81, _⟩ => ⟨S792x4, .f32⟩
  | _, _ => ⟨S4x3960, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | _, _ => false

abbrev semScoped : Fin 0 → Bool
  | ⟨_, h⟩ => absurd h (Nat.not_lt_zero _)

abbrev dmaSemScoped : Fin 82 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | _ => false

abbrev sig : RefSig :=
  ofTc nBuf bufTy 0 82 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_call0_v0 : Ref sig .tc := ⟨.hbm, 14, rfl⟩
abbrev main_call0_v1 : Ref sig .tc := ⟨.hbm, 15, rfl⟩
abbrev main_call0_c : Ref sig .tc := ⟨.hbm, 16, rfl⟩
abbrev main_call0_v2 : Ref sig .tc := ⟨.hbm, 17, rfl⟩
abbrev main_call0_v3 : Ref sig .tc := ⟨.hbm, 18, rfl⟩
abbrev main_call0_c_0 : Ref sig .tc := ⟨.hbm, 19, rfl⟩
abbrev main_call0_v4 : Ref sig .tc := ⟨.hbm, 20, rfl⟩
abbrev main_call0_v5 : Ref sig .tc := ⟨.hbm, 21, rfl⟩
abbrev main_call0_c_1 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_v12 : Ref sig .tc := ⟨.hbm, 29, rfl⟩
abbrev main_call0_c_2 : Ref sig .tc := ⟨.hbm, 30, rfl⟩
abbrev main_call0_v13 : Ref sig .tc := ⟨.hbm, 31, rfl⟩
abbrev main_call0_v14 : Ref sig .tc := ⟨.hbm, 32, rfl⟩
abbrev main_call0_c_3 : Ref sig .tc := ⟨.hbm, 33, rfl⟩
abbrev main_call0_v15 : Ref sig .tc := ⟨.hbm, 34, rfl⟩
abbrev main_call0_v16 : Ref sig .tc := ⟨.hbm, 35, rfl⟩
abbrev main_call0_v17 : Ref sig .tc := ⟨.hbm, 36, rfl⟩
abbrev main_call0_v18 : Ref sig .tc := ⟨.hbm, 37, rfl⟩
abbrev main_call0_v19 : Ref sig .tc := ⟨.hbm, 38, rfl⟩
abbrev main_call0_v20 : Ref sig .tc := ⟨.hbm, 39, rfl⟩
abbrev main_call0_v21 : Ref sig .tc := ⟨.hbm, 40, rfl⟩
abbrev main_call0_v22 : Ref sig .tc := ⟨.hbm, 41, rfl⟩
abbrev main_call0_c_4 : Ref sig .tc := ⟨.hbm, 42, rfl⟩
abbrev main_call0_v23 : Ref sig .tc := ⟨.hbm, 43, rfl⟩
abbrev main_call0_v24 : Ref sig .tc := ⟨.hbm, 44, rfl⟩
abbrev main_call0_v25 : Ref sig .tc := ⟨.hbm, 45, rfl⟩
abbrev main_call0_v26 : Ref sig .tc := ⟨.hbm, 46, rfl⟩
abbrev main_call0_v27 : Ref sig .tc := ⟨.hbm, 47, rfl⟩
abbrev main_call0_v28 : Ref sig .tc := ⟨.hbm, 48, rfl⟩
abbrev main_call0_v29 : Ref sig .tc := ⟨.hbm, 49, rfl⟩
abbrev main_call0_v30 : Ref sig .tc := ⟨.hbm, 50, rfl⟩
abbrev main_call0_c_5 : Ref sig .tc := ⟨.hbm, 51, rfl⟩
abbrev main_call0_v31 : Ref sig .tc := ⟨.hbm, 52, rfl⟩
abbrev main_call0_v32 : Ref sig .tc := ⟨.hbm, 53, rfl⟩
abbrev main_call0_c_6 : Ref sig .tc := ⟨.hbm, 54, rfl⟩
abbrev main_call0_v33 : Ref sig .tc := ⟨.hbm, 55, rfl⟩
abbrev main_call0_v34 : Ref sig .tc := ⟨.hbm, 56, rfl⟩
abbrev main_call0_v35 : Ref sig .tc := ⟨.hbm, 57, rfl⟩
abbrev main_call0_v36 : Ref sig .tc := ⟨.hbm, 58, rfl⟩
abbrev main_call0_v37 : Ref sig .tc := ⟨.hbm, 59, rfl⟩
abbrev main_call0_v38 : Ref sig .tc := ⟨.hbm, 60, rfl⟩
abbrev main_call0_v39 : Ref sig .tc := ⟨.hbm, 61, rfl⟩
abbrev main_call0_c_7 : Ref sig .tc := ⟨.hbm, 62, rfl⟩
abbrev main_call0_v40 : Ref sig .tc := ⟨.hbm, 63, rfl⟩
abbrev main_call0_v41 : Ref sig .tc := ⟨.hbm, 64, rfl⟩
abbrev main_call0_c_8 : Ref sig .tc := ⟨.hbm, 65, rfl⟩
abbrev main_call0_v42 : Ref sig .tc := ⟨.hbm, 66, rfl⟩
abbrev main_call0_v43 : Ref sig .tc := ⟨.hbm, 67, rfl⟩
abbrev main_call0_v44 : Ref sig .tc := ⟨.hbm, 68, rfl⟩
abbrev main_call0_v45 : Ref sig .tc := ⟨.hbm, 69, rfl⟩
abbrev main_call0_v46 : Ref sig .tc := ⟨.hbm, 70, rfl⟩
abbrev main_call0_v47 : Ref sig .tc := ⟨.hbm, 71, rfl⟩
abbrev main_call0_v48 : Ref sig .tc := ⟨.hbm, 72, rfl⟩
abbrev main_call0_v49 : Ref sig .tc := ⟨.hbm, 73, rfl⟩
abbrev main_call0_v50 : Ref sig .tc := ⟨.hbm, 74, rfl⟩
abbrev main_call0_v51 : Ref sig .tc := ⟨.hbm, 75, rfl⟩
abbrev main_call0_v52 : Ref sig .tc := ⟨.hbm, 76, rfl⟩
abbrev main_call0_v53 : Ref sig .tc := ⟨.hbm, 77, rfl⟩
abbrev main_call0_v54 : Ref sig .tc := ⟨.hbm, 78, rfl⟩
abbrev main_call0_v55 : Ref sig .tc := ⟨.hbm, 79, rfl⟩
abbrev main_call0_v56 : Ref sig .tc := ⟨.hbm, 80, rfl⟩
abbrev main_call0_v57_0 : Ref sig .tc := ⟨.hbm, 81, rfl⟩
abbrev main_call0_v57_1 : Ref sig .tc := ⟨.hbm, 82, rfl⟩
abbrev main_call0_v57_2 : Ref sig .tc := ⟨.hbm, 83, rfl⟩
abbrev main_call0_cst : Ref sig .tc := ⟨.hbm, 84, rfl⟩
abbrev main_call0_v58 : Ref sig .tc := ⟨.hbm, 85, rfl⟩
abbrev main_call0_v59 : Ref sig .tc := ⟨.hbm, 86, rfl⟩
abbrev main_call0_cst_9 : Ref sig .tc := ⟨.hbm, 87, rfl⟩
abbrev main_call0_v60 : Ref sig .tc := ⟨.hbm, 88, rfl⟩
abbrev main_call0_v61 : Ref sig .tc := ⟨.hbm, 89, rfl⟩
abbrev main_call0_cst_10 : Ref sig .tc := ⟨.hbm, 90, rfl⟩
abbrev main_call0_call0_v0 : Ref sig .tc := ⟨.hbm, 91, rfl⟩
abbrev main_call0_call0_v1 : Ref sig .tc := ⟨.hbm, 92, rfl⟩
abbrev main_call0_v62 : Ref sig .tc := ⟨.hbm, 93, rfl⟩
abbrev main_call0_v63 : Ref sig .tc := ⟨.hbm, 94, rfl⟩
abbrev main_call0_v64_0 : Ref sig .tc := ⟨.hbm, 95, rfl⟩
abbrev main_call0_v64_1 : Ref sig .tc := ⟨.hbm, 96, rfl⟩
abbrev main_call0_v65_0 : Ref sig .tc := ⟨.hbm, 97, rfl⟩
abbrev main_call0_v65_1 : Ref sig .tc := ⟨.hbm, 98, rfl⟩
abbrev main_call0_v66_0 : Ref sig .tc := ⟨.hbm, 99, rfl⟩
abbrev main_call0_v66_1 : Ref sig .tc := ⟨.hbm, 100, rfl⟩
abbrev main_call0_v67_0 : Ref sig .tc := ⟨.hbm, 101, rfl⟩
abbrev main_call0_v67_1 : Ref sig .tc := ⟨.hbm, 102, rfl⟩
abbrev main_call0_v68_0 : Ref sig .tc := ⟨.hbm, 103, rfl⟩
abbrev main_call0_v68_1 : Ref sig .tc := ⟨.hbm, 104, rfl⟩
abbrev main_v1_0 : Ref sig .tc := ⟨.hbm, 105, rfl⟩
abbrev main_v1_1 : Ref sig .tc := ⟨.hbm, 106, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg4_1 : Ref sig .tc := ⟨.vmem, 16, rfl⟩
abbrev cc1_stg5_0 : Ref sig .tc := ⟨.vmem, 17, rfl⟩
abbrev cc1_stg5_1 : Ref sig .tc := ⟨.vmem, 18, rfl⟩
abbrev cc1_stg6_0 : Ref sig .tc := ⟨.vmem, 19, rfl⟩
abbrev cc1_stg6_1 : Ref sig .tc := ⟨.vmem, 20, rfl⟩
abbrev cc1_stg7_0 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg3_1 : Ref sig .tc := ⟨.vmem, 29, rfl⟩
abbrev cc2_stg4_0 : Ref sig .tc := ⟨.vmem, 30, rfl⟩
abbrev cc2_stg4_1 : Ref sig .tc := ⟨.vmem, 31, rfl⟩
abbrev cc2_stg5_0 : Ref sig .tc := ⟨.vmem, 32, rfl⟩
abbrev cc2_stg5_1 : Ref sig .tc := ⟨.vmem, 33, rfl⟩
abbrev cc2_stg6_0 : Ref sig .tc := ⟨.vmem, 34, rfl⟩
abbrev cc2_stg7_0 : Ref sig .tc := ⟨.vmem, 35, rfl⟩
abbrev cc2_stg8_0 : Ref sig .tc := ⟨.vmem, 36, rfl⟩
abbrev cc2_stg9_0 : Ref sig .tc := ⟨.vmem, 37, rfl⟩
abbrev cc2_stg10_0 : Ref sig .tc := ⟨.vmem, 38, rfl⟩
abbrev cc2_stg10_1 : Ref sig .tc := ⟨.vmem, 39, rfl⟩
abbrev cc2_stg11_0 : Ref sig .tc := ⟨.vmem, 40, rfl⟩
abbrev cc2_stg11_1 : Ref sig .tc := ⟨.vmem, 41, rfl⟩
abbrev cc3_stg0_0 : Ref sig .tc := ⟨.vmem, 42, rfl⟩
abbrev cc3_stg0_1 : Ref sig .tc := ⟨.vmem, 43, rfl⟩
abbrev cc3_stg1_0 : Ref sig .tc := ⟨.vmem, 44, rfl⟩
abbrev cc3_stg2_0 : Ref sig .tc := ⟨.vmem, 45, rfl⟩
abbrev cc3_stg3_0 : Ref sig .tc := ⟨.vmem, 46, rfl⟩
abbrev cc3_stg3_1 : Ref sig .tc := ⟨.vmem, 47, rfl⟩
abbrev cc3_stg4_0 : Ref sig .tc := ⟨.vmem, 48, rfl⟩
abbrev cc3_stg4_1 : Ref sig .tc := ⟨.vmem, 49, rfl⟩
abbrev cc3_stg5_0 : Ref sig .tc := ⟨.vmem, 50, rfl⟩
abbrev cc4_stg0_0 : Ref sig .tc := ⟨.vmem, 51, rfl⟩
abbrev cc4_stg0_1 : Ref sig .tc := ⟨.vmem, 52, rfl⟩
abbrev cc4_stg1_0 : Ref sig .tc := ⟨.vmem, 53, rfl⟩
abbrev cc4_stg2_0 : Ref sig .tc := ⟨.vmem, 54, rfl⟩
abbrev cc4_stg3_0 : Ref sig .tc := ⟨.vmem, 55, rfl⟩
abbrev cc4_stg3_1 : Ref sig .tc := ⟨.vmem, 56, rfl⟩
abbrev cc4_stg4_0 : Ref sig .tc := ⟨.vmem, 57, rfl⟩
abbrev cc4_stg4_1 : Ref sig .tc := ⟨.vmem, 58, rfl⟩
abbrev cc4_stg5_0 : Ref sig .tc := ⟨.vmem, 59, rfl⟩
abbrev cc4_stg5_1 : Ref sig .tc := ⟨.vmem, 60, rfl⟩
abbrev cc4_stg6_0 : Ref sig .tc := ⟨.vmem, 61, rfl⟩
abbrev cc5_stg0_0 : Ref sig .tc := ⟨.vmem, 62, rfl⟩
abbrev cc5_stg0_1 : Ref sig .tc := ⟨.vmem, 63, rfl⟩
abbrev cc5_stg1_0 : Ref sig .tc := ⟨.vmem, 64, rfl⟩
abbrev cc5_stg1_1 : Ref sig .tc := ⟨.vmem, 65, rfl⟩
abbrev cc5_stg2_0 : Ref sig .tc := ⟨.vmem, 66, rfl⟩
abbrev cc5_stg2_1 : Ref sig .tc := ⟨.vmem, 67, rfl⟩
abbrev cc5_stg3_0 : Ref sig .tc := ⟨.vmem, 68, rfl⟩
abbrev cc5_stg3_1 : Ref sig .tc := ⟨.vmem, 69, rfl⟩
abbrev cc5_stg4_0 : Ref sig .tc := ⟨.vmem, 70, rfl⟩
abbrev cc5_stg4_1 : Ref sig .tc := ⟨.vmem, 71, rfl⟩
abbrev cc5_stg5_0 : Ref sig .tc := ⟨.vmem, 72, rfl⟩
abbrev cc5_stg6_0 : Ref sig .tc := ⟨.vmem, 73, rfl⟩
abbrev cc5_stg7_0 : Ref sig .tc := ⟨.vmem, 74, rfl⟩
abbrev cc5_stg8_0 : Ref sig .tc := ⟨.vmem, 75, rfl⟩
abbrev cc5_stg9_0 : Ref sig .tc := ⟨.vmem, 76, rfl⟩
abbrev cc5_stg10_0 : Ref sig .tc := ⟨.vmem, 77, rfl⟩
abbrev cc5_stg11_0 : Ref sig .tc := ⟨.vmem, 78, rfl⟩
abbrev cc5_stg11_1 : Ref sig .tc := ⟨.vmem, 79, rfl⟩
abbrev cc5_stg12_0 : Ref sig .tc := ⟨.vmem, 80, rfl⟩
abbrev cc5_stg12_1 : Ref sig .tc := ⟨.vmem, 81, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem2_1 : DmaSem sig := 13
abbrev cc1_sem3_0 : DmaSem sig := 14
abbrev cc1_sem4_0 : DmaSem sig := 15
abbrev cc1_sem4_1 : DmaSem sig := 16
abbrev cc1_sem5_0 : DmaSem sig := 17
abbrev cc1_sem5_1 : DmaSem sig := 18
abbrev cc1_sem6_0 : DmaSem sig := 19
abbrev cc1_sem6_1 : DmaSem sig := 20
abbrev cc1_sem7_0 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem3_1 : DmaSem sig := 29
abbrev cc2_sem4_0 : DmaSem sig := 30
abbrev cc2_sem4_1 : DmaSem sig := 31
abbrev cc2_sem5_0 : DmaSem sig := 32
abbrev cc2_sem5_1 : DmaSem sig := 33
abbrev cc2_sem6_0 : DmaSem sig := 34
abbrev cc2_sem7_0 : DmaSem sig := 35
abbrev cc2_sem8_0 : DmaSem sig := 36
abbrev cc2_sem9_0 : DmaSem sig := 37
abbrev cc2_sem10_0 : DmaSem sig := 38
abbrev cc2_sem10_1 : DmaSem sig := 39
abbrev cc2_sem11_0 : DmaSem sig := 40
abbrev cc2_sem11_1 : DmaSem sig := 41
abbrev cc3_sem0_0 : DmaSem sig := 42
abbrev cc3_sem0_1 : DmaSem sig := 43
abbrev cc3_sem1_0 : DmaSem sig := 44
abbrev cc3_sem2_0 : DmaSem sig := 45
abbrev cc3_sem3_0 : DmaSem sig := 46
abbrev cc3_sem3_1 : DmaSem sig := 47
abbrev cc3_sem4_0 : DmaSem sig := 48
abbrev cc3_sem4_1 : DmaSem sig := 49
abbrev cc3_sem5_0 : DmaSem sig := 50
abbrev cc4_sem0_0 : DmaSem sig := 51
abbrev cc4_sem0_1 : DmaSem sig := 52
abbrev cc4_sem1_0 : DmaSem sig := 53
abbrev cc4_sem2_0 : DmaSem sig := 54
abbrev cc4_sem3_0 : DmaSem sig := 55
abbrev cc4_sem3_1 : DmaSem sig := 56
abbrev cc4_sem4_0 : DmaSem sig := 57
abbrev cc4_sem4_1 : DmaSem sig := 58
abbrev cc4_sem5_0 : DmaSem sig := 59
abbrev cc4_sem5_1 : DmaSem sig := 60
abbrev cc4_sem6_0 : DmaSem sig := 61
abbrev cc5_sem0_0 : DmaSem sig := 62
abbrev cc5_sem0_1 : DmaSem sig := 63
abbrev cc5_sem1_0 : DmaSem sig := 64
abbrev cc5_sem1_1 : DmaSem sig := 65
abbrev cc5_sem2_0 : DmaSem sig := 66
abbrev cc5_sem2_1 : DmaSem sig := 67
abbrev cc5_sem3_0 : DmaSem sig := 68
abbrev cc5_sem3_1 : DmaSem sig := 69
abbrev cc5_sem4_0 : DmaSem sig := 70
abbrev cc5_sem4_1 : DmaSem sig := 71
abbrev cc5_sem5_0 : DmaSem sig := 72
abbrev cc5_sem6_0 : DmaSem sig := 73
abbrev cc5_sem7_0 : DmaSem sig := 74
abbrev cc5_sem8_0 : DmaSem sig := 75
abbrev cc5_sem9_0 : DmaSem sig := 76
abbrev cc5_sem10_0 : DmaSem sig := 77
abbrev cc5_sem11_0 : DmaSem sig := 78
abbrev cc5_sem11_1 : DmaSem sig := 79
abbrev cc5_sem12_0 : DmaSem sig := 80
abbrev cc5_sem12_1 : DmaSem sig := 81

abbrev nD : Nat := 1
abbrev τ : Topo := Topo.v7x

variable {F : FTy → Type} [FloatOps F]

abbrev grid0 : Pipeline.Grid := ⟨1, ![5], ![false]⟩

def k0_cond1 (i : grid0.Coords) : BitVec 1 :=
  let arg0 : BitVec 32 := BitVec.ofNat 32 (i 0).val
  let c0_i32 : BitVec 32 := 0#32
  let v22 : BitVec 1 := Scalar.cmpi .eq arg0 c0_i32
  let v23 : BitVec 32 := Scalar.extui v22
  let c0_i32_13 : BitVec 32 := 0#32
  let v24 : BitVec 1 := Scalar.cmpi .ne v23 c0_i32_13
  v24

def k0_cond2 (i : grid0.Coords) : BitVec 1 :=
  let arg0 : BitVec 32 := BitVec.ofNat 32 (i 0).val
  let c0_i32_14 : BitVec 32 := 0#32
  let v25 : BitVec 1 := Scalar.cmpi .ne arg0 c0_i32_14
  let v26 : BitVec 32 := Scalar.extui v25
  let c0_i32_15 : BitVec 32 := 0#32
  let v27 : BitVec 1 := Scalar.cmpi .ne v26 c0_i32_15
  v27

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S792x3960 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3960x4 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S792x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S792x4 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x3960 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3960x4 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨1, ![5], ![false]⟩

def k1_cond1 (i : grid1.Coords) : BitVec 1 :=
  let arg0 : BitVec 32 := BitVec.ofNat 32 (i 0).val
  let c0_i32 : BitVec 32 := 0#32
  let v35 : BitVec 1 := Scalar.cmpi .eq arg0 c0_i32
  let v36 : BitVec 32 := Scalar.extui v35
  let c0_i32_19 : BitVec 32 := 0#32
  let v37 : BitVec 1 := Scalar.cmpi .ne v36 c0_i32_19
  v37

def k1_cond2 (i : grid1.Coords) : BitVec 1 :=
  let arg0 : BitVec 32 := BitVec.ofNat 32 (i 0).val
  let c0_i32_20 : BitVec 32 := 0#32
  let v38 : BitVec 1 := Scalar.cmpi .ne arg0 c0_i32_20
  let v39 : BitVec 32 := Scalar.extui v38
  let c0_i32_21 : BitVec 32 := 0#32
  let v40 : BitVec 1 := Scalar.cmpi .ne v39 c0_i32_21
  v40

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S792x3960 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x3960 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S792x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S3960x4 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S792x4 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S792x4 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S792x4 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 1 → Memref sig .tc .vmem S3960x4 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_11 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S792x4 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S792x4 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S792x4 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S792x4 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S792x1 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S792x4 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 1 → Memref sig .tc .vmem S5x64 .bf16 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S5x64 .bf16 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x64 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x64 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 2 → Memref sig .tc .vmem S792x256 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

abbrev stage2_11 : Fin 2 → Memref sig .tc .vmem S792x256 .bf16 := fun | 0 => Memref.whole cc2_stg11_0 | 1 => Memref.whole cc2_stg11_1 | ⟨_ + 2, h⟩ => absurd h (Nat.not_lt.2 (Nat.le_add_left _ _))
abbrev sem2_11 : Fin 2 → DmaSem sig := fun | 0 => cc2_sem11_0 | 1 => cc2_sem11_1 | ⟨_ + 2, h⟩ => absurd h (Nat.not_lt.2 (Nat.le_add_left _ _))
abbrev reads2_11 : Fin grid2.rank → Bool := ![true]

abbrev grid3 : Pipeline.Grid := ⟨1, ![5], ![false]⟩

def k3_cond1 (i : grid3.Coords) : BitVec 1 :=
  let arg0 : BitVec 32 := BitVec.ofNat 32 (i 0).val
  let c0_i32 : BitVec 32 := 0#32
  let v25 : BitVec 1 := Scalar.cmpi .eq arg0 c0_i32
  let v26 : BitVec 32 := Scalar.extui v25
  let c0_i32_14 : BitVec 32 := 0#32
  let v27 : BitVec 1 := Scalar.cmpi .ne v26 c0_i32_14
  v27

def k3_cond2 (i : grid3.Coords) : BitVec 1 :=
  let arg0 : BitVec 32 := BitVec.ofNat 32 (i 0).val
  let c0_i32_15 : BitVec 32 := 0#32
  let v28 : BitVec 1 := Scalar.cmpi .ne arg0 c0_i32_15
  let v29 : BitVec 32 := Scalar.extui v28
  let c0_i32_16 : BitVec 32 := 0#32
  let v30 : BitVec 1 := Scalar.cmpi .ne v29 c0_i32_16
  v30

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S792x3960 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x3960 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S3960x256 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S792x256 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S792x256 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 1 → Memref sig .tc .vmem S3960x256 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev grid4 : Pipeline.Grid := ⟨1, ![5], ![false]⟩

def k4_cond1 (i : grid4.Coords) : BitVec 1 :=
  let arg0 : BitVec 32 := BitVec.ofNat 32 (i 0).val
  let c0_i32 : BitVec 32 := 0#32
  let v31 : BitVec 1 := Scalar.cmpi .eq arg0 c0_i32
  let v32 : BitVec 32 := Scalar.extui v31
  let c0_i32_17 : BitVec 32 := 0#32
  let v33 : BitVec 1 := Scalar.cmpi .ne v32 c0_i32_17
  v33

def k4_cond2 (i : grid4.Coords) : BitVec 1 :=
  let arg0 : BitVec 32 := BitVec.ofNat 32 (i 0).val
  let c0_i32_18 : BitVec 32 := 0#32
  let v34 : BitVec 1 := Scalar.cmpi .ne arg0 c0_i32_18
  let v35 : BitVec 32 := Scalar.extui v34
  let c0_i32_19 : BitVec 32 := 0#32
  let v36 : BitVec 1 := Scalar.cmpi .ne v35 c0_i32_19
  v36

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S792x3960 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x3960 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S3960x256 .bf16 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S792x256 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S792x256 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 2 → Memref sig .tc .vmem S792x256 .bf16 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 1 → Memref sig .tc .vmem S3960x256 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev grid5 : Pipeline.Grid := ⟨1, ![5], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_8 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_9 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_10 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_11 (i : grid5.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc5_transform_12 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S792x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S792x256 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S792x256 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S792x256 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 2 → Memref sig .tc .vmem S792x256 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev stage5_5 : Fin 1 → Memref sig .tc .vmem S320x64 .bf16 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S320x64 .bf16 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S1x64 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 1 → Memref sig .tc .vmem S1x64 .f32 := fun | 0 => Memref.whole cc5_stg8_0 | ⟨_ + 1, h⟩ => absurd h (Nat.not_lt.2 (Nat.le_add_left _ _))
abbrev sem5_8 : Fin 1 → DmaSem sig := fun | 0 => cc5_sem8_0 | ⟨_ + 1, h⟩ => absurd h (Nat.not_lt.2 (Nat.le_add_left _ _))
abbrev reads5_8 : Fin grid5.rank → Bool := ![false]

abbrev stage5_9 : Fin 1 → Memref sig .tc .vmem S1x64 .bf16 := fun | 0 => Memref.whole cc5_stg9_0 | ⟨_ + 1, h⟩ => absurd h (Nat.not_lt.2 (Nat.le_add_left _ _))
abbrev sem5_9 : Fin 1 → DmaSem sig := fun | 0 => cc5_sem9_0 | ⟨_ + 1, h⟩ => absurd h (Nat.not_lt.2 (Nat.le_add_left _ _))
abbrev reads5_9 : Fin grid5.rank → Bool := ![false]

abbrev stage5_10 : Fin 1 → Memref sig .tc .vmem S1x1 .f32 := fun | 0 => Memref.whole cc5_stg10_0 | ⟨_ + 1, h⟩ => absurd h (Nat.not_lt.2 (Nat.le_add_left _ _))
abbrev sem5_10 : Fin 1 → DmaSem sig := fun | 0 => cc5_sem10_0 | ⟨_ + 1, h⟩ => absurd h (Nat.not_lt.2 (Nat.le_add_left _ _))
abbrev reads5_10 : Fin grid5.rank → Bool := ![false]

abbrev stage5_11 : Fin 2 → Memref sig .tc .vmem S2x4x792x64 .f32 := fun | 0 => Memref.whole cc5_stg11_0 | 1 => Memref.whole cc5_stg11_1 | ⟨_ + 2, h⟩ => absurd h (Nat.not_lt.2 (Nat.le_add_left _ _))
abbrev sem5_11 : Fin 2 → DmaSem sig := fun | 0 => cc5_sem11_0 | 1 => cc5_sem11_1 | ⟨_ + 2, h⟩ => absurd h (Nat.not_lt.2 (Nat.le_add_left _ _))
abbrev reads5_11 : Fin grid5.rank → Bool := ![true]

abbrev stage5_12 : Fin 2 → Memref sig .tc .vmem S792x4 .f32 := fun | 0 => Memref.whole cc5_stg12_0 | 1 => Memref.whole cc5_stg12_1 | ⟨_ + 2, h⟩ => absurd h (Nat.not_lt.2 (Nat.le_add_left _ _))
abbrev sem5_12 : Fin 2 → DmaSem sig := fun | 0 => cc5_sem12_0 | 1 => cc5_sem12_1 | ⟨_ + 2, h⟩ => absurd h (Nat.not_lt.2 (Nat.le_add_left _ _))
abbrev reads5_12 : Fin grid5.rank → Bool := ![true]
-- ==== ReferenceIdeal.lean ====
abbrev S4x3960 : Shape := ⟨2, ![4, 3960]⟩
abbrev S3960x3960 : Shape := ⟨2, ![3960, 3960]⟩
abbrev S_ : Shape := ⟨0, ![]⟩
abbrev S325x128 : Shape := ⟨2, ![325, 128]⟩
abbrev S128 : Shape := ⟨1, ![128]⟩
abbrev S325x64 : Shape := ⟨2, ![325, 64]⟩
abbrev S64 : Shape := ⟨1, ![64]⟩
abbrev S640x128 : Shape := ⟨2, ![640, 128]⟩
abbrev S640x64 : Shape := ⟨2, ![640, 64]⟩
abbrev S64x1 : Shape := ⟨2, ![64, 1]⟩
abbrev S1 : Shape := ⟨1, ![1]⟩
abbrev S3960 : Shape := ⟨1, ![3960]⟩
abbrev S3960x1 : Shape := ⟨2, ![3960, 1]⟩
abbrev S4x253440 : Shape := ⟨2, ![4, 253440]⟩
abbrev S4x3960x1 : Shape := ⟨3, ![4, 3960, 1]⟩
abbrev S4x3960x64 : Shape := ⟨3, ![4, 3960, 64]⟩
abbrev S4x3960x65 : Shape := ⟨3, ![4, 3960, 65]⟩
abbrev S4x65x3960 : Shape := ⟨3, ![4, 65, 3960]⟩
abbrev S4x3960x325 : Shape := ⟨3, ![4, 3960, 325]⟩
abbrev S4x3960x128 : Shape := ⟨3, ![4, 3960, 128]⟩
abbrev S1x1x128 : Shape := ⟨3, ![1, 1, 128]⟩
abbrev S1x1x64 : Shape := ⟨3, ![1, 1, 64]⟩
abbrev S4x128x3960 : Shape := ⟨3, ![4, 128, 3960]⟩
abbrev S4x3960x640 : Shape := ⟨3, ![4, 3960, 640]⟩
abbrev S15840x64 : Shape := ⟨2, ![15840, 64]⟩
abbrev S15840x1 : Shape := ⟨2, ![15840, 1]⟩
abbrev S1x1 : Shape := ⟨2, ![1, 1]⟩
abbrev S1x4x253440 : Shape := ⟨3, ![1, 4, 253440]⟩
abbrev S2x4x253440 : Shape := ⟨3, ![2, 4, 253440]⟩

abbrev nBuf : Space → Nat
  | .hbm => 185
  | .vmem => 0
  | .smem => 0
  | _ => 0

abbrev hbmTy0_0 (i : Nat) : BufTy := match i % 128 with
  | 0 => ⟨S4x3960, .f32⟩
  | 1 => ⟨S3960x3960, .f32⟩
  | 2 => ⟨S_, .i32⟩
  | 3 => ⟨S325x128, .f32⟩
  | 4 => ⟨S128, .f32⟩
  | 5 => ⟨S325x64, .f32⟩
  | 6 => ⟨S64, .f32⟩
  | 7 => ⟨S640x128, .f32⟩
  | 8 => ⟨S128, .f32⟩
  | 9 => ⟨S640x64, .f32⟩
  | 10 => ⟨S64, .f32⟩
  | 11 => ⟨S64x1, .f32⟩
  | 12 => ⟨S1, .f32⟩
  | 13 => ⟨S_, .f32⟩
  | 14 => ⟨S3960, .f32⟩
  | 15 => ⟨S_, .f32⟩
  | 16 => ⟨S3960, .f32⟩
  | 17 => ⟨S3960, .i1⟩
  | 18 => ⟨S_, .f32⟩
  | 19 => ⟨S3960, .f32⟩
  | 20 => ⟨S3960, .f32⟩
  | 21 => ⟨S_, .f32⟩
  | 22 => ⟨S_, .f32⟩
  | 23 => ⟨S3960, .f32⟩
  | 24 => ⟨S3960, .f32⟩
  | 25 => ⟨S3960x1, .f32⟩
  | 26 => ⟨S3960x3960, .f32⟩
  | 27 => ⟨S3960x3960, .f32⟩
  | 28 => ⟨S3960x3960, .f32⟩
  | 29 => ⟨S_, .f32⟩
  | 30 => ⟨S3960, .f32⟩
  | 31 => ⟨S_, .f32⟩
  | 32 => ⟨S3960, .f32⟩
  | 33 => ⟨S3960, .i1⟩
  | 34 => ⟨S_, .f32⟩
  | 35 => ⟨S3960, .f32⟩
  | 36 => ⟨S3960, .f32⟩
  | 37 => ⟨S_, .f32⟩
  | 38 => ⟨S_, .f32⟩
  | 39 => ⟨S3960, .f32⟩
  | 40 => ⟨S3960, .f32⟩
  | 41 => ⟨S3960x1, .f32⟩
  | 42 => ⟨S3960x3960, .f32⟩
  | 43 => ⟨S3960x3960, .f32⟩
  | 44 => ⟨S_, .f32⟩
  | 45 => ⟨S4x253440, .f32⟩
  | 46 => ⟨S4x3960x1, .f32⟩
  | 47 => ⟨S4x3960x64, .f32⟩
  | 48 => ⟨S4x3960x65, .f32⟩
  | 49 => ⟨S4x65x3960, .f32⟩
  | 50 => ⟨S4x3960x65, .f32⟩
  | 51 => ⟨S4x65x3960, .f32⟩
  | 52 => ⟨S4x3960x65, .f32⟩
  | 53 => ⟨S_, .f32⟩
  | 54 => ⟨S4x3960x65, .f32⟩
  | 55 => ⟨S4x3960x65, .f32⟩
  | 56 => ⟨S4x3960x65, .f32⟩
  | 57 => ⟨S4x65x3960, .f32⟩
  | 58 => ⟨S4x3960x65, .f32⟩
  | 59 => ⟨S4x65x3960, .f32⟩
  | 60 => ⟨S4x3960x65, .f32⟩
  | 61 => ⟨S_, .f32⟩
  | 62 => ⟨S4x3960x65, .f32⟩
  | 63 => ⟨S4x3960x65, .f32⟩
  | 64 => ⟨S4x3960x65, .f32⟩
  | 65 => ⟨S4x3960x325, .f32⟩
  | 66 => ⟨S4x3960x128, .f32⟩
  | 67 => ⟨S1x1x128, .f32⟩
  | 68 => ⟨S4x3960x128, .f32⟩
  | 69 => ⟨S4x3960x128, .f32⟩
  | 70 => ⟨S4x3960x128, .f32⟩
  | 71 => ⟨S4x3960x128, .f32⟩
  | 72 => ⟨S_, .f32⟩
  | 73 => ⟨S4x3960x128, .f32⟩
  | 74 => ⟨S4x3960x128, .f32⟩
  | 75 => ⟨S_, .f32⟩
  | 76 => ⟨S4x3960x128, .f32⟩
  | 77 => ⟨S4x3960x128, .f32⟩
  | 78 => ⟨S4x3960x64, .f32⟩
  | 79 => ⟨S4x3960x64, .f32⟩
  | 80 => ⟨S4x3960x64, .f32⟩
  | 81 => ⟨S4x3960x65, .f32⟩
  | 82 => ⟨S4x65x3960, .f32⟩
  | 83 => ⟨S4x3960x65, .f32⟩
  | 84 => ⟨S4x65x3960, .f32⟩
  | 85 => ⟨S4x3960x65, .f32⟩
  | 86 => ⟨S_, .f32⟩
  | 87 => ⟨S4x3960x65, .f32⟩
  | 88 => ⟨S4x3960x65, .f32⟩
  | 89 => ⟨S4x3960x65, .f32⟩
  | 90 => ⟨S4x65x3960, .f32⟩
  | 91 => ⟨S4x3960x65, .f32⟩
  | 92 => ⟨S4x65x3960, .f32⟩
  | 93 => ⟨S4x3960x65, .f32⟩
  | 94 => ⟨S_, .f32⟩
  | 95 => ⟨S4x3960x65, .f32⟩
  | 96 => ⟨S4x3960x65, .f32⟩
  | 97 => ⟨S4x3960x65, .f32⟩
  | 98 => ⟨S4x3960x325, .f32⟩
  | 99 => ⟨S4x3960x64, .f32⟩
  | 100 => ⟨S1x1x64, .f32⟩
  | 101 => ⟨S4x3960x64, .f32⟩
  | 102 => ⟨S4x3960x64, .f32⟩
  | 103 => ⟨S4x3960x64, .f32⟩
  | 104 => ⟨S4x3960x64, .f32⟩
  | 105 => ⟨S_, .f32⟩
  | 106 => ⟨S4x3960x64, .f32⟩
  | 107 => ⟨S4x3960x64, .f32⟩
  | 108 => ⟨S4x3960x64, .f32⟩
  | 109 => ⟨S4x3960x64, .f32⟩
  | 110 => ⟨S4x253440, .f32⟩
  | 111 => ⟨S4x3960x64, .f32⟩
  | 112 => ⟨S4x3960x64, .f32⟩
  | 113 => ⟨S4x3960x128, .f32⟩
  | 114 => ⟨S4x128x3960, .f32⟩
  | 115 => ⟨S4x3960x128, .f32⟩
  | 116 => ⟨S4x128x3960, .f32⟩
  | 117 => ⟨S4x3960x128, .f32⟩
  | 118 => ⟨S_, .f32⟩
  | 119 => ⟨S4x3960x128, .f32⟩
  | 120 => ⟨S4x3960x128, .f32⟩
  | 121 => ⟨S4x3960x128, .f32⟩
  | 122 => ⟨S4x128x3960, .f32⟩
  | 123 => ⟨S4x3960x128, .f32⟩
  | 124 => ⟨S4x128x3960, .f32⟩
  | 125 => ⟨S4x3960x128, .f32⟩
  | 126 => ⟨S_, .f32⟩
  | 127 => ⟨S4x3960x128, .f32⟩
  | _ => ⟨S4x3960, .f32⟩

abbrev hbmTy0_1 (i : Nat) : BufTy := match i % 128 with
  | 0 => ⟨S4x3960x128, .f32⟩
  | 1 => ⟨S4x3960x128, .f32⟩
  | 2 => ⟨S4x3960x640, .f32⟩
  | 3 => ⟨S4x3960x128, .f32⟩
  | 4 => ⟨S1x1x128, .f32⟩
  | 5 => ⟨S4x3960x128, .f32⟩
  | 6 => ⟨S4x3960x128, .f32⟩
  | 7 => ⟨S4x3960x128, .f32⟩
  | 8 => ⟨S4x3960x128, .f32⟩
  | 9 => ⟨S_, .f32⟩
  | 10 => ⟨S4x3960x128, .f32⟩
  | 11 => ⟨S4x3960x128, .f32⟩
  | 12 => ⟨S_, .f32⟩
  | 13 => ⟨S4x3960x128, .f32⟩
  | 14 => ⟨S4x3960x128, .f32⟩
  | 15 => ⟨S4x3960x64, .f32⟩
  | 16 => ⟨S4x3960x64, .f32⟩
  | 17 => ⟨S4x3960x64, .f32⟩
  | 18 => ⟨S4x3960x128, .f32⟩
  | 19 => ⟨S4x128x3960, .f32⟩
  | 20 => ⟨S4x3960x128, .f32⟩
  | 21 => ⟨S4x128x3960, .f32⟩
  | 22 => ⟨S4x3960x128, .f32⟩
  | 23 => ⟨S_, .f32⟩
  | 24 => ⟨S4x3960x128, .f32⟩
  | 25 => ⟨S4x3960x128, .f32⟩
  | 26 => ⟨S4x3960x128, .f32⟩
  | 27 => ⟨S4x128x3960, .f32⟩
  | 28 => ⟨S4x3960x128, .f32⟩
  | 29 => ⟨S4x128x3960, .f32⟩
  | 30 => ⟨S4x3960x128, .f32⟩
  | 31 => ⟨S_, .f32⟩
  | 32 => ⟨S4x3960x128, .f32⟩
  | 33 => ⟨S4x3960x128, .f32⟩
  | 34 => ⟨S4x3960x128, .f32⟩
  | 35 => ⟨S4x3960x640, .f32⟩
  | 36 => ⟨S4x3960x64, .f32⟩
  | 37 => ⟨S1x1x64, .f32⟩
  | 38 => ⟨S4x3960x64, .f32⟩
  | 39 => ⟨S4x3960x64, .f32⟩
  | 40 => ⟨S4x3960x64, .f32⟩
  | 41 => ⟨S4x3960x64, .f32⟩
  | 42 => ⟨S_, .f32⟩
  | 43 => ⟨S4x3960x64, .f32⟩
  | 44 => ⟨S4x3960x64, .f32⟩
  | 45 => ⟨S4x3960x64, .f32⟩
  | 46 => ⟨S4x3960x64, .f32⟩
  | 47 => ⟨S4x253440, .f32⟩
  | 48 => ⟨S15840x64, .f32⟩
  | 49 => ⟨S15840x1, .f32⟩
  | 50 => ⟨S1x1, .f32⟩
  | 51 => ⟨S15840x1, .f32⟩
  | 52 => ⟨S15840x1, .f32⟩
  | 53 => ⟨S4x3960, .f32⟩
  | 54 => ⟨S1x4x253440, .f32⟩
  | 55 => ⟨S1x4x253440, .f32⟩
  | 56 => ⟨S2x4x253440, .f32⟩
  | _ => ⟨S4x3960, .f32⟩

abbrev hbmTy (i : Nat) : BufTy := match i / 128 with
  | 0 => hbmTy0_0 i
  | 1 => hbmTy0_1 i
  | _ => ⟨S4x3960, .f32⟩

abbrev bufTy : (tb : Table) → Fin (tcTables nBuf tb) → BufTy
  | .hbm, ⟨i, _⟩ => hbmTy i
  | _, _ => ⟨S4x3960, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_cst_0 : Ref sig .tc := ⟨.hbm, 15, rfl⟩
abbrev main_v1 : Ref sig .tc := ⟨.hbm, 16, rfl⟩
abbrev main_v2 : Ref sig .tc := ⟨.hbm, 17, rfl⟩
abbrev main_cst_1 : Ref sig .tc := ⟨.hbm, 18, rfl⟩
abbrev main_v3 : Ref sig .tc := ⟨.hbm, 19, rfl⟩
abbrev main_v4 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_cst_3 : Ref sig .tc := ⟨.hbm, 29, rfl⟩
abbrev main_v10 : Ref sig .tc := ⟨.hbm, 30, rfl⟩
abbrev main_cst_4 : Ref sig .tc := ⟨.hbm, 31, rfl⟩
abbrev main_v11 : Ref sig .tc := ⟨.hbm, 32, rfl⟩
abbrev main_v12 : Ref sig .tc := ⟨.hbm, 33, rfl⟩
abbrev main_cst_5 : Ref sig .tc := ⟨.hbm, 34, rfl⟩
abbrev main_v13 : Ref sig .tc := ⟨.hbm, 35, rfl⟩
abbrev main_v14 : Ref sig .tc := ⟨.hbm, 36, rfl⟩
abbrev main_cst_6 : Ref sig .tc := ⟨.hbm, 37, rfl⟩
abbrev main_call1_v0 : Ref sig .tc := ⟨.hbm, 38, rfl⟩
abbrev main_call1_v1 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_cst_7 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_cst_8 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_cst_9 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_cst_10 : Ref sig .tc := ⟨.hbm, 72, rfl⟩
abbrev main_v44 : Ref sig .tc := ⟨.hbm, 73, rfl⟩
abbrev main_v45 : Ref sig .tc := ⟨.hbm, 74, rfl⟩
abbrev main_cst_11 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_cst_12 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_cst_13 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_cst_14 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_15 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_cst_16 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_cst_17 : Ref sig .tc := ⟨.hbm, 137, rfl⟩
abbrev main_v102 : Ref sig .tc := ⟨.hbm, 138, rfl⟩
abbrev main_v103 : Ref sig .tc := ⟨.hbm, 139, rfl⟩
abbrev main_cst_18 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_cst_19 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_cst_20 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_cst_21 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩
abbrev main_v138 : Ref sig .tc := ⟨.hbm, 178, rfl⟩
abbrev main_v139 : Ref sig .tc := ⟨.hbm, 179, rfl⟩
abbrev main_v140 : Ref sig .tc := ⟨.hbm, 180, rfl⟩
abbrev main_v141 : Ref sig .tc := ⟨.hbm, 181, rfl⟩
abbrev main_v142 : Ref sig .tc := ⟨.hbm, 182, rfl⟩
abbrev main_v143 : Ref sig .tc := ⟨.hbm, 183, rfl⟩
abbrev main_v144 : Ref sig .tc := ⟨.hbm, 184, rfl⟩

abbrev nD : Nat := 1
abbrev τ : Topo := Topo.v7x

variable {F : FTy → Type} [FloatOps F]
-- ==== Proof.Run.Base.lean ====
/- Lemmas used by every pallas_call's proof: what a window's buffer holds before and after the body, and running sums. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Value
public import Idealize.ShloMosaic.Lib.Pipeline.TableIdle
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-- A running value over a grid: the first point starts it, every later point changes what the point before left. -/
def acc {N : ℕ} {α : Type} (first : Fin N → α) (next : Fin N → α → α) : (n : ℕ) → n < N → α
  | 0, h => first ⟨0, h⟩
  | n + 1, h => next ⟨n + 1, h⟩ (acc first next n (Nat.lt_of_succ_lt h))

/-- At the first point it is what that point starts. -/
theorem acc_first {N : ℕ} {α : Type} (first : Fin N → α) (next : Fin N → α → α) (t : Fin N) (h : t.val = 0) :
    acc first next t.val t.isLt = first t := by
  obtain ⟨n, hn⟩ := t
  cases n with
  | zero => rfl
  | succ n => exact absurd h (Nat.succ_ne_zero n)

/-- At a later point it is that point's change of what the point before left. -/
theorem acc_next {N : ℕ} {α : Type} (first : Fin N → α) (next : Fin N → α → α) (t : Fin N) (h : t.val ≠ 0) :
    acc first next t.val t.isLt = next t (acc first next (t.val - 1) (Nat.lt_of_le_of_lt (Nat.sub_le _ _) t.isLt)) := by
  obtain ⟨n, hn⟩ := t
  cases n with
  | zero => exact absurd rfl h
  | succ n => rfl

/-- A window live at a point is left, whole, at what the proof data says. -/
theorem leaves_live {cfg : Cfg sig Λ₀} {c : Dev nD} (dat : Dat τ (Elt F) Unit ℕ (UR sig nD τ) ℕ cfg c) (w : Fin cfg.W)
    (t : Fin cfg.N) (h : cfg.idle w (cfg.grid.coords t) = false) :
    dat.leavesExact w t = owns (c : Thread nD τ) ((cfg.win w).stage (cfg.slots t w)) fullShare (dat.after w t) := by
  unfold Dat.leavesExact; rw [h]

/-- An output live at every point and written back only after the last one holds, at a later point, what the point before left. -/
theorem before_carried {cfg : Cfg sig Λ₀} {c : Dev nD} (dat : Dat τ (Elt F) Unit ℕ (UR sig nD τ) ℕ cfg c) (w : Fin cfg.W)
    (hw : (cfg.win w).isOut = true) (hclip : ∀ (i : cfg.grid.Coords) a, (cfg.win w).clip i a = none)
    (hlive : ∀ t : Fin cfg.N, cfg.idle w (cfg.grid.coords t) = false)
    (hlast : ∀ t : Fin cfg.N, t.val + 1 < cfg.N → (cfg.win w).flush t = false)
    (t : Fin cfg.N) (ht : t.val ≠ 0) (d) :
    dat.before w t d = dat.after w ⟨t.val - 1, by omega⟩ := by
  rw [dat.before_out_traj w hw hclip (fun t _ hi => absurd ((hlive t).symm.trans hi) Bool.false_ne_true) t.val t rfl d, if_neg]
  obtain ⟨n, hn⟩ := t
  cases n with
  | zero => exact absurd rfl ht
  | succ n =>
    show ¬ cfg.fresh w (n + 1) = true
    rw [cfg.fresh_succ w n (Nat.lt_of_succ_lt hn), hlast ⟨n, _⟩ hn, hlive]
    exact Bool.false_ne_true

end Cert.KernelIdeal.Run

end
-- ==== Proof.Run.Hosts.lean ====
/- The host stretches: what each writes, and that none writes an argument. -/
module

public import proofs.«01_k».proof.Proof.Run.Base

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- @main's argument arrays, as TensorCore references: what the frame claim reads back. -/
abbrev argRefs : List (Ref sig .tc) := [main_arg0, main_arg1, main_arg2, main_arg3, main_arg4, main_arg5, main_arg6, main_arg7, main_arg8, main_arg9, main_arg10, main_arg11, main_arg12]

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0]
/-- What the stretch hostOps0 writes. -/
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps0_1` allocates a buffer. -/
theorem hostOps0_1_fresh : (hostOps0_1 : List (HloOp τ sig (Elt F))).Forall fun op => op.fresh = ∅ := by
  simp only [List.Forall]; repeat' constructor
/-- The reference each operation of `hostOps0_1` writes, in order. -/
abbrev hostOps0_1_W : List (Ref sig .tc) := [main_call0_v0, main_call0_v1, main_call0_c, main_call0_v2, main_call0_v3, main_call0_c_0, main_call0_v4, main_call0_v5, main_call0_c_1, main_call0_v6, main_call0_v7, main_call0_v8, main_call0_v9, main_call0_v10, main_call0_v11, main_call0_v12, main_call0_c_2, main_call0_v13, main_call0_v14, main_call0_c_3, main_call0_v15, main_call0_v16, main_call0_v17, main_call0_v18, main_call0_v19, main_call0_v20, main_call0_v21, main_call0_v22, main_call0_c_4, main_call0_v23, main_call0_v24, main_call0_v25, main_call0_v26, main_call0_v27, main_call0_v28, main_call0_v29, main_call0_v30, main_call0_c_5, main_call0_v31, main_call0_v32, main_call0_c_6, main_call0_v33, main_call0_v34, main_call0_v35, main_call0_v36, main_call0_v37, main_call0_v38, main_call0_v39, main_call0_c_7, main_call0_v40, main_call0_v41, main_call0_c_8, main_call0_v42, main_call0_v43, main_call0_v44, main_call0_v45, main_call0_v46, main_call0_v47, main_call0_v48, main_call0_v49, main_call0_v50, main_call0_v51, main_call0_v52, main_call0_v53, main_call0_v54, main_call0_v55, main_call0_v56]
/-- What the stretch hostOps0_1 writes. -/
theorem hostOps0_1_writes : (hostOps0_1 : List (HloOp τ sig (Elt F))).Forall fun op => op.writes ⊆ (hostOps0_1_W.map (Proc.devRef (τ := τ) .tc)).toFinset :=
  StableHlo.forall_writes_sub_of_map rfl
/-- `hostOps0_1` writes none of the argument arrays (checked: each argument against each reference it writes). -/
theorem hostOps0_1_args : ∀ a ∈ argRefs, a ∉ hostOps0_1_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_call0_cst, main_call0_v58, main_call0_v59, main_call0_cst_9, main_call0_v60, main_call0_v61, main_call0_cst_10, main_call0_call0_v0, main_call0_call0_v1, main_call0_v62, main_call0_v63]
/-- What the stretch hostOps1 writes. -/
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-- No operation of `hostOps6` allocates a buffer. -/
theorem hostOps6_fresh : (hostOps6 : List (HloOp τ sig (Elt F))).Forall fun op => op.fresh = ∅ := by
  simp only [List.Forall]; repeat' constructor
/-- The reference each operation of `hostOps6` writes, in order. -/
abbrev hostOps6_W : List (Ref sig .tc) := [main_v1_0, main_v1_1]
/-- What the stretch hostOps6 writes. -/
theorem hostOps6_writes : (hostOps6 : List (HloOp τ sig (Elt F))).Forall fun op => op.writes ⊆ (hostOps6_W.map (Proc.devRef (τ := τ) .tc)).toFinset :=
  StableHlo.forall_writes_sub_of_map rfl
/-- `hostOps6` writes none of the argument arrays (checked: each argument against each reference it writes). -/
theorem hostOps6_args : ∀ a ∈ argRefs, a ∉ hostOps6_W := ListAll.forall_mem_of_all_decide (by decide +kernel)

end Cert.KernelIdeal.Run

end
-- ==== Proof.Run.Region0.lean ====
/- The first pallas_call: what its body leaves at each grid point, and its obligation. -/
module

public import proofs.«01_k».proof.Proof.Run.Base

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

section Body
variable (c : Dev nD) (i : grid0.Coords)
  (arg1 : Memref sig .tc .vmem S792x3960 .f32) (harg1 : arg1.IsWhole) (arg2 : Memref sig .tc .vmem S3960x4 .bf16) (harg2 : arg2.IsWhole)
  (arg3 : Memref sig .tc .vmem S792x4 .f32) (harg3 : arg3.IsWhole) (arg4 : Memref sig .tc .vmem S792x4 .bf16) (harg4 : arg4.IsWhole)
  (arg5 : Memref sig .tc .vmem S1x3960 .f32) (harg5 : arg5.IsWhole) (arg6 : Memref sig .tc .vmem S3960x4 .f32) (harg6 : arg6.IsWhole)
  (x0 : Vec F S792x3960 .f32) (x1 : Vec F S3960x4 .bf16) (x2 : Vec F S792x4 .f32) (x4 : Vec F S1x3960 .f32) (x5 : Vec F S3960x4 .f32)

/-- What the body holds when it ends: its inputs as they were, its outputs at the given contents. -/
def post0 (y3 : Vec F S792x4 .bf16) (y4 : Vec F S1x3960 .f32) (y5 : Vec F S3960x4 .f32) : sProp 𝕄 :=
  iprop(owns (c : Thread nD τ) arg1 fullShare x0 ∗ owns (c : Thread nD τ) arg2 fullShare x1 ∗ owns (c : Thread nD τ) arg3 fullShare x2
    ∗ owns (c : Thread nD τ) arg4 fullShare y3 ∗ owns (c : Thread nD τ) arg5 fullShare y4 ∗ owns (c : Thread nD τ) arg6 fullShare y5)

set_option maxHeartbeats 1000000 in
/-- At the grid's first point the body stores its outputs afresh: the row-normalised product, the column sums and
    the transposed product of its block. -/
theorem body0_first (hc0 : k0_cond1 i = 1#1) (hc1 : ¬ k0_cond2 i = 1#1) (E : Set ℕ) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d)
        ∗ (post0 c arg1 arg2 arg3 arg4 arg5 arg6 x0 x1 x2 (k0_pay1 x0 x1) (k0_pay2 x0) (k0_pay3 x0 x2) -∗ K ⟨⟩))
      ⊢ wp frame (wpE (defs₀ (F := F)) Variants.none c none) E (cc0__p1_body i arg1 harg1 arg2 harg2 arg3 harg3 arg4 harg4 arg5 harg5 arg6 harg6) K := by
  simp only [cc0__p1_body_eq_skeleton]; unfold cc0__p1_body_skel post0
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  sl_exec (disch := first | sl_exact hc0 | sl_exact hc1)
  sl_step
  iapply Hk
  isplitl [H0]
  · iexists _; isplitr
    · ipureintro; exact hf0
    iexact H0
  isplitl [H1]
  · iexists _; isplitr
    · ipureintro; exact hf1
    iexact H1
  isplitl [H2]
  · iexists _; isplitr
    · ipureintro; exact hf2
    iexact H2
  isplitl [H3]
  · iexists _; isplitr
    swap; · iexact H3
    ipureintro; rw [View.read_writes_full]; (repeat rw [View.readAt_full]); simp only [hf0, hf1, hf2]
  isplitl [H4]
  · iexists _; isplitr
    swap; · iexact H4
    ipureintro; rw [View.read_writes_full]; (repeat rw [View.readAt_full]); simp only [hf0, hf1, hf2]
  iexists _; isplitr
  swap; · iexact H5
  ipureintro; rw [View.read_writes_full]; (repeat rw [View.readAt_full]); simp only [hf0, hf1, hf2]

set_option maxHeartbeats 1000000 in
/-- At a later point it adds its block's column sums and transposed product to what the point before left. -/
theorem body0_later (hc0 : ¬ k0_cond1 i = 1#1) (hc1 : k0_cond2 i = 1#1) (E : Set ℕ) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ owns (c : Thread nD τ) arg5 fullShare x4 ∗ owns (c : Thread nD τ) arg6 fullShare x5
        ∗ (post0 c arg1 arg2 arg3 arg4 arg5 arg6 x0 x1 x2 (k0_pay1 x0 x1) (k0_pay4 x0 x4) (k0_pay5 x0 x2 x5) -∗ K ⟨⟩))
      ⊢ wp frame (wpE (defs₀ (F := F)) Variants.none c none) E (cc0__p1_body i arg1 harg1 arg2 harg2 arg3 harg3 arg4 harg4 arg5 harg5 arg6 harg6) K := by
  simp only [cc0__p1_body_eq_skeleton]; unfold cc0__p1_body_skel post0
  unfold owns
  iintro ⟨⟨%f0, %hf0, H0⟩, ⟨%f1, %hf1, H1⟩, ⟨%f2, %hf2, H2⟩, ⟨%d3, %f3, -, H3⟩, ⟨%f4, %hf4, H4⟩, ⟨%f5, %hf5, H5⟩, Hk⟩
  sl_exec (disch := first | sl_exact hc0 | sl_exact hc1)
  sl_step
  iapply Hk
  isplitl [H0]
  · iexists _; isplitr
    · ipureintro; exact hf0
    iexact H0
  isplitl [H1]
  · iexists _; isplitr
    · ipureintro; exact hf1
    iexact H1
  isplitl [H2]
  · iexists _; isplitr
    · ipureintro; exact hf2
    iexact H2
  isplitl [H3]
  · iexists _; isplitr
    swap; · iexact H3
    ipureintro; rw [View.read_writes_full]; (repeat rw [View.readAt_full]); simp only [hf0, hf1, hf2]
  isplitl [H4]
  · iexists _; isplitr
    swap; · iexact H4
    ipureintro; rw [View.read_writes_full]; (repeat rw [View.readAt_full]); simp only [hf0, hf1, hf2, hf4]
  iexists _; isplitr
  swap; · iexact H5
  ipureintro; rw [View.read_writes_full]; (repeat rw [View.readAt_full]); simp only [hf0, hf1, hf2, hf5]

end Body

/-- Window `w`'s block at point `t`, read off its array as the call finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The first branch is taken at the first point only. -/
theorem first0 (t : Fin cfg0.N) : k0_cond1 (grid0.coords t) = 1#1 ↔ t.val = 0 := by
  have ht : t.val < 5 := Nat.lt_of_lt_of_eq t.isLt N_0
  have e0 : (grid0.coords t 0).val = t.val / 1 % 5 := Pipeline.Grid.coords_val t 0 (by decide) rfl
  simp only [k0_cond1, e0]
  word_cmp

/-- The second branch is taken at every later point. -/
theorem later0 (t : Fin cfg0.N) : k0_cond2 (grid0.coords t) = 1#1 ↔ t.val ≠ 0 := by
  have ht : t.val < 5 := Nat.lt_of_lt_of_eq t.isLt N_0
  have e0 : (grid0.coords t 0).val = t.val / 1 % 5 := Pipeline.Grid.coords_val t 0 (by decide) rfl
  have h : k0_cond2 (grid0.coords t) = 1#1 ↔ 1 ≤ t.val := by
    simp only [k0_cond2, e0]
    word_cmp
  rw [h]; omega

/-- No window is idle at any point. -/
theorem live0 (w : Fin cfg0.W) : ∀ t : Fin cfg0.N, cfg0.idle w (cfg0.grid.coords t) = false := by
  revert w; decide +kernel

/-- The column sums accumulated up to a point. -/
def sums0 (c : Dev nD) : (n : ℕ) → n < cfg0.N → Vec F S1x3960 .f32 :=
  acc (fun t => k0_pay2 (blk0 V c 0 t)) (fun t x => k0_pay4 (blk0 V c 0 t) x)

/-- The transposed product accumulated up to a point. -/
def prod0 (c : Dev nD) : (n : ℕ) → n < cfg0.N → Vec F S3960x4 .f32 :=
  acc (fun t => k0_pay3 (blk0 V c 0 t) (blk0 V c 2 t)) (fun t x => k0_pay5 (blk0 V c 0 t) (blk0 V c 2 t) x)

/-- The call's proof data: the inputs' buffers keep their blocks, the outputs' hold what the body leaves. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => k0_pay1 (blk0 V c 0 t) (blk0 V c 1 t)
    | ⟨4, _⟩ => sums0 V c t.val t.isLt
    | ⟨5, _⟩ => prod0 V c t.val t.isLt
  Φ _ := Pipeline.ΦA spec0 c
  q _ := fullShare
  owed _ := 0

/-- The arrays as the call finds them. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = blk0 V c 0 t := by dsimp only [dat0]
/-- Operand 1 of pallas_call 0 after a step. -/
theorem after0_1 (c : Dev nD) (t : Fin cfg0.N) : (dat0 V c).after 1 t = blk0 V c 1 t := by dsimp only [dat0]
/-- Operand 2 of pallas_call 0 after a step. -/
theorem after0_2 (c : Dev nD) (t : Fin cfg0.N) : (dat0 V c).after 2 t = blk0 V c 2 t := by dsimp only [dat0]
/-- Operand 3 of pallas_call 0 after a step. -/
theorem after0_3 (c : Dev nD) (t : Fin cfg0.N) : (dat0 V c).after 3 t = k0_pay1 (blk0 V c 0 t) (blk0 V c 1 t) := by dsimp only [dat0]
/-- Operand 4 of pallas_call 0 after a step. -/
theorem after0_4 (c : Dev nD) (t : Fin cfg0.N) : (dat0 V c).after 4 t = sums0 V c t.val t.isLt := by dsimp only [dat0]
/-- Operand 5 of pallas_call 0 after a step. -/
theorem after0_5 (c : Dev nD) (t : Fin cfg0.N) : (dat0 V c).after 5 t = prod0 V c t.val t.isLt := by dsimp only [dat0]

/-- An input's buffer holds its block at every point, fetched there or not. -/
theorem before0_0 (c : Dev nD) (t : Fin cfg0.N) (d) : (dat0 V c).before 0 t d = blk0 V c 0 t :=
  ((dat0 V c).before_in_eq_fetched 0 rfl (fun _ => rfl) (fun _ _ _ => rfl) (fun t => by rw [after0_0]; unfold Dat.blockOf blk0; rw [A_eq0]) t d).trans
    (by unfold Dat.fetched Dat.blockOf blk0; rw [A_eq0]; rfl)
/-- Operand 1 of pallas_call 0 before a step. -/
theorem before0_1 (c : Dev nD) (t : Fin cfg0.N) (d) : (dat0 V c).before 1 t d = blk0 V c 1 t :=
  ((dat0 V c).before_in_eq_fetched 1 rfl (fun _ => rfl) (fun _ _ _ => rfl) (fun t => by rw [after0_1]; unfold Dat.blockOf blk0; rw [A_eq0]) t d).trans
    (by unfold Dat.fetched Dat.blockOf blk0; rw [A_eq0]; rfl)
/-- Operand 2 of pallas_call 0 before a step. -/
theorem before0_2 (c : Dev nD) (t : Fin cfg0.N) (d) : (dat0 V c).before 2 t d = blk0 V c 2 t :=
  ((dat0 V c).before_in_eq_fetched 2 rfl (fun _ => rfl) (fun _ _ _ => rfl) (fun t => by rw [after0_2]; unfold Dat.blockOf blk0; rw [A_eq0]) t d).trans
    (by unfold Dat.fetched Dat.blockOf blk0; rw [A_eq0]; rfl)

/-- An accumulated output's buffer holds, at a later point, what the point before left. -/
theorem before0_4 (c : Dev nD) (t : Fin cfg0.N) (ht : t.val ≠ 0) (d) :
    (dat0 V c).before 4 t d = sums0 V c (t.val - 1) (Nat.lt_of_le_of_lt (Nat.sub_le _ _) t.isLt) := by
  rw [before_carried (dat0 V c) 4 rfl (fun _ _ => rfl) (live0 4) (by decide +kernel) t ht d]
  dsimp only [dat0]
/-- Operand 5 of pallas_call 0 before a step. -/
theorem before0_5 (c : Dev nD) (t : Fin cfg0.N) (ht : t.val ≠ 0) (d) :
    (dat0 V c).before 5 t d = prod0 V c (t.val - 1) (Nat.lt_of_le_of_lt (Nat.sub_le _ _) t.isLt) := by
  rw [before_carried (dat0 V c) 5 rfl (fun _ _ => rfl) (live0 5) (by decide +kernel) t ht d]
  dsimp only [dat0]

/-- Window `w`'s staging buffer at point `t`. -/
abbrev stg0 (t : Fin cfg0.N) (w : Fin cfg0.W) := (cfg0.win w).stage (cfg0.slots t w)

set_option maxHeartbeats 1000000 in
/-- The body at any point, from what its windows' buffers hold before it to what they hold after. -/
theorem sound_body0 (c : Dev nD) (t : Fin cfg0.N) :
    iprop((dat0 V c).Φ t.castSucc ∗ (dat0 V c).owesAt () t.castSucc
      ∗ (∃ d, owns (c : Thread nD τ) (stg0 t 0) fullShare ((dat0 V c).before 0 t d)) ∗ (∃ d, owns (c : Thread nD τ) (stg0 t 1) fullShare ((dat0 V c).before 1 t d))
      ∗ (∃ d, owns (c : Thread nD τ) (stg0 t 2) fullShare ((dat0 V c).before 2 t d)) ∗ (∃ d, owns (c : Thread nD τ) (stg0 t 3) fullShare ((dat0 V c).before 3 t d))
      ∗ (∃ d, owns (c : Thread nD τ) (stg0 t 4) fullShare ((dat0 V c).before 4 t d)) ∗ (∃ d, owns (c : Thread nD τ) (stg0 t 5) fullShare ((dat0 V c).before 5 t d)))
    ⊢ wp frame (wpE (defs₀ (F := F)) Variants.none c none) Set.univ (bodyAt0 t) (fun _ =>
      iprop((dat0 V c).Φ t.succ ∗ (dat0 V c).owesAt () t.succ
        ∗ (dat0 V c).leavesExact 0 t ∗ (dat0 V c).leavesExact 1 t ∗ (dat0 V c).leavesExact 2 t
        ∗ (dat0 V c).leavesExact 3 t ∗ (dat0 V c).leavesExact 4 t ∗ (dat0 V c).leavesExact 5 t)) := by
  unfold bodyAt0
  simp only [before0_0, before0_1, before0_2]
  rw [leaves_live _ 0 t (live0 0 t), leaves_live _ 1 t (live0 1 t), leaves_live _ 2 t (live0 2 t),
    leaves_live _ 3 t (live0 3 t), leaves_live _ 4 t (live0 4 t), leaves_live _ 5 t (live0 5 t),
    after0_0, after0_1, after0_2, after0_3, after0_4, after0_5,
    show (dat0 V c).Φ t.succ = (dat0 V c).Φ t.castSucc from rfl,
    show (dat0 V c).owesAt () t.succ = (dat0 V c).owesAt () t.castSucc from rfl]
  by_cases h0 : t.val = 0
  · rw [show sums0 V c t.val t.isLt = k0_pay2 (blk0 V c 0 t) from acc_first _ _ t h0,
      show prod0 V c t.val t.isLt = k0_pay3 (blk0 V c 0 t) (blk0 V c 2 t) from acc_first _ _ t h0]
    iintro ⟨HΦ, Ho, ⟨%d0, H0⟩, ⟨%d1, H1⟩, ⟨%d2, H2⟩, ⟨%d3, H3⟩, ⟨%d4, H4⟩, ⟨%d5, H5⟩⟩
    iapply (body0_first c (grid0.coords t) _ _ _ _ _ _ _ _ _ _ _ _ (blk0 V c 0 t) (blk0 V c 1 t) (blk0 V c 2 t)
      ((first0 t).mpr h0) (fun h => (later0 t).mp h h0) Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    unfold post0
    iintro H
    isplitl [HΦ]; · iexact HΦ
    isplitl [Ho]; · iexact Ho
    iexact H
  · rw [show sums0 V c t.val t.isLt = k0_pay4 (blk0 V c 0 t) _ from acc_next _ _ t h0,
      show prod0 V c t.val t.isLt = k0_pay5 (blk0 V c 0 t) (blk0 V c 2 t) _ from acc_next _ _ t h0]
    simp only [before0_4 V c t h0, before0_5 V c t h0]
    iintro ⟨HΦ, Ho, ⟨%d0, H0⟩, ⟨%d1, H1⟩, ⟨%d2, H2⟩, ⟨%d3, H3⟩, ⟨%d4, H4⟩, ⟨%d5, H5⟩⟩
    iapply (body0_later c (grid0.coords t) _ _ _ _ _ _ _ _ _ _ _ _ (blk0 V c 0 t) (blk0 V c 1 t) (blk0 V c 2 t) _ _
      (fun h => h0 ((first0 t).mp h)) ((later0 t).mpr h0) Set.univ _)
    isplitl [H0]; · iexact H0
    isplitl [H1]; · iexact H1
    isplitl [H2]; · iexact H2
    isplitl [H3]; · iexists _; iexact H3
    isplitl [H4]; · iexact H4
    isplitl [H5]; · iexact H5
    unfold post0
    iintro H
    isplitl [HΦ]; · iexact HΦ
    isplitl [Ho]; · iexact Ho
    iexact H

/-- The call's body obligation, at every point. -/
theorem obligation0 (c : Dev nD) : BodyObligation (dat0 (F := F) V c) (defs₀ (F := F)) Variants.none () Set.univ := fun t => by
  rw [bigSep_W0, bigSep_W0, show defs₀ (F := F) .tc cfg0.body (cfg0.bodyArgs t (cfg0.slots t)) = bodyAt0 t from by
    unfold defs₀; rw [Defs.onTc_tc]]
  exact triple_restated (sound_body0 V c t) rfl .rfl fun _ => .rfl

end Cert.KernelIdeal.Run

end
-- ==== Proof.Run.Region1.lean ====
/- The second pallas_call: what its body leaves at each grid point, and its obligation. -/
module

public import proofs.«01_k».proof.Proof.Run.Base

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

section Body
variable (c : Dev nD) (i : grid1.Coords)
  (arg1 : Memref sig .tc .vmem S792x3960 .f32) (harg1 : arg1.IsWhole)
  (arg2 : Memref sig .tc .vmem S1x3960 .f32) (harg2 : arg2.IsWhole)
  (arg3 : Memref sig .tc .vmem S792x1 .f32) (harg3 : arg3.IsWhole)
  (arg4 : Memref sig .tc .vmem S3960x4 .bf16) (harg4 : arg4.IsWhole)
  (arg5 : Memref sig .tc .vmem S792x4 .f32) (harg5 : arg5.IsWhole)
  (arg6 : Memref sig .tc .vmem S792x4 .f32) (harg6 : arg6.IsWhole)
  (arg7 : Memref sig .tc .vmem S792x4 .bf16) (harg7 : arg7.IsWhole)
  (arg8 : Memref sig .tc .vmem S3960x4 .f32) (harg8 : arg8.IsWhole)
  (x0 : Vec F S792x3960 .f32) (x1 : Vec F S1x3960 .f32) (x2 : Vec F S792x1 .f32) (x3 : Vec F S3960x4 .bf16) (x4 : Vec F S792x4 .f32) (x5 : Vec F S792x4 .f32) (xa : Vec F S3960x4 .f32)

/-- What the body holds when it ends: its inputs as they were, its outputs at the given contents. -/
def post1 (ys : Vec F S792x4 .bf16) (ya : Vec F S3960x4 .f32) : sProp 𝕄 :=
  iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
    ∗ owns (c : Thread nD τ) arg7 fullShare ys ∗ owns (c : Thread nD τ) arg8 fullShare ya)

set_option maxHeartbeats 1000000 in
/-- At the grid's first point the body stores the layer's second forward term of its rows and starts the transposed product. -/
theorem body1_first (hc0 : k1_cond1 i = 1#1) (hc1 : ¬ k1_cond2 i = 1#1) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (post1 c arg1 arg2 arg3 arg4 arg5 arg6 arg7 arg8 x0 x1 x2 x3 x4 x5 (k1_pay2 x0 x3 x4) (k1_pay3 x0 x1 x2 x5) -∗ K ⟨⟩))
      ⊢ wp frame (wpE (defs₀ (F := F)) Variants.none c none) E (cc1__p2_body i arg1 harg1 arg2 harg2 arg3 harg3 arg4 harg4 arg5 harg5 arg6 harg6 arg7 harg7 arg8 harg8) K := by
  simp only [cc1__p2_body_eq_skeleton]; unfold cc1__p2_body_skel post1
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  sl_exec (disch := first | sl_exact hc0 | sl_exact hc1)
  sl_step
  iapply Hk
  isplitl [H0]
  · iexists _; isplitr
    · ipureintro; exact hf0
    iexact H0
  isplitl [H1]
  · iexists _; isplitr
    · ipureintro; exact hf1
    iexact H1
  isplitl [H2]
  · iexists _; isplitr
    · ipureintro; exact hf2
    iexact H2
  isplitl [H3]
  · iexists _; isplitr
    · ipureintro; exact hf3
    iexact H3
  isplitl [H4]
  · iexists _; isplitr
    · ipureintro; exact hf4
    iexact H4
  isplitl [H5]
  · iexists _; isplitr
    · ipureintro; exact hf5
    iexact H5
  isplitl [H6]
  · iexists _; isplitr
    swap; · iexact H6
    ipureintro; rw [View.read_writes_full]; (repeat rw [View.readAt_full]); simp only [hf0, hf1, hf2, hf3, hf4, hf5]
  iexists _; isplitr
  swap; · iexact H7
  ipureintro; rw [View.read_writes_full]; unfold body1_first.sl.r; (repeat rw [View.readAt_full]); simp only [hf0, hf1, hf2, hf3, hf4, hf5]

set_option maxHeartbeats 1000000 in
/-- At a later point it adds its block's transposed product to what the point before left. -/
theorem body1_later (hc0 : ¬ k1_cond1 i = 1#1) (hc1 : k1_cond2 i = 1#1) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d) ∗ owns (c : Thread nD τ) arg8 fullShare xa
        ∗ (post1 c arg1 arg2 arg3 arg4 arg5 arg6 arg7 arg8 x0 x1 x2 x3 x4 x5 (k1_pay2 x0 x3 x4) (k1_pay1 (k1_pay3 x0 x1 x2 x5) xa) -∗ K ⟨⟩))
      ⊢ wp frame (wpE (defs₀ (F := F)) Variants.none c none) E (cc1__p2_body i arg1 harg1 arg2 harg2 arg3 harg3 arg4 harg4 arg5 harg5 arg6 harg6 arg7 harg7 arg8 harg8) K := by
  simp only [cc1__p2_body_eq_skeleton]; unfold cc1__p2_body_skel post1
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, Hk⟩
  sl_exec (disch := first | sl_exact hc0 | sl_exact hc1)
  sl_step
  iapply Hk
  isplitl [H0]
  · iexists _; isplitr
    · ipureintro; exact hf0
    iexact H0
  isplitl [H1]
  · iexists _; isplitr
    · ipureintro; exact hf1
    iexact H1
  isplitl [H2]
  · iexists _; isplitr
    · ipureintro; exact hf2
    iexact H2
  isplitl [H3]
  · iexists _; isplitr
    · ipureintro; exact hf3
    iexact H3
  isplitl [H4]
  · iexists _; isplitr
    · ipureintro; exact hf4
    iexact H4
  isplitl [H5]
  · iexists _; isplitr
    · ipureintro; exact hf5
    iexact H5
  isplitl [H6]
  · iexists _; isplitr
    swap; · iexact H6
    ipureintro; rw [View.read_writes_full]; (repeat rw [View.readAt_full]); simp only [hf0, hf1, hf2, hf3, hf4, hf5]
  iexists _; isplitr
  swap; · iexact H7
  ipureintro; rw [View.read_writes_full]; unfold body1_later.sl.r; (repeat rw [View.readAt_full]); simp only [hf0, hf1, hf2, hf3, hf4, hf5, hf7]

end Body

/-- Window `w`'s block at point `t`, read off its array as the call finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The first branch is taken at the first point only. -/
theorem first1 (t : Fin cfg1.N) : k1_cond1 (grid1.coords t) = 1#1 ↔ t.val = 0 := by
  have ht : t.val < 5 := Nat.lt_of_lt_of_eq t.isLt N_1
  have e0 : (grid1.coords t 0).val = t.val / 1 % 5 := Pipeline.Grid.coords_val t 0 (by decide) rfl
  simp only [k1_cond1, e0]
  word_cmp

/-- The second branch is taken at every later point. -/
theorem later1 (t : Fin cfg1.N) : k1_cond2 (grid1.coords t) = 1#1 ↔ t.val ≠ 0 := by
  have ht : t.val < 5 := Nat.lt_of_lt_of_eq t.isLt N_1
  have e0 : (grid1.coords t 0).val = t.val / 1 % 5 := Pipeline.Grid.coords_val t 0 (by decide) rfl
  have h : k1_cond2 (grid1.coords t) = 1#1 ↔ 1 ≤ t.val := by
    simp only [k1_cond2, e0]
    word_cmp
  rw [h]; omega

/-- No window is idle at any point. -/
theorem live1 (w : Fin cfg1.W) : ∀ t : Fin cfg1.N, cfg1.idle w (cfg1.grid.coords t) = false := by
  revert w; decide +kernel

/-- The transposed product accumulated up to a point. -/
def prod1 (c : Dev nD) : (n : ℕ) → n < cfg1.N → Vec F S3960x4 .f32 :=
  acc (fun t => k1_pay3 (blk1 V c 0 t) (blk1 V c 1 t) (blk1 V c 2 t) (blk1 V c 5 t)) (fun t x => k1_pay1 (k1_pay3 (blk1 V c 0 t) (blk1 V c 1 t) (blk1 V c 2 t) (blk1 V c 5 t)) x)

/-- The call's proof data: the inputs' buffers keep their blocks, the outputs' hold what the body leaves. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => blk1 V c 5 t
    | ⟨6, _⟩ => k1_pay2 (blk1 V c 0 t) (blk1 V c 3 t) (blk1 V c 4 t)
    | ⟨7, _⟩ => prod1 V c t.val t.isLt
  Φ _ := Pipeline.ΦA spec1 c
  q _ := fullShare
  owed _ := 0

/-- The arrays as the call finds them. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = blk1 V c 0 t := by dsimp only [dat1]
/-- Operand 1 of pallas_call 1 after a step. -/
theorem after1_1 (c : Dev nD) (t : Fin cfg1.N) : (dat1 V c).after 1 t = blk1 V c 1 t := by dsimp only [dat1]
/-- Operand 2 of pallas_call 1 after a step. -/
theorem after1_2 (c : Dev nD) (t : Fin cfg1.N) : (dat1 V c).after 2 t = blk1 V c 2 t := by dsimp only [dat1]
/-- Operand 3 of pallas_call 1 after a step. -/
theorem after1_3 (c : Dev nD) (t : Fin cfg1.N) : (dat1 V c).after 3 t = blk1 V c 3 t := by dsimp only [dat1]
/-- Operand 4 of pallas_call 1 after a step. -/
theorem after1_4 (c : Dev nD) (t : Fin cfg1.N) : (dat1 V c).after 4 t = blk1 V c 4 t := by dsimp only [dat1]
/-- Operand 5 of pallas_call 1 after a step. -/
theorem after1_5 (c : Dev nD) (t : Fin cfg1.N) : (dat1 V c).after 5 t = blk1 V c 5 t := by dsimp only [dat1]
/-- Operand 6 of pallas_call 1 after a step. -/
theorem after1_6 (c : Dev nD) (t : Fin cfg1.N) : (dat1 V c).after 6 t = k1_pay2 (blk1 V c 0 t) (blk1 V c 3 t) (blk1 V c 4 t) := by dsimp only [dat1]
/-- Operand 7 of pallas_call 1 after a step. -/
theorem after1_7 (c : Dev nD) (t : Fin cfg1.N) : (dat1 V c).after 7 t = prod1 V c t.val t.isLt := by dsimp only [dat1]

/-- An input's buffer holds its block at every point, fetched there or not. -/
theorem before1_0 (c : Dev nD) (t : Fin cfg1.N) (d) : (dat1 V c).before 0 t d = blk1 V c 0 t :=
  ((dat1 V c).before_in_eq_fetched 0 rfl (fun _ => rfl) (fun _ _ _ => rfl) (fun t => by rw [after1_0]; unfold Dat.blockOf blk1; rw [A_eq1]) t d).trans
    (by unfold Dat.fetched Dat.blockOf blk1; rw [A_eq1]; rfl)
/-- Operand 1 of pallas_call 1 before a step. -/
theorem before1_1 (c : Dev nD) (t : Fin cfg1.N) (d) : (dat1 V c).before 1 t d = blk1 V c 1 t :=
  ((dat1 V c).before_in_eq_fetched 1 rfl (fun _ => rfl) (fun _ _ _ => rfl) (fun t => by rw [after1_1]; unfold Dat.blockOf blk1; rw [A_eq1]) t d).trans
    (by unfold Dat.fetched Dat.blockOf blk1; rw [A_eq1]; rfl)
/-- Operand 2 of pallas_call 1 before a step. -/
theorem before1_2 (c : Dev nD) (t : Fin cfg1.N) (d) : (dat1 V c).before 2 t d = blk1 V c 2 t :=
  ((dat1 V c).before_in_eq_fetched 2 rfl (fun _ => rfl) (fun _ _ _ => rfl) (fun t => by rw [after1_2]; unfold Dat.blockOf blk1; rw [A_eq1]) t d).trans
    (by unfold Dat.fetched Dat.blockOf blk1; rw [A_eq1]; rfl)
/-- Operand 3 of pallas_call 1 before a step. -/
theorem before1_3 (c : Dev nD) (t : Fin cfg1.N) (d) : (dat1 V c).before 3 t d = blk1 V c 3 t :=
  ((dat1 V c).before_in_eq_fetched 3 rfl (fun _ => rfl) (fun _ _ _ => rfl) (fun t => by rw [after1_3]; unfold Dat.blockOf blk1; rw [A_eq1]) t d).trans
    (by unfold Dat.fetched Dat.blockOf blk1; rw [A_eq1]; rfl)
/-- Operand 4 of pallas_call 1 before a step. -/
theorem before1_4 (c : Dev nD) (t : Fin cfg1.N) (d) : (dat1 V c).before 4 t d = blk1 V c 4 t :=
  ((dat1 V c).before_in_eq_fetched 4 rfl (fun _ => rfl) (fun _ _ _ => rfl) (fun t => by rw [after1_4]; unfold Dat.blockOf blk1; rw [A_eq1]) t d).trans
    (by unfold Dat.fetched Dat.blockOf blk1; rw [A_eq1]; rfl)
/-- Operand 5 of pallas_call 1 before a step. -/
theorem before1_5 (c : Dev nD) (t : Fin cfg1.N) (d) : (dat1 V c).before 5 t d = blk1 V c 5 t :=
  ((dat1 V c).before_in_eq_fetched 5 rfl (fun _ => rfl) (fun _ _ _ => rfl) (fun t => by rw [after1_5]; unfold Dat.blockOf blk1; rw [A_eq1]) t d).trans
    (by unfold Dat.fetched Dat.blockOf blk1; rw [A_eq1]; rfl)

/-- The accumulated output's buffer holds, at a later point, what the point before left. -/
theorem before1_7 (c : Dev nD) (t : Fin cfg1.N) (ht : t.val ≠ 0) (d) :
    (dat1 V c).before 7 t d = prod1 V c (t.val - 1) (Nat.lt_of_le_of_lt (Nat.sub_le _ _) t.isLt) := by
  rw [before_carried (dat1 V c) 7 rfl (fun _ _ => rfl) (live1 7) (by decide +kernel) t ht d]
  dsimp only [dat1]

/-- Window `w`'s staging buffer at point `t`. -/
abbrev stg1 (t : Fin cfg1.N) (w : Fin cfg1.W) := (cfg1.win w).stage (cfg1.slots t w)

set_option maxHeartbeats 1000000 in
/-- The body at any point, from what its windows' buffers hold before it to what they hold after. -/
theorem sound_body1 (c : Dev nD) (t : Fin cfg1.N) :
    iprop((dat1 V c).Φ t.castSucc ∗ (dat1 V c).owesAt () t.castSucc
      ∗ (∃ d, owns (c : Thread nD τ) (stg1 t 0) fullShare ((dat1 V c).before 0 t d))
      ∗ (∃ d, owns (c : Thread nD τ) (stg1 t 1) fullShare ((dat1 V c).before 1 t d))
      ∗ (∃ d, owns (c : Thread nD τ) (stg1 t 2) fullShare ((dat1 V c).before 2 t d))
      ∗ (∃ d, owns (c : Thread nD τ) (stg1 t 3) fullShare ((dat1 V c).before 3 t d))
      ∗ (∃ d, owns (c : Thread nD τ) (stg1 t 4) fullShare ((dat1 V c).before 4 t d))
      ∗ (∃ d, owns (c : Thread nD τ) (stg1 t 5) fullShare ((dat1 V c).before 5 t d))
      ∗ (∃ d, owns (c : Thread nD τ) (stg1 t 6) fullShare ((dat1 V c).before 6 t d))
      ∗ (∃ d, owns (c : Thread nD τ) (stg1 t 7) fullShare ((dat1 V c).before 7 t d)))
    ⊢ wp frame (wpE (defs₀ (F := F)) Variants.none c none) Set.univ (bodyAt1 t) (fun _ =>
      iprop((dat1 V c).Φ t.succ ∗ (dat1 V c).owesAt () t.succ
        ∗ (dat1 V c).leavesExact 0 t ∗ (dat1 V c).leavesExact 1 t ∗ (dat1 V c).leavesExact 2 t ∗ (dat1 V c).leavesExact 3 t ∗ (dat1 V c).leavesExact 4 t ∗ (dat1 V c).leavesExact 5 t ∗ (dat1 V c).leavesExact 6 t ∗ (dat1 V c).leavesExact 7 t)) := by
  unfold bodyAt1
  simp only [before1_0, before1_1, before1_2, before1_3, before1_4, before1_5]
  rw [leaves_live _ 0 t (live1 0 t), leaves_live _ 1 t (live1 1 t), leaves_live _ 2 t (live1 2 t), leaves_live _ 3 t (live1 3 t), leaves_live _ 4 t (live1 4 t), leaves_live _ 5 t (live1 5 t), leaves_live _ 6 t (live1 6 t), leaves_live _ 7 t (live1 7 t),
    after1_0, after1_1, after1_2, after1_3, after1_4, after1_5, after1_6, after1_7,
    show (dat1 V c).Φ t.succ = (dat1 V c).Φ t.castSucc from rfl,
    show (dat1 V c).owesAt () t.succ = (dat1 V c).owesAt () t.castSucc from rfl]
  by_cases h0 : t.val = 0
  · rw [show prod1 V c t.val t.isLt = k1_pay3 (blk1 V c 0 t) (blk1 V c 1 t) (blk1 V c 2 t) (blk1 V c 5 t) from acc_first _ _ t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (body1_first c (grid1.coords t) _ _ _ _ _ _ _ _ _ _ _ _ _ _ _ _ (blk1 V c 0 t) (blk1 V c 1 t) (blk1 V c 2 t) (blk1 V c 3 t) (blk1 V c 4 t) (blk1 V c 5 t)
      ((first1 t).mpr h0) (fun h => (later1 t).mp h h0) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    unfold post1
    iintro H
    isplitl [HΦ]; · iexact HΦ
    isplitl [Ho]; · iexact Ho
    iexact H
  · rw [show prod1 V c t.val t.isLt = k1_pay1 (k1_pay3 (blk1 V c 0 t) (blk1 V c 1 t) (blk1 V c 2 t) (blk1 V c 5 t)) _ from acc_next _ _ t h0]
    simp only [before1_7 V c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (body1_later c (grid1.coords t) _ _ _ _ _ _ _ _ _ _ _ _ _ _ _ _ (blk1 V c 0 t) (blk1 V c 1 t) (blk1 V c 2 t) (blk1 V c 3 t) (blk1 V c 4 t) (blk1 V c 5 t) _
      (fun h => h0 ((first1 t).mp h)) ((later1 t).mpr h0) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    unfold post1
    iintro H
    isplitl [HΦ]; · iexact HΦ
    isplitl [Ho]; · iexact Ho
    iexact H

/-- The call's body obligation, at every point. -/
theorem obligation1 (c : Dev nD) : BodyObligation (dat1 (F := F) V c) (defs₀ (F := F)) Variants.none () Set.univ := fun t => by
  rw [bigSep_W1, bigSep_W1, show defs₀ (F := F) .tc cfg1.body (cfg1.bodyArgs t (cfg1.slots t)) = bodyAt1 t from by
    unfold defs₀; rw [Defs.onTc_tc]]
  exact triple_restated (sound_body1 V c t) rfl .rfl fun _ => .rfl

end Cert.KernelIdeal.Run

end
-- ==== Proof.Run.Cell0.lean ====
/- The first layer's gated cell, for one of the four batch columns. -/
module

public import proofs.«01_k».proof.Proof.Run.Base

@[expose] public section

set_option maxRecDepth 16384

noncomputable section

namespace Cert.KernelIdeal.Run

open Cert.KernelIdeal Cert.KernelIdeal.Gen
open Idealize.ShloMosaic Idealize.ShloMosaic.TcCoe

variable {F : FTy → Type} [FloatOps F]

/-- A column of a four-column block lies within it. -/
theorem column_in (b : Fin 4) : S792x4.Slices ![0, b.val] S792x1 :=
  ⟨rfl, fun a => by
    have := b.isLt
    fin_cases a
    · show 0 + 792 ≤ 792; omega
    · show b.val + 1 ≤ 4; omega⟩

/-- A row of a five-row weight block lies within it. -/
theorem row_in (m : Fin 5) : ∀ a, (![m.val, 0] : Fin 2 → ℕ) a + S1x64.size a ≤ S5x64.size a := fun a => by
  have := m.isLt
  fin_cases a
  · show m.val + 1 ≤ 5; omega
  · show 0 + 64 ≤ 64; omega

/-- One product of the gate's sum: a term's column times a weight row. -/
def scaled (col : FVec F S792x1 .f32) (w : Vec F S1x64 .bf16) : FVec F S792x64 .f32 :=
  mulf (broadcastTo S792x64 col broadcasts_S792x1_S792x64)
    (broadcastTo S792x64 (extf .f32 (shapeCast S1x64 w shapeCasts_S1x64_S1x64 : FVec F S1x64 .bf16) bitsLt_bf16_f32) broadcasts_S1x64_S792x64)

/-- A gate before its nonlinearity: the bias plus the five terms' products, added in order. -/
def gate0 (t0 t1 t2 t3 t4 : FVec F S792x4 .f32) (b : Fin 4) (w : Vec F S5x64 .bf16) (bias : Vec F S1x64 .f32) : FVec F S792x64 .f32 :=
  addf (addf (addf (addf (addf
    (broadcastTo S792x64 (shapeCast S1x64 (shapeCast S1x64 bias shapeCasts_S1x64_S1x64 : FVec F S1x64 .f32) shapeCasts_S1x64_S1x64 : FVec F S1x64 .f32) broadcasts_S1x64_S792x64)
    (scaled (extractStridedSlice S792x1 ![0, b.val] t0 (column_in b)) (View.ld w (Rect.unit ![(0 : Fin 5).val, 0] S1x64.size (row_in 0)))))
    (scaled (extractStridedSlice S792x1 ![0, b.val] t1 (column_in b)) (View.ld w (Rect.unit ![(1 : Fin 5).val, 0] S1x64.size (row_in 1)))))
    (scaled (extractStridedSlice S792x1 ![0, b.val] t2 (column_in b)) (View.ld w (Rect.unit ![(2 : Fin 5).val, 0] S1x64.size (row_in 2)))))
    (scaled (extractStridedSlice S792x1 ![0, b.val] t3 (column_in b)) (View.ld w (Rect.unit ![(3 : Fin 5).val, 0] S1x64.size (row_in 3)))))
    (scaled (extractStridedSlice S792x1 ![0, b.val] t4 (column_in b)) (View.ld w (Rect.unit ![(4 : Fin 5).val, 0] S1x64.size (row_in 4))))

/-- The cell's value for batch column `b`: one minus the update gate, times the candidate. -/
def cell0 (x0 : Vec F S792x4 .f32) (x1 x2 : Vec F S792x4 .bf16) (x3 : Vec F S792x4 .f32) (x4 : Vec F S792x1 .f32) (x5 : Vec F S792x4 .f32)
    (x6 x7 : Vec F S5x64 .bf16) (x8 x9 : Vec F S1x64 .f32) (b : Fin 4) : FVec F S792x64 .f32 :=
  mulf (subf (broadcast S792x64 (Scalar.ofBits .f32 0x3F800000#32 : F .f32))
      (logistic (gate0 (k2_pay4 x0) (k2_pay5 x1) (k2_pay6 x2) (k2_pay7 x4 x3) (k2_pay8 x0 x5) b x6 x8)))
    (tanh (gate0 (k2_pay4 x0) (k2_pay5 x1) (k2_pay6 x2) (k2_pay7 x4 x3) (k2_pay8 x0 x5) b x7 x9))

/-- The cell reads its blocks whole, so loading them whole first changes nothing. -/
theorem cell0_loaded (x0 : Vec F S792x4 .f32) (x1 x2 : Vec F S792x4 .bf16) (x3 : Vec F S792x4 .f32) (x4 : Vec F S792x1 .f32) (x5 : Vec F S792x4 .f32)
    (x6 x7 : Vec F S5x64 .bf16) (x8 x9 : Vec F S1x64 .f32) (b : Fin 4)
    (i0 : ∀ a, (![0, 0] : Fin 2 → ℕ) a + S792x4.size a ≤ S792x4.size a) (i4 : ∀ a, (![0, 0] : Fin 2 → ℕ) a + S792x1.size a ≤ S792x1.size a)
    (i8 : ∀ a, (![0, 0] : Fin 2 → ℕ) a + S1x64.size a ≤ S1x64.size a) :
    cell0 (View.ld x0 (Rect.unit ![0, 0] S792x4.size i0)) (View.ld x1 (Rect.unit ![0, 0] S792x4.size i0)) (View.ld x2 (Rect.unit ![0, 0] S792x4.size i0))
      (View.ld x3 (Rect.unit ![0, 0] S792x4.size i0)) (View.ld x4 (Rect.unit ![0, 0] S792x1.size i4)) (View.ld x5 (Rect.unit ![0, 0] S792x4.size i0)) x6 x7
      (View.ld x8 (Rect.unit ![0, 0] S1x64.size i8)) (View.ld x9 (Rect.unit ![0, 0] S1x64.size i8)) b = cell0 x0 x1 x2 x3 x4 x5 x6 x7 x8 x9 b := by
  have z : (![0, 0] : Fin 2 → ℕ) = fun _ => 0 := funext fun a => by fin_cases a <;> rfl
  rw [View.ld_unit_zero (S := S792x4) z i0 x0, View.ld_unit_zero (S := S792x4) z i0 x1, View.ld_unit_zero (S := S792x4) z i0 x2,
    View.ld_unit_zero (S := S792x4) z i0 x3, View.ld_unit_zero (S := S792x1) z i4 x4, View.ld_unit_zero (S := S792x4) z i0 x5,
    View.ld_unit_zero (S := S1x64) z i8 x8, View.ld_unit_zero (S := S1x64) z i8 x9]

/-- The cell's value rounded. -/
def rounded0 (x0 : Vec F S792x4 .f32) (x1 x2 : Vec F S792x4 .bf16) (x3 : Vec F S792x4 .f32) (x4 : Vec F S792x1 .f32) (x5 : Vec F S792x4 .f32)
    (x6 x7 : Vec F S5x64 .bf16) (x8 x9 : Vec F S1x64 .f32) (b : Fin 4) : FVec F S792x64 .bf16 := truncf .bf16 (cell0 x0 x1 x2 x3 x4 x5 x6 x7 x8 x9 b) bitsLt_bf16_f32

/-- The rounded cell reads its blocks whole too. -/
theorem rounded0_loaded (x0 : Vec F S792x4 .f32) (x1 x2 : Vec F S792x4 .bf16) (x3 : Vec F S792x4 .f32) (x4 : Vec F S792x1 .f32) (x5 : Vec F S792x4 .f32)
    (x6 x7 : Vec F S5x64 .bf16) (x8 x9 : Vec F S1x64 .f32) (b : Fin 4)
    (i0 : ∀ a, (![0, 0] : Fin 2 → ℕ) a + S792x4.size a ≤ S792x4.size a) (i4 : ∀ a, (![0, 0] : Fin 2 → ℕ) a + S792x1.size a ≤ S792x1.size a)
    (i8 : ∀ a, (![0, 0] : Fin 2 → ℕ) a + S1x64.size a ≤ S1x64.size a) :
    rounded0 (View.ld x0 (Rect.unit ![0, 0] S792x4.size i0)) (View.ld x1 (Rect.unit ![0, 0] S792x4.size i0)) (View.ld x2 (Rect.unit ![0, 0] S792x4.size i0))
      (View.ld x3 (Rect.unit ![0, 0] S792x4.size i0)) (View.ld x4 (Rect.unit ![0, 0] S792x1.size i4)) (View.ld x5 (Rect.unit ![0, 0] S792x4.size i0)) x6 x7
      (View.ld x8 (Rect.unit ![0, 0] S1x64.size i8)) (View.ld x9 (Rect.unit ![0, 0] S1x64.size i8)) b = rounded0 x0 x1 x2 x3 x4 x5 x6 x7 x8 x9 b :=
  congrArg (fun x => truncf .bf16 x bitsLt_bf16_f32) (cell0_loaded x0 x1 x2 x3 x4 x5 x6 x7 x8 x9 b i0 i4 i8)

/-- The column of a 256-column block that batch `b`'s unit takes, split into the two. -/
def batchOf (y : S792x256.Idx) : Fin 4 := ⟨(y 1).val / 64, by have h : (y 1).val < 256 := (y 1).isLt; omega⟩

/-- The index within a batch's 64 columns. -/
def withinBatch (y : S792x256.Idx) : S792x64.Idx :=
  fun a => match a with
    | ⟨0, _⟩ => ⟨(y 0).val, (y 0).isLt⟩
    | ⟨1, _⟩ => ⟨(y 1).val % 64, Nat.mod_lt _ (by decide)⟩

/-- Four 64-column blocks side by side. -/
def beside {α : Type} (g : Fin 4 → S792x64.Idx → α) : S792x256.Idx → α := fun y => g (batchOf y) (withinBatch y)

/-- Stores of the four blocks at their columns leave them side by side. -/
theorem canon_beside {e : EltTy} (g : Fin 4 → S792x64.Idx → Elt F e)
    (i3 : ∀ a, (![0, 192] : Fin 2 → ℕ) a + S792x64.size a ≤ S792x256.size a) (i2 : ∀ a, (![0, 128] : Fin 2 → ℕ) a + S792x64.size a ≤ S792x256.size a)
    (i1 : ∀ a, (![0, 64] : Fin 2 → ℕ) a + S792x64.size a ≤ S792x256.size a) (i0 : ∀ a, (![0, 0] : Fin 2 → ℕ) a + S792x64.size a ≤ S792x256.size a) :
    View.canon [(⟨Rect.unit ![0, 192] S792x64.size i3, g 3⟩ : View.Piece (Elt F) S792x256 e), ⟨Rect.unit ![0, 128] S792x64.size i2, g 2⟩,
      ⟨Rect.unit ![0, 64] S792x64.size i1, g 1⟩, ⟨Rect.unit ![0, 0] S792x64.size i0, g 0⟩] = beside g := by
  have key : ∀ (b : Fin 4) (o : ℕ) (ho : o = 64 * b.val) (inb : ∀ a, (![0, o] : Fin 2 → ℕ) a + S792x64.size a ≤ S792x256.size a) (x : S792x64.Idx),
      g b x = beside g ((Rect.unit (s := S792x256) ![0, o] S792x64.size inb).emb x) := by
    intro b o ho inb x
    have h1 : (x 1).val < 64 := (x 1).isLt
    have e1 : ((Rect.unit (s := S792x256) ![0, o] S792x64.size inb).emb x 1).val = o + 1 * (x 1).val := rfl
    have e0 : ((Rect.unit (s := S792x256) ![0, o] S792x64.size inb).emb x 0).val = 0 + 1 * (x 0).val := rfl
    have hb : batchOf ((Rect.unit (s := S792x256) ![0, o] S792x64.size inb).emb x) = b := Fin.ext (by
      show ((Rect.unit (s := S792x256) ![0, o] S792x64.size inb).emb x 1).val / 64 = b.val
      rw [e1]; omega)
    have hw : withinBatch ((Rect.unit (s := S792x256) ![0, o] S792x64.size inb).emb x) = x := funext fun a => by
      fin_cases a
      · exact Fin.ext (by show ((Rect.unit (s := S792x256) ![0, o] S792x64.size inb).emb x 0).val = (x 0).val; rw [e0]; omega)
      · exact Fin.ext (by show ((Rect.unit (s := S792x256) ![0, o] S792x64.size inb).emb x 1).val % 64 = (x 1).val; rw [e1]; omega)
    unfold beside; rw [hb, hw]
  funext y
  refine View.canon_apply_of_pieces (beside g) _ ?_ y ?_
  on_goal 2 => exact View.cover_of_tiled (s := S792x256) _ S792x64.size (by rfl) y
  intro p hp x
  simp only [List.mem_cons, List.not_mem_nil, or_false] at hp
  rcases hp with rfl | rfl | rfl | rfl
  · exact key 3 192 rfl i3 x
  · exact key 2 128 rfl i2 x
  · exact key 1 64 rfl i1 x
  · exact key 0 0 rfl i0 x

end Cert.KernelIdeal.Run

end
-- ==== Proof.Run.Region2.lean ====
/- The third pallas_call: what its body leaves at each grid point, and its obligation. -/
module

public import proofs.«01_k».proof.Proof.Run.Cell0

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- The body, from its inputs' blocks: each output's four batch columns are stored in turn and fill the buffer. -/
theorem body2 (c : Dev nD) (i : grid2.Coords)
  (arg1 : Memref sig .tc .vmem S792x4 .f32) (harg1 : arg1.IsWhole)
  (arg2 : Memref sig .tc .vmem S792x4 .bf16) (harg2 : arg2.IsWhole)
  (arg3 : Memref sig .tc .vmem S792x4 .bf16) (harg3 : arg3.IsWhole)
  (arg4 : Memref sig .tc .vmem S792x4 .f32) (harg4 : arg4.IsWhole)
  (arg5 : Memref sig .tc .vmem S792x1 .f32) (harg5 : arg5.IsWhole)
  (arg6 : Memref sig .tc .vmem S792x4 .f32) (harg6 : arg6.IsWhole)
  (arg7 : Memref sig .tc .vmem S5x64 .bf16) (harg7 : arg7.IsWhole)
  (arg8 : Memref sig .tc .vmem S5x64 .bf16) (harg8 : arg8.IsWhole)
  (arg9 : Memref sig .tc .vmem S1x64 .f32) (harg9 : arg9.IsWhole)
  (arg10 : Memref sig .tc .vmem S1x64 .f32) (harg10 : arg10.IsWhole)
  (arg11 : Memref sig .tc .vmem S792x256 .f32) (harg11 : arg11.IsWhole)
  (arg12 : Memref sig .tc .vmem S792x256 .bf16) (harg12 : arg12.IsWhole)
  (x0 : Vec F S792x4 .f32) (x1 : Vec F S792x4 .bf16) (x2 : Vec F S792x4 .bf16) (x3 : Vec F S792x4 .f32) (x4 : Vec F S792x1 .f32) (x5 : Vec F S792x4 .f32) (x6 : Vec F S5x64 .bf16) (x7 : Vec F S5x64 .bf16) (x8 : Vec F S1x64 .f32) (x9 : Vec F S1x64 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9
        ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9
          ∗ owns (c : Thread nD τ) arg11 fullShare (beside (cell0 x0 x1 x2 x3 x4 x5 x6 x7 x8 x9)) ∗ owns (c : Thread nD τ) arg12 fullShare (beside (rounded0 x0 x1 x2 x3 x4 x5 x6 x7 x8 x9))) -∗ K ⟨⟩))
      ⊢ wp frame (wpE (defs₀ (F := F)) Variants.none c none) E (cc2__pw0_body i arg1 harg1 arg2 harg2 arg3 harg3 arg4 harg4 arg5 harg5 arg6 harg6 arg7 harg7 arg8 harg8 arg9 harg9 arg10 harg10 arg11 harg11 arg12 harg12) K := by
  simp only [cc2__pw0_body_eq_skeleton]; unfold cc2__pw0_body_skel
  simp only [k2_part1_eq_skeleton, k2_part2_eq_skeleton, k2_part3_eq_skeleton, k2_part4_eq_skeleton, k2_part5_eq_skeleton, k2_part6_eq_skeleton, k2_part7_eq_skeleton, k2_part8_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    refine (View.read_writes_eq_canon _ _ _ (fun y => View.cover_of_tiled (s := S792x256) _ S792x64.size (by rfl) y)).trans ?_
    refine Eq.trans ?_ (congrArg beside (funext fun b => cell0_loaded _ _ _ _ _ _ _ _ _ _ b inb_S792x4_S792x4_0_0 inb_S792x1_S792x1_0_0 inb_S1x64_S1x64_0_0))
    refine Eq.trans ?_ (canon_beside (e := .f32) (F := F) _ inb_S792x256_S792x64_0_192 inb_S792x256_S792x64_0_128 inb_S792x256_S792x64_0_64 inb_S792x256_S792x64_0_0)
    rfl
  iexists _; isplitr
  swap; · iexact H11
  ipureintro
  refine (View.read_writes_eq_canon _ _ _ (fun y => View.cover_of_tiled (s := S792x256) _ S792x64.size (by rfl) y)).trans ?_
  refine Eq.trans ?_ (congrArg beside (funext fun b => rounded0_loaded _ _ _ _ _ _ _ _ _ _ b inb_S792x4_S792x4_0_0 inb_S792x1_S792x1_0_0 inb_S1x64_S1x64_0_0))
  refine Eq.trans ?_ (canon_beside (e := .bf16) (F := F) _ inb_S792x256_S792x64_0_192 inb_S792x256_S792x64_0_128 inb_S792x256_S792x64_0_64 inb_S792x256_S792x64_0_0)
  rfl

/-- Window `w`'s block at point `t`, read off its array as the call finds it. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- No window is idle at any point. -/
theorem live2 (w : Fin cfg2.W) : ∀ t : Fin cfg2.N, cfg2.idle w (cfg2.grid.coords t) = false := by
  revert w; decide +kernel

/-- The call's proof data: the inputs' buffers keep their blocks, the outputs' hold what the body leaves. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => blk2 V c 2 t
    | ⟨3, _⟩ => blk2 V c 3 t
    | ⟨4, _⟩ => blk2 V c 4 t
    | ⟨5, _⟩ => blk2 V c 5 t
    | ⟨6, _⟩ => blk2 V c 6 t
    | ⟨7, _⟩ => blk2 V c 7 t
    | ⟨8, _⟩ => blk2 V c 8 t
    | ⟨9, _⟩ => blk2 V c 9 t
    | ⟨10, _⟩ => beside (cell0 (blk2 V c 0 t) (blk2 V c 1 t) (blk2 V c 2 t) (blk2 V c 3 t) (blk2 V c 4 t) (blk2 V c 5 t) (blk2 V c 6 t) (blk2 V c 7 t) (blk2 V c 8 t) (blk2 V c 9 t))
    | ⟨11, _⟩ => beside (rounded0 (blk2 V c 0 t) (blk2 V c 1 t) (blk2 V c 2 t) (blk2 V c 3 t) (blk2 V c 4 t) (blk2 V c 5 t) (blk2 V c 6 t) (blk2 V c 7 t) (blk2 V c 8 t) (blk2 V c 9 t))
  Φ _ := Pipeline.ΦA spec2 c
  q _ := fullShare
  owed _ := 0

/-- The arrays as the call finds them. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = blk2 V c 0 t := by dsimp only [dat2]
/-- Operand 1 of pallas_call 2 after a step. -/
theorem after2_1 (c : Dev nD) (t : Fin cfg2.N) : (dat2 V c).after 1 t = blk2 V c 1 t := by dsimp only [dat2]
/-- Operand 2 of pallas_call 2 after a step. -/
theorem after2_2 (c : Dev nD) (t : Fin cfg2.N) : (dat2 V c).after 2 t = blk2 V c 2 t := by dsimp only [dat2]
/-- Operand 3 of pallas_call 2 after a step. -/
theorem after2_3 (c : Dev nD) (t : Fin cfg2.N) : (dat2 V c).after 3 t = blk2 V c 3 t := by dsimp only [dat2]
/-- Operand 4 of pallas_call 2 after a step. -/
theorem after2_4 (c : Dev nD) (t : Fin cfg2.N) : (dat2 V c).after 4 t = blk2 V c 4 t := by dsimp only [dat2]
/-- Operand 5 of pallas_call 2 after a step. -/
theorem after2_5 (c : Dev nD) (t : Fin cfg2.N) : (dat2 V c).after 5 t = blk2 V c 5 t := by dsimp only [dat2]
/-- Operand 6 of pallas_call 2 after a step. -/
theorem after2_6 (c : Dev nD) (t : Fin cfg2.N) : (dat2 V c).after 6 t = blk2 V c 6 t := by dsimp only [dat2]
/-- Operand 7 of pallas_call 2 after a step. -/
theorem after2_7 (c : Dev nD) (t : Fin cfg2.N) : (dat2 V c).after 7 t = blk2 V c 7 t := by dsimp only [dat2]
/-- Operand 8 of pallas_call 2 after a step. -/
theorem after2_8 (c : Dev nD) (t : Fin cfg2.N) : (dat2 V c).after 8 t = blk2 V c 8 t := by dsimp only [dat2]
/-- Operand 9 of pallas_call 2 after a step. -/
theorem after2_9 (c : Dev nD) (t : Fin cfg2.N) : (dat2 V c).after 9 t = blk2 V c 9 t := by dsimp only [dat2]
/-- Operand 10 of pallas_call 2 after a step. -/
theorem after2_10 (c : Dev nD) (t : Fin cfg2.N) : (dat2 V c).after 10 t = beside (cell0 (blk2 V c 0 t) (blk2 V c 1 t) (blk2 V c 2 t) (blk2 V c 3 t) (blk2 V c 4 t) (blk2 V c 5 t) (blk2 V c 6 t) (blk2 V c 7 t) (blk2 V c 8 t) (blk2 V c 9 t)) := by dsimp only [dat2]
/-- Operand 11 of pallas_call 2 after a step. -/
theorem after2_11 (c : Dev nD) (t : Fin cfg2.N) : (dat2 V c).after 11 t = beside (rounded0 (blk2 V c 0 t) (blk2 V c 1 t) (blk2 V c 2 t) (blk2 V c 3 t) (blk2 V c 4 t) (blk2 V c 5 t) (blk2 V c 6 t) (blk2 V c 7 t) (blk2 V c 8 t) (blk2 V c 9 t)) := by dsimp only [dat2]

/-- An input's buffer holds its block at every point, fetched there or not. -/
theorem before2_0 (c : Dev nD) (t : Fin cfg2.N) (d) : (dat2 V c).before 0 t d = blk2 V c 0 t :=
  ((dat2 V c).before_in_eq_fetched 0 rfl (fun _ => rfl) (fun _ _ _ => rfl) (fun t => by rw [after2_0]; unfold Dat.blockOf blk2; rw [A_eq2]) t d).trans
    (by unfold Dat.fetched Dat.blockOf blk2; rw [A_eq2]; rfl)
/-- Operand 1 of pallas_call 2 before a step. -/
theorem before2_1 (c : Dev nD) (t : Fin cfg2.N) (d) : (dat2 V c).before 1 t d = blk2 V c 1 t :=
  ((dat2 V c).before_in_eq_fetched 1 rfl (fun _ => rfl) (fun _ _ _ => rfl) (fun t => by rw [after2_1]; unfold Dat.blockOf blk2; rw [A_eq2]) t d).trans
    (by unfold Dat.fetched Dat.blockOf blk2; rw [A_eq2]; rfl)
/-- Operand 2 of pallas_call 2 before a step. -/
theorem before2_2 (c : Dev nD) (t : Fin cfg2.N) (d) : (dat2 V c).before 2 t d = blk2 V c 2 t :=
  ((dat2 V c).before_in_eq_fetched 2 rfl (fun _ => rfl) (fun _ _ _ => rfl) (fun t => by rw [after2_2]; unfold Dat.blockOf blk2; rw [A_eq2]) t d).trans
    (by unfold Dat.fetched Dat.blockOf blk2; rw [A_eq2]; rfl)
/-- Operand 3 of pallas_call 2 before a step. -/
theorem before2_3 (c : Dev nD) (t : Fin cfg2.N) (d) : (dat2 V c).before 3 t d = blk2 V c 3 t :=
  ((dat2 V c).before_in_eq_fetched 3 rfl (fun _ => rfl) (fun _ _ _ => rfl) (fun t => by rw [after2_3]; unfold Dat.blockOf blk2; rw [A_eq2]) t d).trans
    (by unfold Dat.fetched Dat.blockOf blk2; rw [A_eq2]; rfl)
/-- Operand 4 of pallas_call 2 before a step. -/
theorem before2_4 (c : Dev nD) (t : Fin cfg2.N) (d) : (dat2 V c).before 4 t d = blk2 V c 4 t :=
  ((dat2 V c).before_in_eq_fetched 4 rfl (fun _ => rfl) (fun _ _ _ => rfl) (fun t => by rw [after2_4]; unfold Dat.blockOf blk2; rw [A_eq2]) t d).trans
    (by unfold Dat.fetched Dat.blockOf blk2; rw [A_eq2]; rfl)
/-- Operand 5 of pallas_call 2 before a step. -/
theorem before2_5 (c : Dev nD) (t : Fin cfg2.N) (d) : (dat2 V c).before 5 t d = blk2 V c 5 t :=
  ((dat2 V c).before_in_eq_fetched 5 rfl (fun _ => rfl) (fun _ _ _ => rfl) (fun t => by rw [after2_5]; unfold Dat.blockOf blk2; rw [A_eq2]) t d).trans
    (by unfold Dat.fetched Dat.blockOf blk2; rw [A_eq2]; rfl)
/-- Operand 6 of pallas_call 2 before a step. -/
theorem before2_6 (c : Dev nD) (t : Fin cfg2.N) (d) : (dat2 V c).before 6 t d = blk2 V c 6 t :=
  ((dat2 V c).before_in_eq_fetched 6 rfl (fun _ => rfl) (fun _ _ _ => rfl) (fun t => by rw [after2_6]; unfold Dat.blockOf blk2; rw [A_eq2]) t d).trans
    (by unfold Dat.fetched Dat.blockOf blk2; rw [A_eq2]; rfl)
/-- Operand 7 of pallas_call 2 before a step. -/
theorem before2_7 (c : Dev nD) (t : Fin cfg2.N) (d) : (dat2 V c).before 7 t d = blk2 V c 7 t :=
  ((dat2 V c).before_in_eq_fetched 7 rfl (fun _ => rfl) (fun _ _ _ => rfl) (fun t => by rw [after2_7]; unfold Dat.blockOf blk2; rw [A_eq2]) t d).trans
    (by unfold Dat.fetched Dat.blockOf blk2; rw [A_eq2]; rfl)
/-- Operand 8 of pallas_call 2 before a step. -/
theorem before2_8 (c : Dev nD) (t : Fin cfg2.N) (d) : (dat2 V c).before 8 t d = blk2 V c 8 t :=
  ((dat2 V c).before_in_eq_fetched 8 rfl (fun _ => rfl) (fun _ _ _ => rfl) (fun t => by rw [after2_8]; unfold Dat.blockOf blk2; rw [A_eq2]) t d).trans
    (by unfold Dat.fetched Dat.blockOf blk2; rw [A_eq2]; rfl)
/-- Operand 9 of pallas_call 2 before a step. -/
theorem before2_9 (c : Dev nD) (t : Fin cfg2.N) (d) : (dat2 V c).before 9 t d = blk2 V c 9 t :=
  ((dat2 V c).before_in_eq_fetched 9 rfl (fun _ => rfl) (fun _ _ _ => rfl) (fun t => by rw [after2_9]; unfold Dat.blockOf blk2; rw [A_eq2]) t d).trans
    (by unfold Dat.fetched Dat.blockOf blk2; rw [A_eq2]; rfl)

/-- Window `w`'s staging buffer at point `t`. -/
abbrev stg2 (t : Fin cfg2.N) (w : Fin cfg2.W) := (cfg2.win w).stage (cfg2.slots t w)

set_option maxHeartbeats 1000000 in
/-- The body at any point, from what its windows' buffers hold before it to what they hold after. -/
theorem sound_body2 (c : Dev nD) (t : Fin cfg2.N) :
    iprop((dat2 V c).Φ t.castSucc ∗ (dat2 V c).owesAt () t.castSucc
      ∗ (∃ d, owns (c : Thread nD τ) (stg2 t 0) fullShare ((dat2 V c).before 0 t d))
      ∗ (∃ d, owns (c : Thread nD τ) (stg2 t 1) fullShare ((dat2 V c).before 1 t d))
      ∗ (∃ d, owns (c : Thread nD τ) (stg2 t 2) fullShare ((dat2 V c).before 2 t d))
      ∗ (∃ d, owns (c : Thread nD τ) (stg2 t 3) fullShare ((dat2 V c).before 3 t d))
      ∗ (∃ d, owns (c : Thread nD τ) (stg2 t 4) fullShare ((dat2 V c).before 4 t d))
      ∗ (∃ d, owns (c : Thread nD τ) (stg2 t 5) fullShare ((dat2 V c).before 5 t d))
      ∗ (∃ d, owns (c : Thread nD τ) (stg2 t 6) fullShare ((dat2 V c).before 6 t d))
      ∗ (∃ d, owns (c : Thread nD τ) (stg2 t 7) fullShare ((dat2 V c).before 7 t d))
      ∗ (∃ d, owns (c : Thread nD τ) (stg2 t 8) fullShare ((dat2 V c).before 8 t d))
      ∗ (∃ d, owns (c : Thread nD τ) (stg2 t 9) fullShare ((dat2 V c).before 9 t d))
      ∗ (∃ d, owns (c : Thread nD τ) (stg2 t 10) fullShare ((dat2 V c).before 10 t d))
      ∗ (∃ d, owns (c : Thread nD τ) (stg2 t 11) fullShare ((dat2 V c).before 11 t d)))
    ⊢ wp frame (wpE (defs₀ (F := F)) Variants.none c none) Set.univ (bodyAt2 t) (fun _ =>
      iprop((dat2 V c).Φ t.succ ∗ (dat2 V c).owesAt () t.succ
        ∗ (dat2 V c).leavesExact 0 t ∗ (dat2 V c).leavesExact 1 t ∗ (dat2 V c).leavesExact 2 t ∗ (dat2 V c).leavesExact 3 t ∗ (dat2 V c).leavesExact 4 t ∗ (dat2 V c).leavesExact 5 t ∗ (dat2 V c).leavesExact 6 t ∗ (dat2 V c).leavesExact 7 t ∗ (dat2 V c).leavesExact 8 t ∗ (dat2 V c).leavesExact 9 t ∗ (dat2 V c).leavesExact 10 t ∗ (dat2 V c).leavesExact 11 t)) := by
  unfold bodyAt2
  simp only [before2_0, before2_1, before2_2, before2_3, before2_4, before2_5, before2_6, before2_7, before2_8, before2_9]
  rw [leaves_live _ 0 t (live2 0 t), leaves_live _ 1 t (live2 1 t), leaves_live _ 2 t (live2 2 t), leaves_live _ 3 t (live2 3 t), leaves_live _ 4 t (live2 4 t), leaves_live _ 5 t (live2 5 t), leaves_live _ 6 t (live2 6 t), leaves_live _ 7 t (live2 7 t), leaves_live _ 8 t (live2 8 t), leaves_live _ 9 t (live2 9 t), leaves_live _ 10 t (live2 10 t), leaves_live _ 11 t (live2 11 t),
    after2_0, after2_1, after2_2, after2_3, after2_4, after2_5, after2_6, after2_7, after2_8, after2_9, after2_10, after2_11,
    show (dat2 V c).Φ t.succ = (dat2 V c).Φ t.castSucc from rfl,
    show (dat2 V c).owesAt () t.succ = (dat2 V c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (body2 c (grid2.coords t) _ _ _ _ _ _ _ _ _ _ _ _ _ _ _ _ _ _ _ _ _ _ _ _ (blk2 V c 0 t) (blk2 V c 1 t) (blk2 V c 2 t) (blk2 V c 3 t) (blk2 V c 4 t) (blk2 V c 5 t) (blk2 V c 6 t) (blk2 V c 7 t) (blk2 V c 8 t) (blk2 V c 9 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  iintro H
  isplitl [HΦ]; · iexact HΦ
  isplitl [Ho]; · iexact Ho
  iexact H

/-- The call's body obligation, at every point. -/
theorem obligation2 (c : Dev nD) : BodyObligation (dat2 (F := F) V c) (defs₀ (F := F)) Variants.none () Set.univ := fun t => by
  rw [bigSep_W2, bigSep_W2, show defs₀ (F := F) .tc cfg2.body (cfg2.bodyArgs t (cfg2.slots t)) = bodyAt2 t from by
    unfold defs₀; rw [Defs.onTc_tc]]
  exact triple_restated (sound_body2 V c t) rfl .rfl fun _ => .rfl

end Cert.KernelIdeal.Run

end
-- ==== Proof.Run.Region3.lean ====
/- The fourth pallas_call: what its body leaves at each grid point, and its obligation. -/
module

public import proofs.«01_k».proof.Proof.Run.Base

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

section Body
variable (c : Dev nD) (i : grid3.Coords)
  (arg1 : Memref sig .tc .vmem S792x3960 .f32) (harg1 : arg1.IsWhole)
  (arg2 : Memref sig .tc .vmem S1x3960 .f32) (harg2 : arg2.IsWhole)
  (arg3 : Memref sig .tc .vmem S3960x256 .bf16) (harg3 : arg3.IsWhole)
  (arg4 : Memref sig .tc .vmem S792x256 .bf16) (harg4 : arg4.IsWhole)
  (arg5 : Memref sig .tc .vmem S792x256 .bf16) (harg5 : arg5.IsWhole)
  (arg6 : Memref sig .tc .vmem S3960x256 .f32) (harg6 : arg6.IsWhole)
  (x0 : Vec F S792x3960 .f32) (x1 : Vec F S1x3960 .f32) (x2 : Vec F S3960x256 .bf16) (x3 : Vec F S792x256 .bf16) (xa : Vec F S3960x256 .f32)

/-- What the body holds when it ends: its inputs as they were, its outputs at the given contents. -/
def post3 (ys : Vec F S792x256 .bf16) (ya : Vec F S3960x256 .f32) : sProp 𝕄 :=
  iprop(owns (c : Thread nD τ) arg1 fullShare x0 ∗ owns (c : Thread nD τ) arg2 fullShare x1 ∗ owns (c : Thread nD τ) arg3 fullShare x2 ∗ owns (c : Thread nD τ) arg4 fullShare x3
    ∗ owns (c : Thread nD τ) arg5 fullShare ys ∗ owns (c : Thread nD τ) arg6 fullShare ya)

set_option maxHeartbeats 1000000 in
/-- At the grid's first point the body stores the row-normalised product of its rows and starts the transposed product. -/
theorem body3_first (hc0 : k3_cond1 i = 1#1) (hc1 : ¬ k3_cond2 i = 1#1) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (post3 c arg1 arg2 arg3 arg4 arg5 arg6 x0 x1 x2 x3 (k3_pay1 x0 x2) (k3_pay2 x0 x1 x3) -∗ K ⟨⟩))
      ⊢ wp frame (wpE (defs₀ (F := F)) Variants.none c none) E (cc3__p3_body i arg1 harg1 arg2 harg2 arg3 harg3 arg4 harg4 arg5 harg5 arg6 harg6) K := by
  simp only [cc3__p3_body_eq_skeleton]; unfold cc3__p3_body_skel post3
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  sl_exec (disch := first | sl_exact hc0 | sl_exact hc1)
  sl_step
  iapply Hk
  isplitl [H0]
  · iexists _; isplitr
    · ipureintro; exact hf0
    iexact H0
  isplitl [H1]
  · iexists _; isplitr
    · ipureintro; exact hf1
    iexact H1
  isplitl [H2]
  · iexists _; isplitr
    · ipureintro; exact hf2
    iexact H2
  isplitl [H3]
  · iexists _; isplitr
    · ipureintro; exact hf3
    iexact H3
  isplitl [H4]
  · iexists _; isplitr
    swap; · iexact H4
    ipureintro; rw [View.read_writes_full]; (repeat rw [View.readAt_full]); simp only [hf0, hf1, hf2, hf3]
  iexists _; isplitr
  swap; · iexact H5
  ipureintro; rw [View.read_writes_full]; (repeat rw [View.readAt_full]); simp only [hf0, hf1, hf2, hf3]

set_option maxHeartbeats 1000000 in
/-- At a later point it adds its block's transposed product to what the point before left. -/
theorem body3_later (hc0 : ¬ k3_cond1 i = 1#1) (hc1 : k3_cond2 i = 1#1) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ owns (c : Thread nD τ) arg6 fullShare xa
        ∗ (post3 c arg1 arg2 arg3 arg4 arg5 arg6 x0 x1 x2 x3 (k3_pay1 x0 x2) (k3_pay3 x0 x1 x3 xa) -∗ K ⟨⟩))
      ⊢ wp frame (wpE (defs₀ (F := F)) Variants.none c none) E (cc3__p3_body i arg1 harg1 arg2 harg2 arg3 harg3 arg4 harg4 arg5 harg5 arg6 harg6) K := by
  simp only [cc3__p3_body_eq_skeleton]; unfold cc3__p3_body_skel post3
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, Hk⟩
  sl_exec (disch := first | sl_exact hc0 | sl_exact hc1)
  sl_step
  iapply Hk
  isplitl [H0]
  · iexists _; isplitr
    · ipureintro; exact hf0
    iexact H0
  isplitl [H1]
  · iexists _; isplitr
    · ipureintro; exact hf1
    iexact H1
  isplitl [H2]
  · iexists _; isplitr
    · ipureintro; exact hf2
    iexact H2
  isplitl [H3]
  · iexists _; isplitr
    · ipureintro; exact hf3
    iexact H3
  isplitl [H4]
  · iexists _; isplitr
    swap; · iexact H4
    ipureintro; rw [View.read_writes_full]; (repeat rw [View.readAt_full]); simp only [hf0, hf1, hf2, hf3]
  iexists _; isplitr
  swap; · iexact H5
  ipureintro; rw [View.read_writes_full]; (repeat rw [View.readAt_full]); simp only [hf0, hf1, hf2, hf3, hf5]

end Body

/-- Window `w`'s block at point `t`, read off its array as the call finds it. -/
def blk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The first branch is taken at the first point only. -/
theorem first3 (t : Fin cfg3.N) : k3_cond1 (grid3.coords t) = 1#1 ↔ t.val = 0 := by
  have ht : t.val < 5 := Nat.lt_of_lt_of_eq t.isLt N_3
  have e0 : (grid3.coords t 0).val = t.val / 1 % 5 := Pipeline.Grid.coords_val t 0 (by decide) rfl
  simp only [k3_cond1, e0]
  word_cmp

/-- The second branch is taken at every later point. -/
theorem later3 (t : Fin cfg3.N) : k3_cond2 (grid3.coords t) = 1#1 ↔ t.val ≠ 0 := by
  have ht : t.val < 5 := Nat.lt_of_lt_of_eq t.isLt N_3
  have e0 : (grid3.coords t 0).val = t.val / 1 % 5 := Pipeline.Grid.coords_val t 0 (by decide) rfl
  have h : k3_cond2 (grid3.coords t) = 1#1 ↔ 1 ≤ t.val := by
    simp only [k3_cond2, e0]
    word_cmp
  rw [h]; omega

/-- No window is idle at any point. -/
theorem live3 (w : Fin cfg3.W) : ∀ t : Fin cfg3.N, cfg3.idle w (cfg3.grid.coords t) = false := by
  revert w; decide +kernel

/-- The transposed product accumulated up to a point. -/
def prod3 (c : Dev nD) : (n : ℕ) → n < cfg3.N → Vec F S3960x256 .f32 :=
  acc (fun t => k3_pay2 (blk3 V c 0 t) (blk3 V c 1 t) (blk3 V c 3 t)) (fun t x => k3_pay3 (blk3 V c 0 t) (blk3 V c 1 t) (blk3 V c 3 t) x)

/-- The call's proof data: the inputs' buffers keep their blocks, the outputs' hold what the body leaves. -/
def dat3 (c : Dev nD) : Dat τ (Elt F) Unit ℕ (UR sig nD τ) ℕ cfg3 c where
  A w := V c (Pipeline.arrRef spec3 w)
  after w t := match w with
    | ⟨0, _⟩ => blk3 V c 0 t
    | ⟨1, _⟩ => blk3 V c 1 t
    | ⟨2, _⟩ => blk3 V c 2 t
    | ⟨3, _⟩ => blk3 V c 3 t
    | ⟨4, _⟩ => k3_pay1 (blk3 V c 0 t) (blk3 V c 2 t)
    | ⟨5, _⟩ => prod3 V c t.val t.isLt
  Φ _ := Pipeline.ΦA spec3 c
  q w := Pipeline.shareOf spec3 w
  owed _ := 0

/-- The arrays as the call finds them. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = blk3 V c 0 t := by dsimp only [dat3]
/-- Operand 1 of pallas_call 3 after a step. -/
theorem after3_1 (c : Dev nD) (t : Fin cfg3.N) : (dat3 V c).after 1 t = blk3 V c 1 t := by dsimp only [dat3]
/-- Operand 2 of pallas_call 3 after a step. -/
theorem after3_2 (c : Dev nD) (t : Fin cfg3.N) : (dat3 V c).after 2 t = blk3 V c 2 t := by dsimp only [dat3]
/-- Operand 3 of pallas_call 3 after a step. -/
theorem after3_3 (c : Dev nD) (t : Fin cfg3.N) : (dat3 V c).after 3 t = blk3 V c 3 t := by dsimp only [dat3]
/-- Operand 4 of pallas_call 3 after a step. -/
theorem after3_4 (c : Dev nD) (t : Fin cfg3.N) : (dat3 V c).after 4 t = k3_pay1 (blk3 V c 0 t) (blk3 V c 2 t) := by dsimp only [dat3]
/-- Operand 5 of pallas_call 3 after a step. -/
theorem after3_5 (c : Dev nD) (t : Fin cfg3.N) : (dat3 V c).after 5 t = prod3 V c t.val t.isLt := by dsimp only [dat3]

/-- An input's buffer holds its block at every point, fetched there or not. -/
theorem before3_0 (c : Dev nD) (t : Fin cfg3.N) (d) : (dat3 V c).before 0 t d = blk3 V c 0 t :=
  ((dat3 V c).before_in_eq_fetched 0 rfl (fun _ => rfl) (fun _ _ _ => rfl) (fun t => by rw [after3_0]; unfold Dat.blockOf blk3; rw [A_eq3]) t d).trans
    (by unfold Dat.fetched Dat.blockOf blk3; rw [A_eq3]; rfl)
/-- Operand 1 of pallas_call 3 before a step. -/
theorem before3_1 (c : Dev nD) (t : Fin cfg3.N) (d) : (dat3 V c).before 1 t d = blk3 V c 1 t :=
  ((dat3 V c).before_in_eq_fetched 1 rfl (fun _ => rfl) (fun _ _ _ => rfl) (fun t => by rw [after3_1]; unfold Dat.blockOf blk3; rw [A_eq3]) t d).trans
    (by unfold Dat.fetched Dat.blockOf blk3; rw [A_eq3]; rfl)
/-- Operand 2 of pallas_call 3 before a step. -/
theorem before3_2 (c : Dev nD) (t : Fin cfg3.N) (d) : (dat3 V c).before 2 t d = blk3 V c 2 t :=
  ((dat3 V c).before_in_eq_fetched 2 rfl (fun _ => rfl) (fun _ _ _ => rfl) (fun t => by rw [after3_2]; unfold Dat.blockOf blk3; rw [A_eq3]) t d).trans
    (by unfold Dat.fetched Dat.blockOf blk3; rw [A_eq3]; rfl)
/-- Operand 3 of pallas_call 3 before a step. -/
theorem before3_3 (c : Dev nD) (t : Fin cfg3.N) (d) : (dat3 V c).before 3 t d = blk3 V c 3 t :=
  ((dat3 V c).before_in_eq_fetched 3 rfl (fun _ => rfl) (fun _ _ _ => rfl) (fun t => by rw [after3_3]; unfold Dat.blockOf blk3; rw [A_eq3]) t d).trans
    (by unfold Dat.fetched Dat.blockOf blk3; rw [A_eq3]; rfl)

/-- The accumulated output's buffer holds, at a later point, what the point before left. -/
theorem before3_5 (c : Dev nD) (t : Fin cfg3.N) (ht : t.val ≠ 0) (d) :
    (dat3 V c).before 5 t d = prod3 V c (t.val - 1) (Nat.lt_of_le_of_lt (Nat.sub_le _ _) t.isLt) := by
  rw [before_carried (dat3 V c) 5 rfl (fun _ _ => rfl) (live3 5) (by decide +kernel) t ht d]
  dsimp only [dat3]

/-- Window `w`'s staging buffer at point `t`. -/
abbrev stg3 (t : Fin cfg3.N) (w : Fin cfg3.W) := (cfg3.win w).stage (cfg3.slots t w)

set_option maxHeartbeats 1000000 in
/-- The body at any point, from what its windows' buffers hold before it to what they hold after. -/
theorem sound_body3 (c : Dev nD) (t : Fin cfg3.N) :
    iprop((dat3 V c).Φ t.castSucc ∗ (dat3 V c).owesAt () t.castSucc
      ∗ (∃ d, owns (c : Thread nD τ) (stg3 t 0) fullShare ((dat3 V c).before 0 t d))
      ∗ (∃ d, owns (c : Thread nD τ) (stg3 t 1) fullShare ((dat3 V c).before 1 t d))
      ∗ (∃ d, owns (c : Thread nD τ) (stg3 t 2) fullShare ((dat3 V c).before 2 t d))
      ∗ (∃ d, owns (c : Thread nD τ) (stg3 t 3) fullShare ((dat3 V c).before 3 t d))
      ∗ (∃ d, owns (c : Thread nD τ) (stg3 t 4) fullShare ((dat3 V c).before 4 t d))
      ∗ (∃ d, owns (c : Thread nD τ) (stg3 t 5) fullShare ((dat3 V c).before 5 t d)))
    ⊢ wp frame (wpE (defs₀ (F := F)) Variants.none c none) Set.univ (bodyAt3 t) (fun _ =>
      iprop((dat3 V c).Φ t.succ ∗ (dat3 V c).owesAt () t.succ
        ∗ (dat3 V c).leavesExact 0 t ∗ (dat3 V c).leavesExact 1 t ∗ (dat3 V c).leavesExact 2 t ∗ (dat3 V c).leavesExact 3 t ∗ (dat3 V c).leavesExact 4 t ∗ (dat3 V c).leavesExact 5 t)) := by
  unfold bodyAt3
  simp only [before3_0, before3_1, before3_2, before3_3]
  rw [leaves_live _ 0 t (live3 0 t), leaves_live _ 1 t (live3 1 t), leaves_live _ 2 t (live3 2 t), leaves_live _ 3 t (live3 3 t), leaves_live _ 4 t (live3 4 t), leaves_live _ 5 t (live3 5 t),
    after3_0, after3_1, after3_2, after3_3, after3_4, after3_5,
    show (dat3 V c).Φ t.succ = (dat3 V c).Φ t.castSucc from rfl,
    show (dat3 V c).owesAt () t.succ = (dat3 V c).owesAt () t.castSucc from rfl]
  by_cases h0 : t.val = 0
  · rw [show prod3 V c t.val t.isLt = k3_pay2 (blk3 V c 0 t) (blk3 V c 1 t) (blk3 V c 3 t) from acc_first _ _ t h0]
    iintro ⟨HΦ, Ho, ⟨%d0, H0⟩, ⟨%d1, H1⟩, ⟨%d2, H2⟩, ⟨%d3, H3⟩, ⟨%d4, H4⟩, ⟨%d5, H5⟩⟩
    iapply (body3_first c (grid3.coords t) _ _ _ _ _ _ _ _ _ _ _ _ (blk3 V c 0 t) (blk3 V c 1 t) (blk3 V c 2 t) (blk3 V c 3 t)
      ((first3 t).mpr h0) (fun h => (later3 t).mp h h0) Set.univ _)
    isplitl [H0]; · iexact H0
    isplitl [H1]; · iexact H1
    isplitl [H2]; · iexact H2
    isplitl [H3]; · iexact H3
    isplitl [H4]; · iexists _; iexact H4
    isplitl [H5]; · iexists _; iexact H5
    unfold post3
    iintro H
    isplitl [HΦ]; · iexact HΦ
    isplitl [Ho]; · iexact Ho
    iexact H
  · rw [show prod3 V c t.val t.isLt = k3_pay3 (blk3 V c 0 t) (blk3 V c 1 t) (blk3 V c 3 t) _ from acc_next _ _ t h0]
    simp only [before3_5 V c t h0]
    iintro ⟨HΦ, Ho, ⟨%d0, H0⟩, ⟨%d1, H1⟩, ⟨%d2, H2⟩, ⟨%d3, H3⟩, ⟨%d4, H4⟩, ⟨%d5, H5⟩⟩
    iapply (body3_later c (grid3.coords t) _ _ _ _ _ _ _ _ _ _ _ _ (blk3 V c 0 t) (blk3 V c 1 t) (blk3 V c 2 t) (blk3 V c 3 t) _
      (fun h => h0 ((first3 t).mp h)) ((later3 t).mpr h0) Set.univ _)
    isplitl [H0]; · iexact H0
    isplitl [H1]; · iexact H1
    isplitl [H2]; · iexact H2
    isplitl [H3]; · iexact H3
    isplitl [H4]; · iexists _; iexact H4
    isplitl [H5]; · iexact H5
    unfold post3
    iintro H
    isplitl [HΦ]; · iexact HΦ
    isplitl [Ho]; · iexact Ho
    iexact H

/-- The call's body obligation, at every point. -/
theorem obligation3 (c : Dev nD) : BodyObligation (dat3 (F := F) V c) (defs₀ (F := F)) Variants.none () Set.univ := fun t => by
  rw [bigSep_W3, bigSep_W3, show defs₀ (F := F) .tc cfg3.body (cfg3.bodyArgs t (cfg3.slots t)) = bodyAt3 t from by
    unfold defs₀; rw [Defs.onTc_tc]]
  exact triple_restated (sound_body3 V c t) rfl .rfl fun _ => .rfl

end Cert.KernelIdeal.Run

end
-- ==== Proof.Run.Region4.lean ====
/- The fifth pallas_call: what its body leaves at each grid point, and its obligation. -/
module

public import proofs.«01_k».proof.Proof.Run.Base

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

section Body
variable (c : Dev nD) (i : grid4.Coords)
  (arg1 : Memref sig .tc .vmem S792x3960 .f32) (harg1 : arg1.IsWhole)
  (arg2 : Memref sig .tc .vmem S1x3960 .f32) (harg2 : arg2.IsWhole)
  (arg3 : Memref sig .tc .vmem S3960x256 .bf16) (harg3 : arg3.IsWhole)
  (arg4 : Memref sig .tc .vmem S792x256 .f32) (harg4 : arg4.IsWhole)
  (arg5 : Memref sig .tc .vmem S792x256 .f32) (harg5 : arg5.IsWhole)
  (arg6 : Memref sig .tc .vmem S792x256 .bf16) (harg6 : arg6.IsWhole)
  (arg7 : Memref sig .tc .vmem S3960x256 .f32) (harg7 : arg7.IsWhole)
  (x0 : Vec F S792x3960 .f32) (x1 : Vec F S1x3960 .f32) (x2 : Vec F S3960x256 .bf16) (x3 : Vec F S792x256 .f32) (x4 : Vec F S792x256 .f32) (xa : Vec F S3960x256 .f32)

/-- What the body holds when it ends: its inputs as they were, its outputs at the given contents. -/
def post4 (ys : Vec F S792x256 .bf16) (ya : Vec F S3960x256 .f32) : sProp 𝕄 :=
  iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
    ∗ owns (c : Thread nD τ) arg6 fullShare ys ∗ owns (c : Thread nD τ) arg7 fullShare ya)

set_option maxHeartbeats 1000000 in
/-- At the grid's first point the body stores the layer's second forward term of its rows and starts the transposed product. -/
theorem body4_first (hc0 : k4_cond1 i = 1#1) (hc1 : ¬ k4_cond2 i = 1#1) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (post4 c arg1 arg2 arg3 arg4 arg5 arg6 arg7 x0 x1 x2 x3 x4 (k4_pay2 x0 x2 x3) (k4_pay3 x0 x1 x4) -∗ K ⟨⟩))
      ⊢ wp frame (wpE (defs₀ (F := F)) Variants.none c none) E (cc4__p4_body i arg1 harg1 arg2 harg2 arg3 harg3 arg4 harg4 arg5 harg5 arg6 harg6 arg7 harg7) K := by
  simp only [cc4__p4_body_eq_skeleton]; unfold cc4__p4_body_skel post4
  simp only [k4_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  sl_exec (disch := first | sl_exact hc0 | sl_exact hc1)
  sl_step
  iapply Hk
  isplitl [H0]
  · iexists _; isplitr
    · ipureintro; exact hf0
    iexact H0
  isplitl [H1]
  · iexists _; isplitr
    · ipureintro; exact hf1
    iexact H1
  isplitl [H2]
  · iexists _; isplitr
    · ipureintro; exact hf2
    iexact H2
  isplitl [H3]
  · iexists _; isplitr
    · ipureintro; exact hf3
    iexact H3
  isplitl [H4]
  · iexists _; isplitr
    · ipureintro; exact hf4
    iexact H4
  isplitl [H5]
  · iexists _; isplitr
    swap; · iexact H5
    ipureintro; rw [View.read_writes_full]; (repeat rw [View.readAt_full]); simp only [hf0, hf1, hf2, hf3, hf4]
  iexists _; isplitr
  swap; · iexact H6
  ipureintro; rw [View.read_writes_full]; (repeat rw [View.readAt_full]); simp only [hf0, hf1, hf2, hf3, hf4]

set_option maxHeartbeats 1000000 in
/-- At a later point it adds its block's transposed product to what the point before left. -/
theorem body4_later (hc0 : ¬ k4_cond1 i = 1#1) (hc1 : k4_cond2 i = 1#1) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d) ∗ owns (c : Thread nD τ) arg7 fullShare xa
        ∗ (post4 c arg1 arg2 arg3 arg4 arg5 arg6 arg7 x0 x1 x2 x3 x4 (k4_pay2 x0 x2 x3) (k4_pay1 (k4_pay3 x0 x1 x4) xa) -∗ K ⟨⟩))
      ⊢ wp frame (wpE (defs₀ (F := F)) Variants.none c none) E (cc4__p4_body i arg1 harg1 arg2 harg2 arg3 harg3 arg4 harg4 arg5 harg5 arg6 harg6 arg7 harg7) K := by
  simp only [cc4__p4_body_eq_skeleton]; unfold cc4__p4_body_skel post4
  simp only [k4_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, Hk⟩
  sl_exec (disch := first | sl_exact hc0 | sl_exact hc1)
  sl_step
  iapply Hk
  isplitl [H0]
  · iexists _; isplitr
    · ipureintro; exact hf0
    iexact H0
  isplitl [H1]
  · iexists _; isplitr
    · ipureintro; exact hf1
    iexact H1
  isplitl [H2]
  · iexists _; isplitr
    · ipureintro; exact hf2
    iexact H2
  isplitl [H3]
  · iexists _; isplitr
    · ipureintro; exact hf3
    iexact H3
  isplitl [H4]
  · iexists _; isplitr
    · ipureintro; exact hf4
    iexact H4
  isplitl [H5]
  · iexists _; isplitr
    swap; · iexact H5
    ipureintro; rw [View.read_writes_full]; (repeat rw [View.readAt_full]); simp only [hf0, hf1, hf2, hf3, hf4]
  iexists _; isplitr
  swap; · iexact H6
  ipureintro; rw [View.read_writes_full]; unfold body4_later.sl.r; (repeat rw [View.readAt_full]); simp only [hf0, hf1, hf2, hf3, hf4, hf6]

end Body

/-- Window `w`'s block at point `t`, read off its array as the call finds it. -/
def blk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The first branch is taken at the first point only. -/
theorem first4 (t : Fin cfg4.N) : k4_cond1 (grid4.coords t) = 1#1 ↔ t.val = 0 := by
  have ht : t.val < 5 := Nat.lt_of_lt_of_eq t.isLt N_4
  have e0 : (grid4.coords t 0).val = t.val / 1 % 5 := Pipeline.Grid.coords_val t 0 (by decide) rfl
  simp only [k4_cond1, e0]
  word_cmp

/-- The second branch is taken at every later point. -/
theorem later4 (t : Fin cfg4.N) : k4_cond2 (grid4.coords t) = 1#1 ↔ t.val ≠ 0 := by
  have ht : t.val < 5 := Nat.lt_of_lt_of_eq t.isLt N_4
  have e0 : (grid4.coords t 0).val = t.val / 1 % 5 := Pipeline.Grid.coords_val t 0 (by decide) rfl
  have h : k4_cond2 (grid4.coords t) = 1#1 ↔ 1 ≤ t.val := by
    simp only [k4_cond2, e0]
    word_cmp
  rw [h]; omega

/-- No window is idle at any point. -/
theorem live4 (w : Fin cfg4.W) : ∀ t : Fin cfg4.N, cfg4.idle w (cfg4.grid.coords t) = false := by
  revert w; decide +kernel

/-- The transposed product accumulated up to a point. -/
def prod4 (c : Dev nD) : (n : ℕ) → n < cfg4.N → Vec F S3960x256 .f32 :=
  acc (fun t => k4_pay3 (blk4 V c 0 t) (blk4 V c 1 t) (blk4 V c 4 t)) (fun t x => k4_pay1 (k4_pay3 (blk4 V c 0 t) (blk4 V c 1 t) (blk4 V c 4 t)) x)

/-- The call's proof data: the inputs' buffers keep their blocks, the outputs' hold what the body leaves. -/
def dat4 (c : Dev nD) : Dat τ (Elt F) Unit ℕ (UR sig nD τ) ℕ cfg4 c where
  A w := V c (Pipeline.arrRef spec4 w)
  after w t := match w with
    | ⟨0, _⟩ => blk4 V c 0 t
    | ⟨1, _⟩ => blk4 V c 1 t
    | ⟨2, _⟩ => blk4 V c 2 t
    | ⟨3, _⟩ => blk4 V c 3 t
    | ⟨4, _⟩ => blk4 V c 4 t
    | ⟨5, _⟩ => k4_pay2 (blk4 V c 0 t) (blk4 V c 2 t) (blk4 V c 3 t)
    | ⟨6, _⟩ => prod4 V c t.val t.isLt
  Φ _ := Pipeline.ΦA spec4 c
  q _ := fullShare
  owed _ := 0

/-- The arrays as the call finds them. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = blk4 V c 0 t := by dsimp only [dat4]
/-- Operand 1 of pallas_call 4 after a step. -/
theorem after4_1 (c : Dev nD) (t : Fin cfg4.N) : (dat4 V c).after 1 t = blk4 V c 1 t := by dsimp only [dat4]
/-- Operand 2 of pallas_call 4 after a step. -/
theorem after4_2 (c : Dev nD) (t : Fin cfg4.N) : (dat4 V c).after 2 t = blk4 V c 2 t := by dsimp only [dat4]
/-- Operand 3 of pallas_call 4 after a step. -/
theorem after4_3 (c : Dev nD) (t : Fin cfg4.N) : (dat4 V c).after 3 t = blk4 V c 3 t := by dsimp only [dat4]
/-- Operand 4 of pallas_call 4 after a step. -/
theorem after4_4 (c : Dev nD) (t : Fin cfg4.N) : (dat4 V c).after 4 t = blk4 V c 4 t := by dsimp only [dat4]
/-- Operand 5 of pallas_call 4 after a step. -/
theorem after4_5 (c : Dev nD) (t : Fin cfg4.N) : (dat4 V c).after 5 t = k4_pay2 (blk4 V c 0 t) (blk4 V c 2 t) (blk4 V c 3 t) := by dsimp only [dat4]
/-- Operand 6 of pallas_call 4 after a step. -/
theorem after4_6 (c : Dev nD) (t : Fin cfg4.N) : (dat4 V c).after 6 t = prod4 V c t.val t.isLt := by dsimp only [dat4]

/-- An input's buffer holds its block at every point, fetched there or not. -/
theorem before4_0 (c : Dev nD) (t : Fin cfg4.N) (d) : (dat4 V c).before 0 t d = blk4 V c 0 t :=
  ((dat4 V c).before_in_eq_fetched 0 rfl (fun _ => rfl) (fun _ _ _ => rfl) (fun t => by rw [after4_0]; unfold Dat.blockOf blk4; rw [A_eq4]) t d).trans
    (by unfold Dat.fetched Dat.blockOf blk4; rw [A_eq4]; rfl)
/-- Operand 1 of pallas_call 4 before a step. -/
theorem before4_1 (c : Dev nD) (t : Fin cfg4.N) (d) : (dat4 V c).before 1 t d = blk4 V c 1 t :=
  ((dat4 V c).before_in_eq_fetched 1 rfl (fun _ => rfl) (fun _ _ _ => rfl) (fun t => by rw [after4_1]; unfold Dat.blockOf blk4; rw [A_eq4]) t d).trans
    (by unfold Dat.fetched Dat.blockOf blk4; rw [A_eq4]; rfl)
/-- Operand 2 of pallas_call 4 before a step. -/
theorem before4_2 (c : Dev nD) (t : Fin cfg4.N) (d) : (dat4 V c).before 2 t d = blk4 V c 2 t :=
  ((dat4 V c).before_in_eq_fetched 2 rfl (fun _ => rfl) (fun _ _ _ => rfl) (fun t => by rw [after4_2]; unfold Dat.blockOf blk4; rw [A_eq4]) t d).trans
    (by unfold Dat.fetched Dat.blockOf blk4; rw [A_eq4]; rfl)
/-- Operand 3 of pallas_call 4 before a step. -/
theorem before4_3 (c : Dev nD) (t : Fin cfg4.N) (d) : (dat4 V c).before 3 t d = blk4 V c 3 t :=
  ((dat4 V c).before_in_eq_fetched 3 rfl (fun _ => rfl) (fun _ _ _ => rfl) (fun t => by rw [after4_3]; unfold Dat.blockOf blk4; rw [A_eq4]) t d).trans
    (by unfold Dat.fetched Dat.blockOf blk4; rw [A_eq4]; rfl)
/-- Operand 4 of pallas_call 4 before a step. -/
theorem before4_4 (c : Dev nD) (t : Fin cfg4.N) (d) : (dat4 V c).before 4 t d = blk4 V c 4 t :=
  ((dat4 V c).before_in_eq_fetched 4 rfl (fun _ => rfl) (fun _ _ _ => rfl) (fun t => by rw [after4_4]; unfold Dat.blockOf blk4; rw [A_eq4]) t d).trans
    (by unfold Dat.fetched Dat.blockOf blk4; rw [A_eq4]; rfl)

/-- The accumulated output's buffer holds, at a later point, what the point before left. -/
theorem before4_6 (c : Dev nD) (t : Fin cfg4.N) (ht : t.val ≠ 0) (d) :
    (dat4 V c).before 6 t d = prod4 V c (t.val - 1) (Nat.lt_of_le_of_lt (Nat.sub_le _ _) t.isLt) := by
  rw [before_carried (dat4 V c) 6 rfl (fun _ _ => rfl) (live4 6) (by decide +kernel) t ht d]
  dsimp only [dat4]

/-- Window `w`'s staging buffer at point `t`. -/
abbrev stg4 (t : Fin cfg4.N) (w : Fin cfg4.W) := (cfg4.win w).stage (cfg4.slots t w)

set_option maxHeartbeats 1000000 in
/-- The body at any point, from what its windows' buffers hold before it to what they hold after. -/
theorem sound_body4 (c : Dev nD) (t : Fin cfg4.N) :
    iprop((dat4 V c).Φ t.castSucc ∗ (dat4 V c).owesAt () t.castSucc
      ∗ (∃ d, owns (c : Thread nD τ) (stg4 t 0) fullShare ((dat4 V c).before 0 t d))
      ∗ (∃ d, owns (c : Thread nD τ) (stg4 t 1) fullShare ((dat4 V c).before 1 t d))
      ∗ (∃ d, owns (c : Thread nD τ) (stg4 t 2) fullShare ((dat4 V c).before 2 t d))
      ∗ (∃ d, owns (c : Thread nD τ) (stg4 t 3) fullShare ((dat4 V c).before 3 t d))
      ∗ (∃ d, owns (c : Thread nD τ) (stg4 t 4) fullShare ((dat4 V c).before 4 t d))
      ∗ (∃ d, owns (c : Thread nD τ) (stg4 t 5) fullShare ((dat4 V c).before 5 t d))
      ∗ (∃ d, owns (c : Thread nD τ) (stg4 t 6) fullShare ((dat4 V c).before 6 t d)))
    ⊢ wp frame (wpE (defs₀ (F := F)) Variants.none c none) Set.univ (bodyAt4 t) (fun _ =>
      iprop((dat4 V c).Φ t.succ ∗ (dat4 V c).owesAt () t.succ
        ∗ (dat4 V c).leavesExact 0 t ∗ (dat4 V c).leavesExact 1 t ∗ (dat4 V c).leavesExact 2 t ∗ (dat4 V c).leavesExact 3 t ∗ (dat4 V c).leavesExact 4 t ∗ (dat4 V c).leavesExact 5 t ∗ (dat4 V c).leavesExact 6 t)) := by
  unfold bodyAt4
  simp only [before4_0, before4_1, before4_2, before4_3, before4_4]
  rw [leaves_live _ 0 t (live4 0 t), leaves_live _ 1 t (live4 1 t), leaves_live _ 2 t (live4 2 t), leaves_live _ 3 t (live4 3 t), leaves_live _ 4 t (live4 4 t), leaves_live _ 5 t (live4 5 t), leaves_live _ 6 t (live4 6 t),
    after4_0, after4_1, after4_2, after4_3, after4_4, after4_5, after4_6,
    show (dat4 V c).Φ t.succ = (dat4 V c).Φ t.castSucc from rfl,
    show (dat4 V c).owesAt () t.succ = (dat4 V c).owesAt () t.castSucc from rfl]
  by_cases h0 : t.val = 0
  · rw [show prod4 V c t.val t.isLt = k4_pay3 (blk4 V c 0 t) (blk4 V c 1 t) (blk4 V c 4 t) from acc_first _ _ t h0]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (body4_first c (grid4.coords t) _ _ _ _ _ _ _ _ _ _ _ _ _ _ (blk4 V c 0 t) (blk4 V c 1 t) (blk4 V c 2 t) (blk4 V c 3 t) (blk4 V c 4 t)
      ((first4 t).mpr h0) (fun h => (later4 t).mp h h0) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    unfold post4
    iintro H
    isplitl [HΦ]; · iexact HΦ
    isplitl [Ho]; · iexact Ho
    iexact H
  · rw [show prod4 V c t.val t.isLt = k4_pay1 (k4_pay3 (blk4 V c 0 t) (blk4 V c 1 t) (blk4 V c 4 t)) _ from acc_next _ _ t h0]
    simp only [before4_6 V c t h0]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (body4_later c (grid4.coords t) _ _ _ _ _ _ _ _ _ _ _ _ _ _ (blk4 V c 0 t) (blk4 V c 1 t) (blk4 V c 2 t) (blk4 V c 3 t) (blk4 V c 4 t) _
      (fun h => h0 ((first4 t).mp h)) ((later4 t).mpr h0) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    unfold post4
    iintro H
    isplitl [HΦ]; · iexact HΦ
    isplitl [Ho]; · iexact Ho
    iexact H

/-- The call's body obligation, at every point. -/
theorem obligation4 (c : Dev nD) : BodyObligation (dat4 (F := F) V c) (defs₀ (F := F)) Variants.none () Set.univ := fun t => by
  rw [bigSep_W4, bigSep_W4, show defs₀ (F := F) .tc cfg4.body (cfg4.bodyArgs t (cfg4.slots t)) = bodyAt4 t from by
    unfold defs₀; rw [Defs.onTc_tc]]
  exact triple_restated (sound_body4 V c t) rfl .rfl fun _ => .rfl

end Cert.KernelIdeal.Run

end
-- ==== Proof.Run.Cell1.lean ====
/- The second layer's gated cell, for one of the four batch columns, and its projection. -/
module

public import proofs.«01_k».proof.Proof.Run.Cell0

@[expose] public section

set_option maxRecDepth 16384

noncomputable section

namespace Cert.KernelIdeal.Run

open Cert.KernelIdeal Cert.KernelIdeal.Gen
open Idealize.ShloMosaic Idealize.ShloMosaic.TcCoe

variable {F : FTy → Type} [FloatOps F]

/-- A batch's 64 columns lie within a 256-column block. -/
theorem columns_in (b : Fin 4) : S792x256.Slices ![0, 64 * b.val] S792x64 :=
  ⟨rfl, fun a => by
    have := b.isLt
    fin_cases a
    · show 0 + 792 ≤ 792; omega
    · show 64 * b.val + 64 ≤ 256; omega⟩

/-- A batch's 64 columns of a 256-column block. -/
def columnsOf {α : Type} (x : S792x256.Idx → α) (b : Fin 4) : S792x64.Idx → α := extractStridedSlice S792x64 ![0, 64 * b.val] x (columns_in b)

/-- The five terms of a batch, side by side. -/
def terms1 (x0 : Vec F S792x256 .f32) (x1 x2 : Vec F S792x256 .bf16) (x3 x4 : Vec F S792x256 .f32) (b : Fin 4) : FVec F S792x320 .bf16 :=
  concatenate S792x320 1 [⟨S792x64, (columnsOf (k5_pay6 x0) b : FVec F S792x64 .bf16)⟩, ⟨S792x64, (columnsOf (k5_pay7 x1) b : FVec F S792x64 .bf16)⟩,
    ⟨S792x64, (columnsOf (k5_pay8 x2) b : FVec F S792x64 .bf16)⟩, ⟨S792x64, (columnsOf (k5_pay9 x3) b : FVec F S792x64 .bf16)⟩,
    ⟨S792x64, (columnsOf (k5_pay10 x0 x4) b : FVec F S792x64 .bf16)⟩] concatenates_S792x64_S792x64_S792x64_S792x64_S792x64_S792x320_d1

/-- A gate before its nonlinearity: the terms times the weights, plus the bias. -/
def gate1 (z : FVec F S792x320 .bf16) (w : Vec F S320x64 .bf16) (bias : Vec F S1x64 .f32) : FVec F S792x64 .f32 :=
  addf (matmul dot_S792x320_S320x64_S792x64_1_0_0_1_n_n none z (shapeCast S320x64 w shapeCasts_S320x64_S320x64 : FVec F S320x64 .bf16) (constant S792x64 .f32 0x00000000#32))
    (broadcastTo S792x64 (shapeCast S1x64 bias shapeCasts_S1x64_S1x64 : FVec F S1x64 .f32) broadcasts_S1x64_S792x64)

/-- The cell's value for batch column `b`: one minus the update gate, times the candidate. -/
def cell1 (x0 : Vec F S792x256 .f32) (x1 x2 : Vec F S792x256 .bf16) (x3 x4 : Vec F S792x256 .f32) (x5 x6 : Vec F S320x64 .bf16) (x7 x8 : Vec F S1x64 .f32)
    (b : Fin 4) : FVec F S792x64 .f32 :=
  mulf (subf (broadcast S792x64 (Scalar.ofBits .f32 0x3F800000#32 : F .f32)) (logistic (gate1 (terms1 x0 x1 x2 x3 x4 b) x5 x7)))
    (tanh (gate1 (terms1 x0 x1 x2 x3 x4 b) x6 x8))

/-- The cell reads its blocks whole, so loading them whole first changes nothing. -/
theorem cell1_loaded (x0 : Vec F S792x256 .f32) (x1 x2 : Vec F S792x256 .bf16) (x3 x4 : Vec F S792x256 .f32) (x5 x6 : Vec F S320x64 .bf16) (x7 x8 : Vec F S1x64 .f32)
    (b : Fin 4) (i0 : ∀ a, (![0, 0] : Fin 2 → ℕ) a + S792x256.size a ≤ S792x256.size a) (i5 : ∀ a, (![0, 0] : Fin 2 → ℕ) a + S320x64.size a ≤ S320x64.size a)
    (i7 : ∀ a, (![0, 0] : Fin 2 → ℕ) a + S1x64.size a ≤ S1x64.size a) :
    cell1 (View.ld x0 (Rect.unit ![0, 0] S792x256.size i0)) (View.ld x1 (Rect.unit ![0, 0] S792x256.size i0)) (View.ld x2 (Rect.unit ![0, 0] S792x256.size i0))
      (View.ld x3 (Rect.unit ![0, 0] S792x256.size i0)) (View.ld x4 (Rect.unit ![0, 0] S792x256.size i0)) (View.ld x5 (Rect.unit ![0, 0] S320x64.size i5))
      (View.ld x6 (Rect.unit ![0, 0] S320x64.size i5)) (View.ld x7 (Rect.unit ![0, 0] S1x64.size i7)) (View.ld x8 (Rect.unit ![0, 0] S1x64.size i7)) b
      = cell1 x0 x1 x2 x3 x4 x5 x6 x7 x8 b := by
  have z : (![0, 0] : Fin 2 → ℕ) = fun _ => 0 := funext fun a => by fin_cases a <;> rfl
  rw [View.ld_unit_zero (S := S792x256) z i0 x0, View.ld_unit_zero (S := S792x256) z i0 x1, View.ld_unit_zero (S := S792x256) z i0 x2,
    View.ld_unit_zero (S := S792x256) z i0 x3, View.ld_unit_zero (S := S792x256) z i0 x4, View.ld_unit_zero (S := S320x64) z i5 x5,
    View.ld_unit_zero (S := S320x64) z i5 x6, View.ld_unit_zero (S := S1x64) z i7 x7, View.ld_unit_zero (S := S1x64) z i7 x8]

/-- The projection of a batch's cell: its rounded values weighted and summed, plus the bias. -/
def project1 (h : FVec F S792x64 .f32) (x9 : Vec F S1x64 .bf16) (x10 : Vec F S1x1 .f32) : FVec F S792x1 .f32 :=
  shapeCast S792x1 (addf (multiReduction .add [1] S792 (mulf (extf .f32 (truncf .bf16 h bitsLt_bf16_f32 : FVec F S792x64 .bf16) bitsLt_bf16_f32)
      (broadcastTo S792x64 (k5_pay13 x9) broadcasts_S1x64_S792x64)) 0x00000000#32 reduces_S792x64_S792 (.inl rfl) rfl)
    (broadcast S792 (extractAt ![0, 0] x10 inpos_S1x1_p0_0)) : FVec F S792 .f32) shapeCasts_S792_S792x1

/-- The two layers' hidden states of a batch: the first layer's columns, the second layer's cell. -/
def hidden1 (x0 : Vec F S792x256 .f32) (g : Fin 4 → FVec F S792x64 .f32) (l : Fin 2) (b : Fin 4) : FVec F S792x64 .f32 :=
  if l = 0 then columnsOf (k5_pay5 x0) b else g b

/-- Loading the first layer's block whole first changes no hidden state. -/
theorem hidden1_loaded (x0 : Vec F S792x256 .f32) (g g' : Fin 4 → FVec F S792x64 .f32) (h : ∀ b, g b = g' b) (l : Fin 2) (b : Fin 4)
    (i0 : ∀ a, (![0, 0] : Fin 2 → ℕ) a + S792x256.size a ≤ S792x256.size a) :
    hidden1 (View.ld x0 (Rect.unit ![0, 0] S792x256.size i0)) g l b = hidden1 x0 g' l b := by
  have z : (![0, 0] : Fin 2 → ℕ) = fun _ => 0 := funext fun a => by fin_cases a <;> rfl
  rw [View.ld_unit_zero (S := S792x256) z i0 x0, funext h]

/-- The projection of the cell's value for batch column `b`. -/
def projected1 (x0 : Vec F S792x256 .f32) (x1 x2 : Vec F S792x256 .bf16) (x3 x4 : Vec F S792x256 .f32) (x5 x6 : Vec F S320x64 .bf16) (x7 x8 : Vec F S1x64 .f32)
    (x9 : Vec F S1x64 .bf16) (x10 : Vec F S1x1 .f32) (b : Fin 4) : FVec F S792x1 .f32 := project1 (cell1 x0 x1 x2 x3 x4 x5 x6 x7 x8 b) x9 x10

/-- The projection reads its blocks whole too. -/
theorem projected1_loaded (x0 : Vec F S792x256 .f32) (x1 x2 : Vec F S792x256 .bf16) (x3 x4 : Vec F S792x256 .f32) (x5 x6 : Vec F S320x64 .bf16)
    (x7 x8 : Vec F S1x64 .f32) (x9 : Vec F S1x64 .bf16) (x10 : Vec F S1x1 .f32)
    (b : Fin 4) (i0 : ∀ a, (![0, 0] : Fin 2 → ℕ) a + S792x256.size a ≤ S792x256.size a) (i5 : ∀ a, (![0, 0] : Fin 2 → ℕ) a + S320x64.size a ≤ S320x64.size a)
    (i7 : ∀ a, (![0, 0] : Fin 2 → ℕ) a + S1x64.size a ≤ S1x64.size a) (i10 : ∀ a, (![0, 0] : Fin 2 → ℕ) a + S1x1.size a ≤ S1x1.size a) :
    projected1 (View.ld x0 (Rect.unit ![0, 0] S792x256.size i0)) (View.ld x1 (Rect.unit ![0, 0] S792x256.size i0)) (View.ld x2 (Rect.unit ![0, 0] S792x256.size i0))
      (View.ld x3 (Rect.unit ![0, 0] S792x256.size i0)) (View.ld x4 (Rect.unit ![0, 0] S792x256.size i0)) (View.ld x5 (Rect.unit ![0, 0] S320x64.size i5))
      (View.ld x6 (Rect.unit ![0, 0] S320x64.size i5)) (View.ld x7 (Rect.unit ![0, 0] S1x64.size i7)) (View.ld x8 (Rect.unit ![0, 0] S1x64.size i7))
      (View.ld x9 (Rect.unit ![0, 0] S1x64.size i7)) (View.ld x10 (Rect.unit ![0, 0] S1x1.size i10)) b
      = projected1 x0 x1 x2 x3 x4 x5 x6 x7 x8 x9 x10 b := by
  have z : (![0, 0] : Fin 2 → ℕ) = fun _ => 0 := funext fun a => by fin_cases a <;> rfl
  unfold projected1
  rw [cell1_loaded, View.ld_unit_zero (S := S1x64) z i7 x9, View.ld_unit_zero (S := S1x1) z i10 x10]

/-- A block's row and column, of an index of the stacked blocks. -/
def withinStack (y : S2x4x792x64.Idx) : S792x64.Idx :=
  fun a => match a with
    | ⟨0, _⟩ => ⟨(y 2).val, (y 2).isLt⟩
    | ⟨1, _⟩ => ⟨(y 3).val, (y 3).isLt⟩

/-- Blocks stacked by layer and batch. -/
def stacked {α : Type} (g : Fin 2 → Fin 4 → S792x64.Idx → α) : S2x4x792x64.Idx → α := fun y => g (y 0) (y 1) (withinStack y)

/-- A row, of an index of four columns. -/
def withinColumns (y : S792x4.Idx) : S792x1.Idx :=
  fun a => match a with
    | ⟨0, _⟩ => ⟨(y 0).val, (y 0).isLt⟩
    | ⟨1, _⟩ => ⟨0, Nat.one_pos⟩

/-- Four columns side by side. -/
def sideBySide {α : Type} (g : Fin 4 → S792x1.Idx → α) : S792x4.Idx → α := fun y => g (y 1) (withinColumns y)

/-- Stores of the four columns leave them side by side. -/
theorem canon_sideBySide {e : EltTy} (g : Fin 4 → S792x1.Idx → Elt F e)
    (i3 : ∀ a, (![0, 3] : Fin 2 → ℕ) a + S792x1.size a ≤ S792x4.size a) (i2 : ∀ a, (![0, 2] : Fin 2 → ℕ) a + S792x1.size a ≤ S792x4.size a)
    (i1 : ∀ a, (![0, 1] : Fin 2 → ℕ) a + S792x1.size a ≤ S792x4.size a) (i0 : ∀ a, (![0, 0] : Fin 2 → ℕ) a + S792x1.size a ≤ S792x4.size a) :
    View.canon [(⟨Rect.unit ![0, 3] S792x1.size i3, g 3⟩ : View.Piece (Elt F) S792x4 e), ⟨Rect.unit ![0, 2] S792x1.size i2, g 2⟩,
      ⟨Rect.unit ![0, 1] S792x1.size i1, g 1⟩, ⟨Rect.unit ![0, 0] S792x1.size i0, g 0⟩] = sideBySide g := by
  have key : ∀ (b : Fin 4) (o : ℕ) (ho : o = b.val) (inb : ∀ a, (![0, o] : Fin 2 → ℕ) a + S792x1.size a ≤ S792x4.size a) (x : S792x1.Idx),
      g b x = sideBySide g ((Rect.unit (s := S792x4) ![0, o] S792x1.size inb).emb x) := by
    intro b o ho inb x
    have h1 : (x 1).val < 1 := (x 1).isLt
    have e1 : ((Rect.unit (s := S792x4) ![0, o] S792x1.size inb).emb x 1).val = o + 1 * (x 1).val := rfl
    have e0 : ((Rect.unit (s := S792x4) ![0, o] S792x1.size inb).emb x 0).val = 0 + 1 * (x 0).val := rfl
    have hb : ((Rect.unit (s := S792x4) ![0, o] S792x1.size inb).emb x 1 : Fin 4) = b := Fin.ext (by rw [e1]; omega)
    have hw : withinColumns ((Rect.unit (s := S792x4) ![0, o] S792x1.size inb).emb x) = x := funext fun a => by
      fin_cases a
      · exact Fin.ext (by show ((Rect.unit (s := S792x4) ![0, o] S792x1.size inb).emb x 0).val = (x 0).val; rw [e0]; omega)
      · exact Fin.ext (by show 0 = (x 1).val; omega)
    unfold sideBySide; rw [hb, hw]
  funext y
  refine View.canon_apply_of_pieces (sideBySide g) _ ?_ y ?_
  on_goal 2 => exact View.cover_of_tiled (s := S792x4) _ S792x1.size (by rfl) y
  intro p hp x
  simp only [List.mem_cons, List.not_mem_nil, or_false] at hp
  rcases hp with rfl | rfl | rfl | rfl
  · exact key 3 3 rfl i3 x
  · exact key 2 2 rfl i2 x
  · exact key 1 1 rfl i1 x
  · exact key 0 0 rfl i0 x

/-- A layer's and batch's block lies within the stack. -/
theorem block_in (l : Fin 2) (b : Fin 4) : ∀ a, (![l.val, b.val, 0, 0] : Fin 4 → ℕ) a + S1x1x792x64.size a ≤ S2x4x792x64.size a := fun a => by
  have := l.isLt
  have := b.isLt
  fin_cases a
  · show l.val + 1 ≤ 2; omega
  · show b.val + 1 ≤ 4; omega
  · show 0 + 792 ≤ 792; omega
  · show 0 + 64 ≤ 64; omega

/-- Stores of the eight blocks at their layers and batches leave them stacked. -/
theorem canon_stacked (g : Fin 2 → Fin 4 → S792x64.Idx → Elt F .f32)
    (i : ∀ (l : Fin 2) (b : Fin 4), ∀ a, (![l.val, b.val, 0, 0] : Fin 4 → ℕ) a + S1x1x792x64.size a ≤ S2x4x792x64.size a) :
    View.canon [(⟨Rect.unit ![1, 3, 0, 0] S1x1x792x64.size (i 1 3), shapeCast S1x1x792x64 (g 1 3) shapeCasts_S792x64_S1x1x792x64⟩ : View.Piece (Elt F) S2x4x792x64 .f32),
      ⟨Rect.unit ![0, 3, 0, 0] S1x1x792x64.size (i 0 3), shapeCast S1x1x792x64 (g 0 3) shapeCasts_S792x64_S1x1x792x64⟩,
      ⟨Rect.unit ![1, 2, 0, 0] S1x1x792x64.size (i 1 2), shapeCast S1x1x792x64 (g 1 2) shapeCasts_S792x64_S1x1x792x64⟩,
      ⟨Rect.unit ![0, 2, 0, 0] S1x1x792x64.size (i 0 2), shapeCast S1x1x792x64 (g 0 2) shapeCasts_S792x64_S1x1x792x64⟩,
      ⟨Rect.unit ![1, 1, 0, 0] S1x1x792x64.size (i 1 1), shapeCast S1x1x792x64 (g 1 1) shapeCasts_S792x64_S1x1x792x64⟩,
      ⟨Rect.unit ![0, 1, 0, 0] S1x1x792x64.size (i 0 1), shapeCast S1x1x792x64 (g 0 1) shapeCasts_S792x64_S1x1x792x64⟩,
      ⟨Rect.unit ![1, 0, 0, 0] S1x1x792x64.size (i 1 0), shapeCast S1x1x792x64 (g 1 0) shapeCasts_S792x64_S1x1x792x64⟩,
      ⟨Rect.unit ![0, 0, 0, 0] S1x1x792x64.size (i 0 0), shapeCast S1x1x792x64 (g 0 0) shapeCasts_S792x64_S1x1x792x64⟩] = stacked g := by
  have key : ∀ (l : Fin 2) (b : Fin 4) (x : S1x1x792x64.Idx),
      shapeCast S1x1x792x64 (g l b) shapeCasts_S792x64_S1x1x792x64 x
        = stacked g ((Rect.unit (s := S2x4x792x64) ![l.val, b.val, 0, 0] S1x1x792x64.size (i l b)).emb x) := by
    intro l b x
    have e0 : ((Rect.unit (s := S2x4x792x64) ![l.val, b.val, 0, 0] S1x1x792x64.size (i l b)).emb x 0).val = l.val + 1 * (x 0).val := rfl
    have e1 : ((Rect.unit (s := S2x4x792x64) ![l.val, b.val, 0, 0] S1x1x792x64.size (i l b)).emb x 1).val = b.val + 1 * (x 1).val := rfl
    have e2 : ((Rect.unit (s := S2x4x792x64) ![l.val, b.val, 0, 0] S1x1x792x64.size (i l b)).emb x 2).val = 0 + 1 * (x 2).val := rfl
    have e3 : ((Rect.unit (s := S2x4x792x64) ![l.val, b.val, 0, 0] S1x1x792x64.size (i l b)).emb x 3).val = 0 + 1 * (x 3).val := rfl
    have h0 : (x 0).val < 1 := (x 0).isLt
    have h1 : (x 1).val < 1 := (x 1).isLt
    have hl : ((Rect.unit (s := S2x4x792x64) ![l.val, b.val, 0, 0] S1x1x792x64.size (i l b)).emb x 0 : Fin 2) = l := Fin.ext (by rw [e0]; omega)
    have hb : ((Rect.unit (s := S2x4x792x64) ![l.val, b.val, 0, 0] S1x1x792x64.size (i l b)).emb x 1 : Fin 4) = b := Fin.ext (by rw [e1]; omega)
    unfold stacked; rw [hl, hb]
    refine shapeCast_apply _ _ _ _ ?_
    have r2 : ∀ i : S792x64.Idx, (S792x64.rowMajor i).val = (i 0).val * 64 + (i 1).val := fun i => Shape.rowMajor_val_two i
    have r4 : (S1x1x792x64.rowMajor x).val = (((x 0).val * 1 + (x 1).val) * 792 + (x 2).val) * 64 + (x 3).val := Shape.rowMajor_val_four x
    rw [r2, r4]
    have w0 : ∀ y, (withinStack y 0).val = (y 2).val := fun _ => rfl
    have w1 : ∀ y, (withinStack y 1).val = (y 3).val := fun _ => rfl
    rw [w0, w1, e2, e3]; omega
  funext y
  refine View.canon_apply_of_pieces (stacked g) _ ?_ y ?_
  on_goal 2 => exact View.cover_of_tiled (s := S2x4x792x64) _ S1x1x792x64.size (by rfl) y
  intro p hp x
  simp only [List.mem_cons, List.not_mem_nil, or_false] at hp
  rcases hp with rfl | rfl | rfl | rfl | rfl | rfl | rfl | rfl
  · exact key 1 3 x
  · exact key 0 3 x
  · exact key 1 2 x
  · exact key 0 2 x
  · exact key 1 1 x
  · exact key 0 1 x
  · exact key 1 0 x
  · exact key 0 0 x

end Cert.KernelIdeal.Run

end
-- ==== Proof.Run.Region5.lean ====
/- The sixth pallas_call: what its body leaves at each grid point, and its obligation. -/
module

public import proofs.«01_k».proof.Proof.Run.Cell1

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 4000000 in
/-- The body, from its inputs' blocks: each output's four batch columns are stored in turn and fill the buffer. -/
theorem body5 (c : Dev nD) (i : grid5.Coords)
  (arg1 : Memref sig .tc .vmem S792x256 .f32) (harg1 : arg1.IsWhole)
  (arg2 : Memref sig .tc .vmem S792x256 .bf16) (harg2 : arg2.IsWhole)
  (arg3 : Memref sig .tc .vmem S792x256 .bf16) (harg3 : arg3.IsWhole)
  (arg4 : Memref sig .tc .vmem S792x256 .f32) (harg4 : arg4.IsWhole)
  (arg5 : Memref sig .tc .vmem S792x256 .f32) (harg5 : arg5.IsWhole)
  (arg6 : Memref sig .tc .vmem S320x64 .bf16) (harg6 : arg6.IsWhole)
  (arg7 : Memref sig .tc .vmem S320x64 .bf16) (harg7 : arg7.IsWhole)
  (arg8 : Memref sig .tc .vmem S1x64 .f32) (harg8 : arg8.IsWhole)
  (arg9 : Memref sig .tc .vmem S1x64 .f32) (harg9 : arg9.IsWhole)
  (arg10 : Memref sig .tc .vmem S1x64 .bf16) (harg10 : arg10.IsWhole)
  (arg11 : Memref sig .tc .vmem S1x1 .f32) (harg11 : arg11.IsWhole)
  (arg12 : Memref sig .tc .vmem S2x4x792x64 .f32) (harg12 : arg12.IsWhole)
  (arg13 : Memref sig .tc .vmem S792x4 .f32) (harg13 : arg13.IsWhole)
  (x0 : Vec F S792x256 .f32) (x1 : Vec F S792x256 .bf16) (x2 : Vec F S792x256 .bf16) (x3 : Vec F S792x256 .f32) (x4 : Vec F S792x256 .f32) (x5 : Vec F S320x64 .bf16) (x6 : Vec F S320x64 .bf16) (x7 : Vec F S1x64 .f32) (x8 : Vec F S1x64 .f32) (x9 : Vec F S1x64 .bf16) (x10 : Vec F S1x1 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10
        ∗ (∃ d, owns (c : Thread nD τ) arg12 fullShare d) ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10
          ∗ owns (c : Thread nD τ) arg12 fullShare (stacked (hidden1 x0 (cell1 x0 x1 x2 x3 x4 x5 x6 x7 x8))) ∗ owns (c : Thread nD τ) arg13 fullShare (sideBySide (projected1 x0 x1 x2 x3 x4 x5 x6 x7 x8 x9 x10))) -∗ K ⟨⟩))
      ⊢ wp frame (wpE (defs₀ (F := F)) Variants.none c none) E (cc5__pw1_body i arg1 harg1 arg2 harg2 arg3 harg3 arg4 harg4 arg5 harg5 arg6 harg6 arg7 harg7 arg8 harg8 arg9 harg9 arg10 harg10 arg11 harg11 arg12 harg12 arg13 harg13) K := by
  simp only [cc5__pw1_body_eq_skeleton]; unfold cc5__pw1_body_skel
  simp only [k5_part1_eq_skeleton, k5_part2_eq_skeleton, k5_part3_eq_skeleton, k5_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists _; isplitr
    swap; · iexact H11
    ipureintro
    refine (View.read_writes_eq_canon _ _ _ (fun y => View.cover_of_tiled (s := S2x4x792x64) _ S1x1x792x64.size (by rfl) y)).trans ?_
    refine Eq.trans ?_ (congrArg stacked (funext fun l => funext fun b => hidden1_loaded _ _ _ (fun b => cell1_loaded _ _ _ _ _ _ _ _ _ b inb_S792x256_S792x256_0_0 inb_S320x64_S320x64_0_0 inb_S1x64_S1x64_0_0) l b inb_S792x256_S792x256_0_0))
    refine Eq.trans ?_ (canon_stacked (F := F) _ block_in)
    rfl
  iexists _; isplitr
  swap; · iexact H12
  ipureintro
  refine (View.read_writes_eq_canon _ _ _ (fun y => View.cover_of_tiled (s := S792x4) _ S792x1.size (by rfl) y)).trans ?_
  refine Eq.trans ?_ (congrArg sideBySide (funext fun b => projected1_loaded _ _ _ _ _ _ _ _ _ _ _ b inb_S792x256_S792x256_0_0 inb_S320x64_S320x64_0_0 inb_S1x64_S1x64_0_0 inb_S1x1_S1x1_0_0))
  refine Eq.trans ?_ (canon_sideBySide (F := F) _ inb_S792x4_S792x1_0_3 inb_S792x4_S792x1_0_2 inb_S792x4_S792x1_0_1 inb_S792x4_S792x1_0_0)
  rfl

/-- Window `w`'s block at point `t`, read off its array as the call finds it. -/
def blk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- No window is idle at any point. -/
theorem live5 (w : Fin cfg5.W) : ∀ t : Fin cfg5.N, cfg5.idle w (cfg5.grid.coords t) = false := by
  revert w; decide +kernel

/-- The call's proof data: the inputs' buffers keep their blocks, the outputs' hold what the body leaves. -/
def dat5 (c : Dev nD) : Dat τ (Elt F) Unit ℕ (UR sig nD τ) ℕ cfg5 c where
  A w := V c (Pipeline.arrRef spec5 w)
  after w t := match w with
    | ⟨0, _⟩ => blk5 V c 0 t
    | ⟨1, _⟩ => blk5 V c 1 t
    | ⟨2, _⟩ => blk5 V c 2 t
    | ⟨3, _⟩ => blk5 V c 3 t
    | ⟨4, _⟩ => blk5 V c 4 t
    | ⟨5, _⟩ => blk5 V c 5 t
    | ⟨6, _⟩ => blk5 V c 6 t
    | ⟨7, _⟩ => blk5 V c 7 t
    | ⟨8, _⟩ => blk5 V c 8 t
    | ⟨9, _⟩ => blk5 V c 9 t
    | ⟨10, _⟩ => blk5 V c 10 t
    | ⟨11, _⟩ => stacked (hidden1 (blk5 V c 0 t) (cell1 (blk5 V c 0 t) (blk5 V c 1 t) (blk5 V c 2 t) (blk5 V c 3 t) (blk5 V c 4 t) (blk5 V c 5 t) (blk5 V c 6 t) (blk5 V c 7 t) (blk5 V c 8 t)))
    | ⟨12, _⟩ => sideBySide (projected1 (blk5 V c 0 t) (blk5 V c 1 t) (blk5 V c 2 t) (blk5 V c 3 t) (blk5 V c 4 t) (blk5 V c 5 t) (blk5 V c 6 t) (blk5 V c 7 t) (blk5 V c 8 t) (blk5 V c 9 t) (blk5 V c 10 t))
  Φ _ := Pipeline.ΦA spec5 c
  q _ := fullShare
  owed _ := 0

/-- The arrays as the call finds them. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = blk5 V c 0 t := by dsimp only [dat5]
/-- Operand 1 of pallas_call 5 after a step. -/
theorem after5_1 (c : Dev nD) (t : Fin cfg5.N) : (dat5 V c).after 1 t = blk5 V c 1 t := by dsimp only [dat5]
/-- Operand 2 of pallas_call 5 after a step. -/
theorem after5_2 (c : Dev nD) (t : Fin cfg5.N) : (dat5 V c).after 2 t = blk5 V c 2 t := by dsimp only [dat5]
/-- Operand 3 of pallas_call 5 after a step. -/
theorem after5_3 (c : Dev nD) (t : Fin cfg5.N) : (dat5 V c).after 3 t = blk5 V c 3 t := by dsimp only [dat5]
/-- Operand 4 of pallas_call 5 after a step. -/
theorem after5_4 (c : Dev nD) (t : Fin cfg5.N) : (dat5 V c).after 4 t = blk5 V c 4 t := by dsimp only [dat5]
/-- Operand 5 of pallas_call 5 after a step. -/
theorem after5_5 (c : Dev nD) (t : Fin cfg5.N) : (dat5 V c).after 5 t = blk5 V c 5 t := by dsimp only [dat5]
/-- Operand 6 of pallas_call 5 after a step. -/
theorem after5_6 (c : Dev nD) (t : Fin cfg5.N) : (dat5 V c).after 6 t = blk5 V c 6 t := by dsimp only [dat5]
/-- Operand 7 of pallas_call 5 after a step. -/
theorem after5_7 (c : Dev nD) (t : Fin cfg5.N) : (dat5 V c).after 7 t = blk5 V c 7 t := by dsimp only [dat5]
/-- Operand 8 of pallas_call 5 after a step. -/
theorem after5_8 (c : Dev nD) (t : Fin cfg5.N) : (dat5 V c).after 8 t = blk5 V c 8 t := by dsimp only [dat5]
/-- Operand 9 of pallas_call 5 after a step. -/
theorem after5_9 (c : Dev nD) (t : Fin cfg5.N) : (dat5 V c).after 9 t = blk5 V c 9 t := by dsimp only [dat5]
/-- Operand 10 of pallas_call 5 after a step. -/
theorem after5_10 (c : Dev nD) (t : Fin cfg5.N) : (dat5 V c).after 10 t = blk5 V c 10 t := by dsimp only [dat5]
/-- Operand 11 of pallas_call 5 after a step. -/
theorem after5_11 (c : Dev nD) (t : Fin cfg5.N) : (dat5 V c).after 11 t = stacked (hidden1 (blk5 V c 0 t) (cell1 (blk5 V c 0 t) (blk5 V c 1 t) (blk5 V c 2 t) (blk5 V c 3 t) (blk5 V c 4 t) (blk5 V c 5 t) (blk5 V c 6 t) (blk5 V c 7 t) (blk5 V c 8 t))) := by dsimp only [dat5]
/-- Operand 12 of pallas_call 5 after a step. -/
theorem after5_12 (c : Dev nD) (t : Fin cfg5.N) : (dat5 V c).after 12 t = sideBySide (projected1 (blk5 V c 0 t) (blk5 V c 1 t) (blk5 V c 2 t) (blk5 V c 3 t) (blk5 V c 4 t) (blk5 V c 5 t) (blk5 V c 6 t) (blk5 V c 7 t) (blk5 V c 8 t) (blk5 V c 9 t) (blk5 V c 10 t)) := by dsimp only [dat5]

/-- An input's buffer holds its block at every point, fetched there or not. -/
theorem before5_0 (c : Dev nD) (t : Fin cfg5.N) (d) : (dat5 V c).before 0 t d = blk5 V c 0 t :=
  ((dat5 V c).before_in_eq_fetched 0 rfl (fun _ => rfl) (fun _ _ _ => rfl) (fun t => by rw [after5_0]; unfold Dat.blockOf blk5; rw [A_eq5]) t d).trans
    (by unfold Dat.fetched Dat.blockOf blk5; rw [A_eq5]; rfl)
/-- Operand 1 of pallas_call 5 before a step. -/
theorem before5_1 (c : Dev nD) (t : Fin cfg5.N) (d) : (dat5 V c).before 1 t d = blk5 V c 1 t :=
  ((dat5 V c).before_in_eq_fetched 1 rfl (fun _ => rfl) (fun _ _ _ => rfl) (fun t => by rw [after5_1]; unfold Dat.blockOf blk5; rw [A_eq5]) t d).trans
    (by unfold Dat.fetched Dat.blockOf blk5; rw [A_eq5]; rfl)
/-- Operand 2 of pallas_call 5 before a step. -/
theorem before5_2 (c : Dev nD) (t : Fin cfg5.N) (d) : (dat5 V c).before 2 t d = blk5 V c 2 t :=
  ((dat5 V c).before_in_eq_fetched 2 rfl (fun _ => rfl) (fun _ _ _ => rfl) (fun t => by rw [after5_2]; unfold Dat.blockOf blk5; rw [A_eq5]) t d).trans
    (by unfold Dat.fetched Dat.blockOf blk5; rw [A_eq5]; rfl)
/-- Operand 3 of pallas_call 5 before a step. -/
theorem before5_3 (c : Dev nD) (t : Fin cfg5.N) (d) : (dat5 V c).before 3 t d = blk5 V c 3 t :=
  ((dat5 V c).before_in_eq_fetched 3 rfl (fun _ => rfl) (fun _ _ _ => rfl) (fun t => by rw [after5_3]; unfold Dat.blockOf blk5; rw [A_eq5]) t d).trans
    (by unfold Dat.fetched Dat.blockOf blk5; rw [A_eq5]; rfl)
/-- Operand 4 of pallas_call 5 before a step. -/
theorem before5_4 (c : Dev nD) (t : Fin cfg5.N) (d) : (dat5 V c).before 4 t d = blk5 V c 4 t :=
  ((dat5 V c).before_in_eq_fetched 4 rfl (fun _ => rfl) (fun _ _ _ => rfl) (fun t => by rw [after5_4]; unfold Dat.blockOf blk5; rw [A_eq5]) t d).trans
    (by unfold Dat.fetched Dat.blockOf blk5; rw [A_eq5]; rfl)
/-- Operand 5 of pallas_call 5 before a step. -/
theorem before5_5 (c : Dev nD) (t : Fin cfg5.N) (d) : (dat5 V c).before 5 t d = blk5 V c 5 t :=
  ((dat5 V c).before_in_eq_fetched 5 rfl (fun _ => rfl) (fun _ _ _ => rfl) (fun t => by rw [after5_5]; unfold Dat.blockOf blk5; rw [A_eq5]) t d).trans
    (by unfold Dat.fetched Dat.blockOf blk5; rw [A_eq5]; rfl)
/-- Operand 6 of pallas_call 5 before a step. -/
theorem before5_6 (c : Dev nD) (t : Fin cfg5.N) (d) : (dat5 V c).before 6 t d = blk5 V c 6 t :=
  ((dat5 V c).before_in_eq_fetched 6 rfl (fun _ => rfl) (fun _ _ _ => rfl) (fun t => by rw [after5_6]; unfold Dat.blockOf blk5; rw [A_eq5]) t d).trans
    (by unfold Dat.fetched Dat.blockOf blk5; rw [A_eq5]; rfl)
/-- Operand 7 of pallas_call 5 before a step. -/
theorem before5_7 (c : Dev nD) (t : Fin cfg5.N) (d) : (dat5 V c).before 7 t d = blk5 V c 7 t :=
  ((dat5 V c).before_in_eq_fetched 7 rfl (fun _ => rfl) (fun _ _ _ => rfl) (fun t => by rw [after5_7]; unfold Dat.blockOf blk5; rw [A_eq5]) t d).trans
    (by unfold Dat.fetched Dat.blockOf blk5; rw [A_eq5]; rfl)
/-- Operand 8 of pallas_call 5 before a step. -/
theorem before5_8 (c : Dev nD) (t : Fin cfg5.N) (d) : (dat5 V c).before 8 t d = blk5 V c 8 t :=
  ((dat5 V c).before_in_eq_fetched 8 rfl (fun _ => rfl) (fun _ _ _ => rfl) (fun t => by rw [after5_8]; unfold Dat.blockOf blk5; rw [A_eq5]) t d).trans
    (by unfold Dat.fetched Dat.blockOf blk5; rw [A_eq5]; rfl)
/-- Operand 9 of pallas_call 5 before a step. -/
theorem before5_9 (c : Dev nD) (t : Fin cfg5.N) (d) : (dat5 V c).before 9 t d = blk5 V c 9 t :=
  ((dat5 V c).before_in_eq_fetched 9 rfl (fun _ => rfl) (fun _ _ _ => rfl) (fun t => by rw [after5_9]; unfold Dat.blockOf blk5; rw [A_eq5]) t d).trans
    (by unfold Dat.fetched Dat.blockOf blk5; rw [A_eq5]; rfl)
/-- Operand 10 of pallas_call 5 before a step. -/
theorem before5_10 (c : Dev nD) (t : Fin cfg5.N) (d) : (dat5 V c).before 10 t d = blk5 V c 10 t :=
  ((dat5 V c).before_in_eq_fetched 10 rfl (fun _ => rfl) (fun _ _ _ => rfl) (fun t => by rw [after5_10]; unfold Dat.blockOf blk5; rw [A_eq5]) t d).trans
    (by unfold Dat.fetched Dat.blockOf blk5; rw [A_eq5]; rfl)

/-- Window `w`'s staging buffer at point `t`. -/
abbrev stg5 (t : Fin cfg5.N) (w : Fin cfg5.W) := (cfg5.win w).stage (cfg5.slots t w)

set_option maxHeartbeats 1000000 in
/-- The body at any point, from what its windows' buffers hold before it to what they hold after. -/
theorem sound_body5 (c : Dev nD) (t : Fin cfg5.N) :
    iprop((dat5 V c).Φ t.castSucc ∗ (dat5 V c).owesAt () t.castSucc
      ∗ (∃ d, owns (c : Thread nD τ) (stg5 t 0) fullShare ((dat5 V c).before 0 t d))
      ∗ (∃ d, owns (c : Thread nD τ) (stg5 t 1) fullShare ((dat5 V c).before 1 t d))
      ∗ (∃ d, owns (c : Thread nD τ) (stg5 t 2) fullShare ((dat5 V c).before 2 t d))
      ∗ (∃ d, owns (c : Thread nD τ) (stg5 t 3) fullShare ((dat5 V c).before 3 t d))
      ∗ (∃ d, owns (c : Thread nD τ) (stg5 t 4) fullShare ((dat5 V c).before 4 t d))
      ∗ (∃ d, owns (c : Thread nD τ) (stg5 t 5) fullShare ((dat5 V c).before 5 t d))
      ∗ (∃ d, owns (c : Thread nD τ) (stg5 t 6) fullShare ((dat5 V c).before 6 t d))
      ∗ (∃ d, owns (c : Thread nD τ) (stg5 t 7) fullShare ((dat5 V c).before 7 t d))
      ∗ (∃ d, owns (c : Thread nD τ) (stg5 t 8) fullShare ((dat5 V c).before 8 t d))
      ∗ (∃ d, owns (c : Thread nD τ) (stg5 t 9) fullShare ((dat5 V c).before 9 t d))
      ∗ (∃ d, owns (c : Thread nD τ) (stg5 t 10) fullShare ((dat5 V c).before 10 t d))
      ∗ (∃ d, owns (c : Thread nD τ) (stg5 t 11) fullShare ((dat5 V c).before 11 t d))
      ∗ (∃ d, owns (c : Thread nD τ) (stg5 t 12) fullShare ((dat5 V c).before 12 t d)))
    ⊢ wp frame (wpE (defs₀ (F := F)) Variants.none c none) Set.univ (bodyAt5 t) (fun _ =>
      iprop((dat5 V c).Φ t.succ ∗ (dat5 V c).owesAt () t.succ
        ∗ (dat5 V c).leavesExact 0 t ∗ (dat5 V c).leavesExact 1 t ∗ (dat5 V c).leavesExact 2 t ∗ (dat5 V c).leavesExact 3 t ∗ (dat5 V c).leavesExact 4 t ∗ (dat5 V c).leavesExact 5 t ∗ (dat5 V c).leavesExact 6 t ∗ (dat5 V c).leavesExact 7 t ∗ (dat5 V c).leavesExact 8 t ∗ (dat5 V c).leavesExact 9 t ∗ (dat5 V c).leavesExact 10 t ∗ (dat5 V c).leavesExact 11 t ∗ (dat5 V c).leavesExact 12 t)) := by
  unfold bodyAt5
  simp only [before5_0, before5_1, before5_2, before5_3, before5_4, before5_5, before5_6, before5_7, before5_8, before5_9, before5_10]
  rw [leaves_live _ 0 t (live5 0 t), leaves_live _ 1 t (live5 1 t), leaves_live _ 2 t (live5 2 t), leaves_live _ 3 t (live5 3 t), leaves_live _ 4 t (live5 4 t), leaves_live _ 5 t (live5 5 t), leaves_live _ 6 t (live5 6 t), leaves_live _ 7 t (live5 7 t), leaves_live _ 8 t (live5 8 t), leaves_live _ 9 t (live5 9 t), leaves_live _ 10 t (live5 10 t), leaves_live _ 11 t (live5 11 t), leaves_live _ 12 t (live5 12 t),
    after5_0, after5_1, after5_2, after5_3, after5_4, after5_5, after5_6, after5_7, after5_8, after5_9, after5_10, after5_11, after5_12,
    show (dat5 V c).Φ t.succ = (dat5 V c).Φ t.castSucc from rfl,
    show (dat5 V c).owesAt () t.succ = (dat5 V c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (body5 c (grid5.coords t) _ _ _ _ _ _ _ _ _ _ _ _ _ _ _ _ _ _ _ _ _ _ _ _ _ _ (blk5 V c 0 t) (blk5 V c 1 t) (blk5 V c 2 t) (blk5 V c 3 t) (blk5 V c 4 t) (blk5 V c 5 t) (blk5 V c 6 t) (blk5 V c 7 t) (blk5 V c 8 t) (blk5 V c 9 t) (blk5 V c 10 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  iintro H
  isplitl [HΦ]; · iexact HΦ
  isplitl [Ho]; · iexact Ho
  iexact H

/-- The call's body obligation, at every point. -/
theorem obligation5 (c : Dev nD) : BodyObligation (dat5 (F := F) V c) (defs₀ (F := F)) Variants.none () Set.univ := fun t => by
  rw [bigSep_W5, bigSep_W5, show defs₀ (F := F) .tc cfg5.body (cfg5.bodyArgs t (cfg5.slots t)) = bodyAt5 t from by
    unfold defs₀; rw [Defs.onTc_tc]]
  exact triple_restated (sound_body5 V c t) rfl .rfl fun _ => .rfl

end Cert.KernelIdeal.Run

end
-- ==== Proof.Run.Fold.lean ====
/- The buffers at every boundary of @main, from the launch memory on. -/
module

public import Idealize.ShloMosaic.Lib.Pipeline.FrameSuffix
public import Idealize.ShloMosaic.Lib.Pipeline.RegionsLoop
public import Idealize.ShloMosaic.Lib.UnfoldOut
public import proofs.«01_k».proof.Proof.Run.Hosts
public import proofs.«01_k».proof.Proof.Run.Region0
public import proofs.«01_k».proof.Proof.Run.Region1
public import proofs.«01_k».proof.Proof.Run.Region2
public import proofs.«01_k».proof.Proof.Run.Region3
public import proofs.«01_k».proof.Proof.Run.Region4
public import proofs.«01_k».proof.Proof.Run.Region5

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- The arguments are as launched at boundary 0. -/
theorem W0_args (c : Dev nD) : ∀ a ∈ argRefs, W0 m ρ c (Proc.devRef .tc a) = m ((c : Thread nD τ).loc a) := fun _ _ => rfl
/-- After `hostOps0`. -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
/-- The arguments are as launched at boundary 1. -/
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- After `hostOps0_1` (region 0's entry). -/
abbrev W2 : Dev nD → Valuation τ sig (Elt F) := fun c => StableHlo.after hostOps0_1 (W1 m ρ c)
/-- A reference `hostOps0_1` does not write keeps its contents across it. -/
theorem W2_of (c : Dev nD) (r : Ref sig .tc) (h : r ∉ hostOps0_1_W) : W2 m ρ c (Proc.devRef .tc r) = W1 m ρ c (Proc.devRef .tc r) :=
  StableHlo.after_of_writes_sub hostOps0_1 _ hostOps0_1_writes h
/-- The arguments are as launched at boundary 2. -/
theorem W2_args (c : Dev nD) : ∀ a ∈ argRefs, W2 m ρ c (Proc.devRef .tc a) = m ((c : Thread nD τ).loc a) :=
  fun a ha => (W2_of m ρ c a (hostOps0_1_args a ha)).trans (W1_args m ρ c a ha)
/-- The same read at the TensorCore's references (what region 0's proof data take). -/
abbrev V2 : (c : Dev nD) → (b : Ref sig .tc) → Buf (Elt F) ((c : Thread nD τ).loc b) := fun c b => W2 m ρ c b
/-- At region 0's exit: its arrays at what the pipeline leaves (the inputs as entered, each output's write-backs
    folded: `Dat.arrAt … N`), every other buffer as entered. -/
def W3 (c : Dev nD) : Valuation τ sig (Elt F) :=
  Pipeline.withArrays spec0 c (W2 m ρ c) fun w => (dat0 (V2 m ρ) c).arrAt w cfg0.N
/-- An array of the pallas_call holds at boundary 3 what its pipeline leaves. -/
theorem W3_arr (c : Dev nD) (w : Fin cfg0.W) :
    W3 m ρ c (Proc.devRef .tc (Pipeline.arrRef spec0 w)) = (dat0 (V2 m ρ) c).arrAt w cfg0.N := by
  unfold W3; exact Pipeline.withArrays_arr spec0 launch0.win.arr_inj c _ _ w
/-- A buffer that is none of its arrays is unchanged at boundary 3. -/
theorem W3_of_ne (c : Dev nD) (b : Ref sig .tc) (hb : ∀ w, Pipeline.arrRef spec0 w ≠ b) :
    W3 m ρ c (Proc.devRef .tc b) = W2 m ρ c (Proc.devRef .tc b) := by
  unfold W3; exact Pipeline.withArrays_of_ne spec0 c _ _ b hb
/-- A reference that is none of region 0's OUTPUT arrays keeps its entry contents across it: an input window's
    array is never written back (`Dat.arrAt_in`, `A_eq0`); any other buffer is left as is. -/
theorem W3_of (c : Dev nD) (r : Ref sig .tc) (h : ∀ w : Fin cfg0.W, Pipeline.arrRef spec0 w = r → (cfg0.win w).isOut = false) :
    W3 m ρ c (Proc.devRef .tc r) = W2 m ρ c (Proc.devRef .tc r) := by
  by_cases hw : ∃ w : Fin cfg0.W, Pipeline.arrRef spec0 w = r
  · obtain ⟨w, rfl⟩ := hw
    exact (W3_arr m ρ c w).trans (((dat0 (V2 m ρ) c).arrAt_in w (h w rfl) _).trans (A_eq0 (V2 m ρ) c w))
  · exact W3_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
/-- The arguments are as launched at boundary 3. -/
theorem W3_args (c : Dev nD) : ∀ a ∈ argRefs, W3 m ρ c (Proc.devRef .tc a) = m ((c : Thread nD τ).loc a) :=
  fun a ha => (W3_of m ρ c a (argsIn0 a ha)).trans (W2_args m ρ c a ha)
/-- The same read at the TensorCore's references (region 0's exit contents). -/
abbrev V3 : (c : Dev nD) → (b : Ref sig .tc) → Buf (Elt F) ((c : Thread nD τ).loc b) := fun c b => W3 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V2 m ρ) c).arrAt w cfg0.N = V3 m ρ c (Pipeline.arrRef spec0 w) :=
  (W3_arr m ρ c w).symm
/-- The buffers outside pallas_call 0 keep their contents. -/
theorem hrest0 (c : Dev nD) : ∀ b, b ∉ Finset.univ.image (Pipeline.arrRef spec0) → V3 m ρ c b = V2 m ρ c b :=
  fun b hb => W3_of_ne m ρ c b fun w e => hb (Finset.mem_image.mpr ⟨w, Finset.mem_univ _, e⟩)

/-- After `hostOps1` (region 1's entry). -/
abbrev W4 : Dev nD → Valuation τ sig (Elt F) := fun c => StableHlo.after hostOps1 (W3 m ρ c)
/-- A reference `hostOps1` does not write keeps its contents across it. -/
theorem W4_of (c : Dev nD) (r : Ref sig .tc) (h : r ∉ hostOps1_W) : W4 m ρ c (Proc.devRef .tc r) = W3 m ρ c (Proc.devRef .tc r) :=
  StableHlo.after_of_writes_sub hostOps1 _ hostOps1_writes h
/-- The arguments are as launched at boundary 4. -/
theorem W4_args (c : Dev nD) : ∀ a ∈ argRefs, W4 m ρ c (Proc.devRef .tc a) = m ((c : Thread nD τ).loc a) :=
  fun a ha => (W4_of m ρ c a (hostOps1_args a ha)).trans (W3_args m ρ c a ha)
/-- The same read at the TensorCore's references (what region 1's proof data take). -/
abbrev V4 : (c : Dev nD) → (b : Ref sig .tc) → Buf (Elt F) ((c : Thread nD τ).loc b) := fun c b => W4 m ρ c b
/-- At region 1's exit: its arrays at what the pipeline leaves (the inputs as entered, each output's write-backs
    folded: `Dat.arrAt … N`), every other buffer as entered (region 2's entry). -/
def W5 (c : Dev nD) : Valuation τ sig (Elt F) :=
  Pipeline.withArrays spec1 c (W4 m ρ c) fun w => (dat1 (V4 m ρ) c).arrAt w cfg1.N
/-- An array of the pallas_call holds at boundary 5 what its pipeline leaves. -/
theorem W5_arr (c : Dev nD) (w : Fin cfg1.W) :
    W5 m ρ c (Proc.devRef .tc (Pipeline.arrRef spec1 w)) = (dat1 (V4 m ρ) c).arrAt w cfg1.N := by
  unfold W5; exact Pipeline.withArrays_arr spec1 launch1.win.arr_inj c _ _ w
/-- A buffer that is none of its arrays is unchanged at boundary 5. -/
theorem W5_of_ne (c : Dev nD) (b : Ref sig .tc) (hb : ∀ w, Pipeline.arrRef spec1 w ≠ b) :
    W5 m ρ c (Proc.devRef .tc b) = W4 m ρ c (Proc.devRef .tc b) := by
  unfold W5; exact Pipeline.withArrays_of_ne spec1 c _ _ b hb
/-- A reference that is none of region 1's OUTPUT arrays keeps its entry contents across it: an input window's
    array is never written back (`Dat.arrAt_in`, `A_eq1`); any other buffer is left as is. -/
theorem W5_of (c : Dev nD) (r : Ref sig .tc) (h : ∀ w : Fin cfg1.W, Pipeline.arrRef spec1 w = r → (cfg1.win w).isOut = false) :
    W5 m ρ c (Proc.devRef .tc r) = W4 m ρ c (Proc.devRef .tc r) := by
  by_cases hw : ∃ w : Fin cfg1.W, Pipeline.arrRef spec1 w = r
  · obtain ⟨w, rfl⟩ := hw
    exact (W5_arr m ρ c w).trans (((dat1 (V4 m ρ) c).arrAt_in w (h w rfl) _).trans (A_eq1 (V4 m ρ) c w))
  · exact W5_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
/-- The arguments are as launched at boundary 5. -/
theorem W5_args (c : Dev nD) : ∀ a ∈ argRefs, W5 m ρ c (Proc.devRef .tc a) = m ((c : Thread nD τ).loc a) :=
  fun a ha => (W5_of m ρ c a (argsIn1 a ha)).trans (W4_args m ρ c a ha)
/-- The same read at the TensorCore's references (region 1's exit contents). -/
abbrev V5 : (c : Dev nD) → (b : Ref sig .tc) → Buf (Elt F) ((c : Thread nD τ).loc b) := fun c b => W5 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V4 m ρ) c).arrAt w cfg1.N = V5 m ρ c (Pipeline.arrRef spec1 w) :=
  (W5_arr m ρ c w).symm
/-- The buffers outside pallas_call 1 keep their contents. -/
theorem hrest1 (c : Dev nD) : ∀ b, b ∉ Finset.univ.image (Pipeline.arrRef spec1) → V5 m ρ c b = V4 m ρ c b :=
  fun b hb => W5_of_ne m ρ c b fun w e => hb (Finset.mem_image.mpr ⟨w, Finset.mem_univ _, e⟩)

/-- At region 2's exit: its arrays at what the pipeline leaves (the inputs as entered, each output's write-backs
    folded: `Dat.arrAt … N`), every other buffer as entered (region 3's entry). -/
def W6 (c : Dev nD) : Valuation τ sig (Elt F) :=
  Pipeline.withArrays spec2 c (W5 m ρ c) fun w => (dat2 (V5 m ρ) c).arrAt w cfg2.N
/-- An array of the pallas_call holds at boundary 6 what its pipeline leaves. -/
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
/-- A buffer that is none of its arrays is unchanged at boundary 6. -/
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- A reference that is none of region 2's OUTPUT arrays keeps its entry contents across it: an input window's
    array is never written back (`Dat.arrAt_in`, `A_eq2`); any other buffer is left as is. -/
theorem W6_of (c : Dev nD) (r : Ref sig .tc) (h : ∀ w : Fin cfg2.W, Pipeline.arrRef spec2 w = r → (cfg2.win w).isOut = false) :
    W6 m ρ c (Proc.devRef .tc r) = W5 m ρ c (Proc.devRef .tc r) := by
  by_cases hw : ∃ w : Fin cfg2.W, Pipeline.arrRef spec2 w = r
  · obtain ⟨w, rfl⟩ := hw
    exact (W6_arr m ρ c w).trans (((dat2 (V5 m ρ) c).arrAt_in w (h w rfl) _).trans (A_eq2 (V5 m ρ) c w))
  · exact W6_of_ne m ρ c r fun w e => hw ⟨w, e⟩
/-- Every argument among region 2's arrays is an input window's (checked: each argument against each window). -/
theorem argsIn2 : ∀ a ∈ argRefs, ∀ w : Fin cfg2.W, Pipeline.arrRef spec2 w = a → (cfg2.win w).isOut = false :=
  ListAll.forall_mem_of_all_decide (by decide +kernel)
/-- The arguments are as launched at boundary 6. -/
theorem W6_args (c : Dev nD) : ∀ a ∈ argRefs, W6 m ρ c (Proc.devRef .tc a) = m ((c : Thread nD τ).loc a) :=
  fun a ha => (W6_of m ρ c a (argsIn2 a ha)).trans (W5_args m ρ c a ha)
/-- The same read at the TensorCore's references (region 2's exit contents). -/
abbrev V6 : (c : Dev nD) → (b : Ref sig .tc) → Buf (Elt F) ((c : Thread nD τ).loc b) := fun c b => W6 m ρ c b
/-- At region 2's exit each of its arrays holds what the pipeline leaves (`hF2`) and every other buffer what it
    held at entry (`hrest2`): the two hypotheses of Lib/Pipeline/RegionsLoop.lean `unscopedBufs_of_arrays`. -/
theorem hF2 (c : Dev nD) (w : Fin cfg2.W) : (dat2 (V5 m ρ) c).arrAt w cfg2.N = V6 m ρ c (Pipeline.arrRef spec2 w) :=
  (W6_arr m ρ c w).symm
/-- The buffers outside pallas_call 2 keep their contents. -/
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- At region 3's exit: its arrays at what the pipeline leaves (the inputs as entered, each output's write-backs
    folded: `Dat.arrAt … N`), every other buffer as entered (region 4's entry). -/
def W7 (c : Dev nD) : Valuation τ sig (Elt F) :=
  Pipeline.withArrays spec3 c (W6 m ρ c) fun w => (dat3 (V6 m ρ) c).arrAt w cfg3.N
/-- An array of the pallas_call holds at boundary 7 what its pipeline leaves. -/
theorem W7_arr (c : Dev nD) (w : Fin cfg3.W) :
    W7 m ρ c (Proc.devRef .tc (Pipeline.arrRef spec3 w)) = (dat3 (V6 m ρ) c).arrAt w cfg3.N := by
  unfold W7; exact (dat3 (V6 m ρ) c).withArrays_arrAt launch₀3.sharedIn _ (A_eq3 (V6 m ρ) c) w
/-- A buffer that is none of its arrays is unchanged at boundary 7. -/
theorem W7_of_ne (c : Dev nD) (b : Ref sig .tc) (hb : ∀ w, Pipeline.arrRef spec3 w ≠ b) :
    W7 m ρ c (Proc.devRef .tc b) = W6 m ρ c (Proc.devRef .tc b) := by
  unfold W7; exact Pipeline.withArrays_of_ne spec3 c _ _ b hb
/-- A reference that is none of region 3's OUTPUT arrays keeps its entry contents across it: an input window's
    array is never written back (`Dat.arrAt_in`, `A_eq3`); any other buffer is left as is. -/
theorem W7_of (c : Dev nD) (r : Ref sig .tc) (h : ∀ w : Fin cfg3.W, Pipeline.arrRef spec3 w = r → (cfg3.win w).isOut = false) :
    W7 m ρ c (Proc.devRef .tc r) = W6 m ρ c (Proc.devRef .tc r) := by
  by_cases hw : ∃ w : Fin cfg3.W, Pipeline.arrRef spec3 w = r
  · obtain ⟨w, rfl⟩ := hw
    exact (W7_arr m ρ c w).trans (((dat3 (V6 m ρ) c).arrAt_in w (h w rfl) _).trans (A_eq3 (V6 m ρ) c w))
  · exact W7_of_ne m ρ c r fun w e => hw ⟨w, e⟩
/-- Every argument among region 3's arrays is an input window's (checked: each argument against each window). -/
theorem argsIn3 : ∀ a ∈ argRefs, ∀ w : Fin cfg3.W, Pipeline.arrRef spec3 w = a → (cfg3.win w).isOut = false :=
  ListAll.forall_mem_of_all_decide (by decide +kernel)
/-- The arguments are as launched at boundary 7. -/
theorem W7_args (c : Dev nD) : ∀ a ∈ argRefs, W7 m ρ c (Proc.devRef .tc a) = m ((c : Thread nD τ).loc a) :=
  fun a ha => (W7_of m ρ c a (argsIn3 a ha)).trans (W6_args m ρ c a ha)
/-- The same read at the TensorCore's references (region 3's exit contents). -/
abbrev V7 : (c : Dev nD) → (b : Ref sig .tc) → Buf (Elt F) ((c : Thread nD τ).loc b) := fun c b => W7 m ρ c b
/-- At region 3's exit each of its arrays holds what the pipeline leaves (`hF3`) and every other buffer what it
    held at entry (`hrest3`): the two hypotheses of Lib/Pipeline/RegionsLoop.lean `unscopedBufs_of_arrays_shared`. -/
theorem hF3 (c : Dev nD) (w : Fin cfg3.W) : (dat3 (V6 m ρ) c).arrAt w cfg3.N = V7 m ρ c (Pipeline.arrRef spec3 w) :=
  (W7_arr m ρ c w).symm
/-- The buffers outside pallas_call 3 keep their contents. -/
theorem hrest3 (c : Dev nD) : ∀ b, b ∉ Finset.univ.image (Pipeline.arrRef spec3) → V7 m ρ c b = V6 m ρ c b :=
  fun b hb => W7_of_ne m ρ c b fun w e => hb (Finset.mem_image.mpr ⟨w, Finset.mem_univ _, e⟩)

/-- At region 4's exit: its arrays at what the pipeline leaves (the inputs as entered, each output's write-backs
    folded: `Dat.arrAt … N`), every other buffer as entered (region 5's entry). -/
def W8 (c : Dev nD) : Valuation τ sig (Elt F) :=
  Pipeline.withArrays spec4 c (W7 m ρ c) fun w => (dat4 (V7 m ρ) c).arrAt w cfg4.N
/-- An array of the pallas_call holds at boundary 8 what its pipeline leaves. -/
theorem W8_arr (c : Dev nD) (w : Fin cfg4.W) :
    W8 m ρ c (Proc.devRef .tc (Pipeline.arrRef spec4 w)) = (dat4 (V7 m ρ) c).arrAt w cfg4.N := by
  unfold W8; exact Pipeline.withArrays_arr spec4 launch4.win.arr_inj c _ _ w
/-- A buffer that is none of its arrays is unchanged at boundary 8. -/
theorem W8_of_ne (c : Dev nD) (b : Ref sig .tc) (hb : ∀ w, Pipeline.arrRef spec4 w ≠ b) :
    W8 m ρ c (Proc.devRef .tc b) = W7 m ρ c (Proc.devRef .tc b) := by
  unfold W8; exact Pipeline.withArrays_of_ne spec4 c _ _ b hb
/-- A reference that is none of region 4's OUTPUT arrays keeps its entry contents across it: an input window's
    array is never written back (`Dat.arrAt_in`, `A_eq4`); any other buffer is left as is. -/
theorem W8_of (c : Dev nD) (r : Ref sig .tc) (h : ∀ w : Fin cfg4.W, Pipeline.arrRef spec4 w = r → (cfg4.win w).isOut = false) :
    W8 m ρ c (Proc.devRef .tc r) = W7 m ρ c (Proc.devRef .tc r) := by
  by_cases hw : ∃ w : Fin cfg4.W, Pipeline.arrRef spec4 w = r
  · obtain ⟨w, rfl⟩ := hw
    exact (W8_arr m ρ c w).trans (((dat4 (V7 m ρ) c).arrAt_in w (h w rfl) _).trans (A_eq4 (V7 m ρ) c w))
  · exact W8_of_ne m ρ c r fun w e => hw ⟨w, e⟩
/-- Every argument among region 4's arrays is an input window's (checked: each argument against each window). -/
theorem argsIn4 : ∀ a ∈ argRefs, ∀ w : Fin cfg4.W, Pipeline.arrRef spec4 w = a → (cfg4.win w).isOut = false :=
  ListAll.forall_mem_of_all_decide (by decide +kernel)
/-- The arguments are as launched at boundary 8. -/
theorem W8_args (c : Dev nD) : ∀ a ∈ argRefs, W8 m ρ c (Proc.devRef .tc a) = m ((c : Thread nD τ).loc a) :=
  fun a ha => (W8_of m ρ c a (argsIn4 a ha)).trans (W7_args m ρ c a ha)
/-- The same read at the TensorCore's references (region 4's exit contents). -/
abbrev V8 : (c : Dev nD) → (b : Ref sig .tc) → Buf (Elt F) ((c : Thread nD τ).loc b) := fun c b => W8 m ρ c b
/-- At region 4's exit each of its arrays holds what the pipeline leaves (`hF4`) and every other buffer what it
    held at entry (`hrest4`): the two hypotheses of Lib/Pipeline/RegionsLoop.lean `unscopedBufs_of_arrays`. -/
theorem hF4 (c : Dev nD) (w : Fin cfg4.W) : (dat4 (V7 m ρ) c).arrAt w cfg4.N = V8 m ρ c (Pipeline.arrRef spec4 w) :=
  (W8_arr m ρ c w).symm
/-- The buffers outside pallas_call 4 keep their contents. -/
theorem hrest4 (c : Dev nD) : ∀ b, b ∉ Finset.univ.image (Pipeline.arrRef spec4) → V8 m ρ c b = V7 m ρ c b :=
  fun b hb => W8_of_ne m ρ c b fun w e => hb (Finset.mem_image.mpr ⟨w, Finset.mem_univ _, e⟩)

/-- At region 5's exit: its arrays at what the pipeline leaves (the inputs as entered, each output's write-backs
    folded: `Dat.arrAt … N`), every other buffer as entered. -/
def W9 (c : Dev nD) : Valuation τ sig (Elt F) :=
  Pipeline.withArrays spec5 c (W8 m ρ c) fun w => (dat5 (V8 m ρ) c).arrAt w cfg5.N
/-- An array of the pallas_call holds at boundary 9 what its pipeline leaves. -/
theorem W9_arr (c : Dev nD) (w : Fin cfg5.W) :
    W9 m ρ c (Proc.devRef .tc (Pipeline.arrRef spec5 w)) = (dat5 (V8 m ρ) c).arrAt w cfg5.N := by
  unfold W9; exact Pipeline.withArrays_arr spec5 launch5.win.arr_inj c _ _ w
/-- A buffer that is none of its arrays is unchanged at boundary 9. -/
theorem W9_of_ne (c : Dev nD) (b : Ref sig .tc) (hb : ∀ w, Pipeline.arrRef spec5 w ≠ b) :
    W9 m ρ c (Proc.devRef .tc b) = W8 m ρ c (Proc.devRef .tc b) := by
  unfold W9; exact Pipeline.withArrays_of_ne spec5 c _ _ b hb
/-- A reference that is none of region 5's OUTPUT arrays keeps its entry contents across it: an input window's
    array is never written back (`Dat.arrAt_in`, `A_eq5`); any other buffer is left as is. -/
theorem W9_of (c : Dev nD) (r : Ref sig .tc) (h : ∀ w : Fin cfg5.W, Pipeline.arrRef spec5 w = r → (cfg5.win w).isOut = false) :
    W9 m ρ c (Proc.devRef .tc r) = W8 m ρ c (Proc.devRef .tc r) := by
  by_cases hw : ∃ w : Fin cfg5.W, Pipeline.arrRef spec5 w = r
  · obtain ⟨w, rfl⟩ := hw
    exact (W9_arr m ρ c w).trans (((dat5 (V8 m ρ) c).arrAt_in w (h w rfl) _).trans (A_eq5 (V8 m ρ) c w))
  · exact W9_of_ne m ρ c r fun w e => hw ⟨w, e⟩
/-- Every argument among region 5's arrays is an input window's (checked: each argument against each window). -/
theorem argsIn5 : ∀ a ∈ argRefs, ∀ w : Fin cfg5.W, Pipeline.arrRef spec5 w = a → (cfg5.win w).isOut = false :=
  ListAll.forall_mem_of_all_decide (by decide +kernel)
/-- The arguments are as launched at boundary 9. -/
theorem W9_args (c : Dev nD) : ∀ a ∈ argRefs, W9 m ρ c (Proc.devRef .tc a) = m ((c : Thread nD τ).loc a) :=
  fun a ha => (W9_of m ρ c a (argsIn5 a ha)).trans (W8_args m ρ c a ha)
/-- The same read at the TensorCore's references (region 5's exit contents). -/
abbrev V9 : (c : Dev nD) → (b : Ref sig .tc) → Buf (Elt F) ((c : Thread nD τ).loc b) := fun c b => W9 m ρ c b
/-- At region 5's exit each of its arrays holds what the pipeline leaves (`hF5`) and every other buffer what it
    held at entry (`hrest5`): the two hypotheses of Lib/Pipeline/RegionsLoop.lean `unscopedBufs_of_arrays`. -/
theorem hF5 (c : Dev nD) (w : Fin cfg5.W) : (dat5 (V8 m ρ) c).arrAt w cfg5.N = V9 m ρ c (Pipeline.arrRef spec5 w) :=
  (W9_arr m ρ c w).symm
/-- The buffers outside pallas_call 5 keep their contents. -/
theorem hrest5 (c : Dev nD) : ∀ b, b ∉ Finset.univ.image (Pipeline.arrRef spec5) → V9 m ρ c b = V8 m ρ c b :=
  fun b hb => W9_of_ne m ρ c b fun w e => hb (Finset.mem_image.mpr ⟨w, Finset.mem_univ _, e⟩)

/-- After `hostOps6`. -/
abbrev W10 : Dev nD → Valuation τ sig (Elt F) := fun c => StableHlo.after hostOps6 (W9 m ρ c)
/-- A reference `hostOps6` does not write keeps its contents across it. -/
theorem W10_of (c : Dev nD) (r : Ref sig .tc) (h : r ∉ hostOps6_W) : W10 m ρ c (Proc.devRef .tc r) = W9 m ρ c (Proc.devRef .tc r) :=
  StableHlo.after_of_writes_sub hostOps6 _ hostOps6_writes h
/-- The arguments are as launched at boundary 10. -/
theorem W10_args (c : Dev nD) : ∀ a ∈ argRefs, W10 m ρ c (Proc.devRef .tc a) = m ((c : Thread nD τ).loc a) :=
  fun a ha => (W10_of m ρ c a (hostOps6_args a ha)).trans (W9_args m ρ c a ha)

end Cert.KernelIdeal.Run

end
-- ==== Proof.Run.State.lean ====
/- The calls' proof data together, and what a core holds between the parts of @main. -/
module

public import proofs.«01_k».proof.Proof.Run.Fold

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The prefetched tables' admissible contents: no pipeline has a table. -/
abbrev adm : (p : Fin 6) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 6) → (c : Dev nD) → Dat τ (Elt F) Unit ℕ (UR sig nD τ) ℕ (Pipeline.pin (pcfgs (F := F)) adm p) c
  | ⟨0, _⟩ => fun c => dat0 (V2 m ρ) c
  | ⟨1, _⟩ => fun c => dat1 (V4 m ρ) c
  | ⟨2, _⟩ => fun c => dat2 (V5 m ρ) c
  | ⟨3, _⟩ => fun c => dat3 (V6 m ρ) c
  | ⟨4, _⟩ => fun c => dat4 (V7 m ρ) c
  | ⟨5, _⟩ => fun c => dat5 (V8 m ρ) c
/-- No loop has a variant to keep. -/
abbrev 𝒱₀ : Variants := Variants.none
/-- No core owes another anything: no level is assigned. -/
abbrev L : GSem nD τ sig → Finset Unit := fun _ => ∅
/-- Every level is the same. -/
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W10`, the generator register at some state. -/
abbrev Tₙ (c : Dev nD) : sProp 𝕄 := iprop(StableHlo.held (c : Thread nD τ) (Pipeline.ucRefs τ sig) (W10 m ρ c) ∗ ∃ r, prngReg c r)

end Cert.KernelIdeal.Run

end
-- ==== Proof.Run.Records.lean ====
/- Each call as a part of @main, from the buffers it finds to the buffers it leaves. -/
module

public import proofs.«01_k».proof.Proof.Run.State

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
set_option backward.isDefEq.respectTransparency.types false in
/-- Call 0 as a part of @main: entered from the buffers at its entry's boundary, left at its exit's. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (obligation0 (V2 m ρ) c).loose
  hwaits := Pipeline.hwaits_of_owed_zero _ _ _ _ L lv 0 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec0 c (V2 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V2 m ρ c) (A_eq0 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V2 m ρ c) (V3 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 as a part of @main: entered from the buffers at its entry's boundary, left at its exit's. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (obligation1 (V4 m ρ) c).loose
  hwaits := Pipeline.hwaits_of_owed_zero _ _ _ _ L lv 1 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec1 c (V4 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V4 m ρ c) (A_eq1 (V4 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V4 m ρ c) (V5 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 2 as a part of @main: entered from the buffers at its entry's boundary, left at its exit's. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) (A_eq2 (V5 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 3 as a part of @main: entered from the buffers at its entry's boundary, left at its exit's. -/
def reg3 : Pipeline.RegionSeg (pcfgs (F := F)) adm (pdats m ρ) () defs₀ 𝒱₀ L lv 3 where
  win := launch₀3.win
  block_pos := launch₀3.block_pos
  stage_whole := launch₀3.stage_whole
  K := PEmpty
  osem k := k.elim
  ho := Pipeline.OwnSemFacts.none _
  hbody c := (obligation3 (V6 m ρ) c).loose
  hwaits := Pipeline.hwaits_of_owed_zero _ _ _ _ L lv 3 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec3 c (V6 m ρ c)
  hentry c := by
    rw [Pipeline.ownSems0_none]
    have hsplit := Pipeline.arrays_of_unscopedBufs_shared (p := 3) (pcfgs (F := F)) adm (pdats m ρ) launch₀3.win launch₀3.sharedIn launch₀3.arr_whole c
      (fun _ _ => rfl) (V6 m ρ c) (A_eq3 (V6 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays_shared (p := 3) (pcfgs (F := F)) adm (Ix := Unit) (Name := ℕ) (U := UR sig nD τ) (Lvl := ℕ)
      launch₀3.win launch₀3.sharedIn launch₀3.arr_whole c (pdats m ρ) (fun _ _ => rfl)
      (V6 m ρ c) (V7 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 4 as a part of @main: entered from the buffers at its entry's boundary, left at its exit's. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (obligation4 (V7 m ρ) c).loose
  hwaits := Pipeline.hwaits_of_owed_zero _ _ _ _ L lv 4 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec4 c (V7 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V7 m ρ c) (A_eq4 (V7 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V7 m ρ c) (V8 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 5 as a part of @main: entered from the buffers at its entry's boundary, left at its exit's. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (obligation5 (V8 m ρ) c).loose
  hwaits := Pipeline.hwaits_of_owed_zero _ _ _ _ L lv 5 fun _ _ => rfl
  pre c := iprop(StableHlo.held (c : Thread nD τ) (Pipeline.ucRefs τ sig) (W8 m ρ c) ∗ R c)
  post c := iprop(StableHlo.held (c : Thread nD τ) (Pipeline.ucRefs τ sig) (W9 m ρ c) ∗ R c)
  X c := iprop(∃ r, prngReg c r)
  Y c := iprop(∃ r, prngReg c r)
  Z c := Pipeline.unscopedRest (Ix := Unit) (Name := ℕ) (U := UR sig nD τ) (Lvl := ℕ) spec5 c (V8 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V8 m ρ c) (A_eq5 (V8 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V8 m ρ c) (V9 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Run

end
-- ==== Proof.Run.Whole.lean ====
/- @main from the launch to the return. -/
module

public import proofs.«01_k».proof.Proof.Run.Records

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- @main's parts in order. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .region (reg0 m ρ),
    .host (hseg hostOps1 hostOps1_sub hostOps1_fresh (W3 m ρ)),
    .region (reg1 m ρ),
    .region (reg2 m ρ),
    .region (reg3 m ρ),
    .region (reg4 m ρ),
    .region (reg5 m ρ),
    .host (hseg hostOps6 hostOps6_sub hostOps6_fresh (W9 m ρ)) ]

/-- @main is its parts run in order. -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

set_option backward.isDefEq.respectTransparency.types false in
/-- Every run of @main from zero counters ends, with every buffer that outlives it at the last boundary's contents and
    every counter at zero. -/
theorem run : θ_run defs (onTc (τ := τ) (main (F := F))) ⟨m, fun _ => 0, ρ⟩ (fun r =>
    (∀ c : Dev nD, ∀ b ∈ Pipeline.ucRefs τ sig, r.2.mem (((c : Thread nD τ)).1, b) = W10 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h hz => ⟨h, funext fun g => hz g (.inr (no_unscoped g.2))⟩)

/-- The same, of one array that outlives @main. -/
theorem run_read (r : PUnit × MemSt nD τ sig (Elt F)) (h : ∀ c : Dev nD, ∀ b ∈ Pipeline.ucRefs τ sig, r.2.mem (((c : Thread nD τ)).1, b) = W10 m ρ c b) (c : Dev nD)
    (b : Ref sig .tc) (hb : ¬ (Proc.devRef .tc b : DevRef τ sig).isScoped) :
    r.2.mem ((c.tc : Thread nD τ).loc b) = W10 m ρ c (Proc.devRef .tc b) := h c _ (mem_uc b hb)

/-- An argument ends as launched. -/
theorem run_arg (r : PUnit × MemSt nD τ sig (Elt F)) (h : ∀ c : Dev nD, ∀ b ∈ Pipeline.ucRefs τ sig, r.2.mem (((c : Thread nD τ)).1, b) = W10 m ρ c b) (c : Dev nD) :
    ∀ a ∈ argRefs, (hb : ¬ (Proc.devRef .tc a : DevRef τ sig).isScoped) → r.2.mem ((c.tc : Thread nD τ).loc a) = m ((c.tc : Thread nD τ).loc a) :=
  fun a ha hb => (h c _ (mem_uc a hb)).trans (W10_args m ρ c a ha)

end Cert.KernelIdeal.Run

end
-- ==== Proof.Run.Transfer.lean ====
/- The printed program and its idealization are the same program. -/
module

public import proofs.«01_k».proof.Kernel
public import proofs.«01_k».proof.KernelIdeal
public import Idealize.ShloMosaic.Lib.Tactic
public import Idealize.ShloMosaic.Lib.Ring
public import Idealize.ShloMosaic.Lib.Pipeline.FrameBody

@[expose] public section

set_option maxHeartbeats 4000000

noncomputable section

namespace Cert.Transfer

open Idealize.ShloMosaic Idealize.ShloMosaic.Tactic Idealize.SL.Sem

/-- The idealized kernel's @main is the kernel's, at any float values. -/
theorem main_eq {F : FTy → Type} [FloatOps F] [h1 : Cert.Kernel.Facts] [h2 : Cert.KernelIdeal.Facts] :
    @Cert.Kernel.main F _ h1 = (@Cert.KernelIdeal.main F _ h2) := by sl_kernel_rfl

/-- The two programs declare the same calls. -/
theorem defs_eq {F : FTy → Type} [FloatOps F] [h1 : Cert.Kernel.Facts] [h2 : Cert.KernelIdeal.Facts] :
    @Cert.Kernel.defs F _ h1 = (@Cert.KernelIdeal.defs F _ h2) := by sl_kernel_rfl

end Cert.Transfer

end
-- ==== Proof.Run.Frames.lean ====
/- The frame of each program: it ends, its arguments unchanged, its counters at zero. -/
module

public import proofs.«01_k».proof.Defs
public import proofs.«01_k».proof.Proof.Run.Whole
public import proofs.«01_k».proof.Proof.Run.Transfer
public import proofs.«01_k».proof.Proof.Gen.Kernel
public import proofs.«01_k».proof.Proof.Gen.ReferenceIdeal.Run

@[expose] public section

noncomputable section

namespace Cert.Frames

open Idealize.ShloMosaic Idealize.ShloMosaic.TcCoe Idealize.SL.Sem
/-- What every run of a program satisfies, every run of an equal program does. -/
theorem run_congr {nD : ℕ} {τ : Topo} {sig : RefSig} {Val : EltTy → Type} {Λ : Labels}
    {d d' : Defs nD τ sig Val Λ} (hd : d' = d) {p p' : Dev nD → Prog (TpuEff nD τ sig Val Λ .tc) PUnit} (hp : p' = p)
    {s : MemSt nD τ sig Val} {Q : PUnit × MemSt nD τ sig Val → Prop} (h : θ_run d (onTc (τ := τ) p) s Q) :
    θ_run d' (onTc (τ := τ) p') s Q := by subst hd hp; exact h

open Cert.KernelIdeal in
/-- Every run of the idealized kernel's program, at any float values, ends with the arguments as launched and every
    counter at zero. -/
theorem kernelIdeal {F : FTy → Type} [FloatOps F] (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) := by
  refine (θ_run defs _ _).mono (fun r h => ⟨fun c => ?_, h.2⟩) (Run.run m ρ)
  have k := Run.run_arg m ρ r h.1 c
  exact ⟨k main_arg0 (by simp [Run.argRefs]) (by decide), k main_arg1 (by simp [Run.argRefs]) (by decide), k main_arg2 (by simp [Run.argRefs]) (by decide), k main_arg3 (by simp [Run.argRefs]) (by decide), k main_arg4 (by simp [Run.argRefs]) (by decide), k main_arg5 (by simp [Run.argRefs]) (by decide), k main_arg6 (by simp [Run.argRefs]) (by decide), k main_arg7 (by simp [Run.argRefs]) (by decide), k main_arg8 (by simp [Run.argRefs]) (by decide), k main_arg9 (by simp [Run.argRefs]) (by decide), k main_arg10 (by simp [Run.argRefs]) (by decide), k main_arg11 (by simp [Run.argRefs]) (by decide), k main_arg12 (by simp [Run.argRefs]) (by decide)⟩

/-- The idealized kernel's frame. -/
theorem quiescent_kernelIdeal : Cert.quiescent_KernelIdeal (hKernelIdeal := Cert.KernelIdeal.Gen.facts) := fun m g _ => kernelIdeal m g

set_option maxHeartbeats 4000000 in
/-- The kernel's frame, read off the idealized one's at the machine's words. -/
theorem quiescent_kernel : Cert.quiescent_Kernel (hKernel := Cert.Kernel.Gen.facts) := fun m g _ =>
  run_congr (Transfer.defs_eq (h1 := Cert.Kernel.Gen.facts) (h2 := Cert.KernelIdeal.Gen.facts)) (Transfer.main_eq (h1 := Cert.Kernel.Gen.facts) (h2 := Cert.KernelIdeal.Gen.facts))
    (kernelIdeal (F := Bits) m g)

/-- The reference's frame: its operations write no argument, and it declares no semaphore. -/
theorem quiescent_referenceIdeal : Cert.quiescent_ReferenceIdeal (hReferenceIdeal := Cert.ReferenceIdeal.Gen.facts) := fun m g _ =>
  (θ_run _ _ _).mono (fun r h => ⟨fun c => (h c).2.2, Idealize.ShloMosaic.sem_eq_zero_of_no_sems (by decide) r.2⟩)
    (Cert.ReferenceIdeal.Value.run (F := Ideal) m g)

end Cert.Frames

end
-- ==== Proof.Val.Pay.lean ====
/- What one grid point's stores hold, read at an index over the extended reals. -/
module

public import proofs.«01_k».proof.Proof.Gen.KernelIdeal.Skeleton
public import Idealize.ShloMosaic.Lib.Pointwise
public import Idealize.ShloMosaic.Lib.ValueIdx

@[expose] public section

noncomputable section

namespace Cert.KernelIdeal.Val

open Cert.KernelIdeal Cert.KernelIdeal.Gen
open Idealize.ShloMosaic

/-- One over a positive number, zero otherwise. -/
def recip (d : EReal) : EReal := if 0 < d then Ideal.div 1 d else 0

/-- The number two, as the programs write it. -/
abbrev two : EReal := Ideal.ofBits FTy.f32 0x40000000#32

/-- A row of the matrix divided by its sum. -/
def walk {M : ℕ} (a : (⟨2, ![M, 3960]⟩ : Shape).Idx → EReal) (r : Fin M) (k : Fin 3960) : EReal :=
  a (ix2 r k) * recip (∑ j, a (ix2 r j))

section First
variable (a : Vec Ideal S792x3960 .f32) (x : Vec Ideal S3960x4 .bf16) (y : Vec Ideal S792x4 .f32)

/-- What one step of pallas_call 0 computes, at an index. -/
theorem k0_pay1_apply (r : Fin 792) (b : Fin 4) : k0_pay1 a x (ix2 r b) = ∑ k, walk a r k * x (ix2 k b) := by
  unfold k0_pay1 walk recip; pointwise

/-- What one step of pallas_call 0 computes, at an index. -/
theorem k0_pay2_apply (r : Fin 1) (j : Fin 3960) : k0_pay2 a (ix2 r j) = ∑ r, a (ix2 r j) := by
  unfold k0_pay2; pointwise

/-- What one step of pallas_call 0 computes, at an index. -/
theorem k0_pay3_apply (j : Fin 3960) (b : Fin 4) : k0_pay3 a y (ix2 j b) = ∑ r, a (ix2 r j) * y (ix2 r b) := by
  unfold k0_pay3; pointwise

/-- What one step of pallas_call 0 computes, at an index. -/
theorem k0_pay4_apply (s : Vec Ideal S1x3960 .f32) (r : Fin 1) (j : Fin 3960) : k0_pay4 a s (ix2 r j) = s (ix2 r j) + ∑ r, a (ix2 r j) := by
  unfold k0_pay4 k0_pay2; pointwise

/-- What one step of pallas_call 0 computes, at an index. -/
theorem k0_pay5_apply (s : Vec Ideal S3960x4 .f32) (j : Fin 3960) (b : Fin 4) :
    k0_pay5 a y s (ix2 j b) = s (ix2 j b) + ∑ r, a (ix2 r j) * y (ix2 r b) := by
  unfold k0_pay5 k0_pay3; pointwise

/-- What one step of pallas_call 1 computes, at an index. -/
theorem k1_pay2_apply (r : Fin 792) (b : Fin 4) : k1_pay2 a x y (ix2 r b) = two * (∑ k, walk a r k * x (ix2 k b)) - y (ix2 r b) := by
  unfold k1_pay2 walk recip; pointwise

/-- What one step of pallas_call 1 computes, at an index. -/
theorem k1_pay3_apply (d : Vec Ideal S1x3960 .f32) (e : Vec Ideal S792x1 .f32) (j : Fin 3960) (b : Fin 4) :
    k1_pay3 a d e y (ix2 j b) = ∑ r, (a (ix2 r j) * d (ix2 0 j)) * (e (ix2 r 0) * y (ix2 r b)) := by
  unfold k1_pay3; pointwise

/-- What one step of pallas_call 1 computes, at an index. -/
theorem k1_pay1_apply (p s : Vec Ideal S3960x4 .f32) (j : Fin 3960) (b : Fin 4) :
    k1_pay1 p s (ix2 j b) = s (ix2 j b) + p (ix2 j b) := by
  unfold k1_pay1; pointwise

end First

section Second
variable (a : Vec Ideal S792x3960 .f32) (x : Vec Ideal S3960x256 .bf16) (y : Vec Ideal S792x256 .bf16) (z : Vec Ideal S792x256 .f32) (d : Vec Ideal S1x3960 .f32)

/-- What one step of pallas_call 3 computes, at an index. -/
theorem k3_pay1_apply (r : Fin 792) (u : Fin 256) : k3_pay1 a x (ix2 r u) = ∑ k, walk a r k * x (ix2 k u) := by
  unfold k3_pay1 walk recip; pointwise

/-- What one step of pallas_call 3 computes, at an index. -/
theorem k3_pay2_apply (j : Fin 3960) (u : Fin 256) : k3_pay2 a d y (ix2 j u) = ∑ r, (a (ix2 r j) * d (ix2 0 j)) * y (ix2 r u) := by
  unfold k3_pay2; pointwise

/-- What one step of pallas_call 3 computes, at an index. -/
theorem k3_pay3_apply (s : Vec Ideal S3960x256 .f32) (j : Fin 3960) (u : Fin 256) :
    k3_pay3 a d y s (ix2 j u) = s (ix2 j u) + ∑ r, (a (ix2 r j) * d (ix2 0 j)) * y (ix2 r u) := by
  unfold k3_pay3 k3_pay2; pointwise

/-- What one step of pallas_call 4 computes, at an index. -/
theorem k4_pay2_apply (r : Fin 792) (u : Fin 256) : k4_pay2 a x z (ix2 r u) = two * (∑ k, walk a r k * x (ix2 k u)) - z (ix2 r u) := by
  unfold k4_pay2 walk recip; pointwise

/-- What one step of pallas_call 4 computes, at an index. -/
theorem k4_pay3_apply (j : Fin 3960) (u : Fin 256) : k4_pay3 a d z (ix2 j u) = ∑ r, (a (ix2 r j) * d (ix2 0 j)) * z (ix2 r u) := by
  unfold k4_pay3; pointwise

/-- What one step of pallas_call 4 computes, at an index. -/
theorem k4_pay1_apply (p s : Vec Ideal S3960x256 .f32) (j : Fin 3960) (u : Fin 256) :
    k4_pay1 p s (ix2 j u) = s (ix2 j u) + p (ix2 j u) := by
  unfold k4_pay1; pointwise

end Second

end Cert.KernelIdeal.Val

end
-- ==== Proof.Val.Host.lean ====
/- What the host computes around the pallas_calls, over the extended reals: the operands each one is given. -/
module

public import proofs.«01_k».proof.Proof.Run.Fold
public import proofs.«01_k».proof.Proof.Val.Pay
public import Idealize.ShloMosaic.Lib.Claim
public import Idealize.ShloMosaic.Lib.Pointwise
public import Idealize.ShloMosaic.Lib.Routing.Ops

@[expose] public section

noncomputable section

namespace Cert.KernelIdeal.Val

open Cert.KernelIdeal Cert.KernelIdeal.Gen Cert.KernelIdeal.Run
open Idealize.ShloMosaic Idealize.ShloMosaic.TcCoe Idealize.SL.Sem

variable (σ : Valuation τ sig (Elt Ideal))

/-- The host transposes the input. -/
theorem host_x (i : Fin 3960) (b : Fin 4) : (StableHlo.after hostOps0 σ (Proc.devRef .tc main_v0) : Vec Ideal S3960x4 .f32) (ix2 i b) = (σ (Proc.devRef .tc main_arg0) : Vec Ideal S4x3960 .f32) (ix2 b i) := by
  entry_read
  pointwise

/-- The second half of a bias, as a row. -/
theorem upperBias_apply (w : Vec Ideal S128 .f32) (u : Fin 64) :
    shapeCast S1x64 (extractStridedSlice S64 ![64] w slices_S128_S64_64) shapeCasts_S64_S1x64 (ix2 0 u) = w (ix1 (Fin.natAdd 64 u)) := by
  pointwise
  rfl

/-- A bias, as a row. -/
theorem rowBias_apply (w : Vec Ideal S64 .f32) (u : Fin 64) : shapeCast S1x64 w shapeCasts_S64_S1x64 (ix2 0 u) = w (ix1 u) := by
  pointwise

/-- The projection's column, as a row. -/
theorem rowWeight_apply (w : Vec Ideal S64x1 .f32) (u : Fin 64) :
    truncf (F := Ideal) .bf16 (shapeCast S1x64 w shapeCasts_S64x1_S1x64 : Vec Ideal S1x64 .f32) bitsLt_bf16_f32 (ix2 0 u) = w (ix2 u 0) := by
  pointwise

/-- The projection's bias as a 1 by 1 array. -/
theorem oneBias_apply (w : Vec Ideal S1 .f32) : shapeCast S1x1 w shapeCasts_S1_S1x1 (ix2 0 0) = w (ix1 0) := by
  pointwise

/-- The first layer's row numbers, `65·m`. -/
def rowsA : IVec S5x1 32 :=
  let r : IVec S5 32 := muli (iotaInDim S5 32 0) (broadcastInDim S5 ![] bcast_S_S5 (constantI S_ 32 65#32))
  broadcastInDim S5x1 ![0] bcast_S5_S5x1_0 (select (cmpi .slt r (broadcastInDim S5 ![] bcast_S_S5 (constantI S_ 32 0#32)))
    (addi r (broadcastInDim S5 ![] bcast_S_S5 (constantI S_ 32 325#32))) r)

/-- The first layer's row numbers are 65 m. -/
theorem rowsA_apply : ∀ m : Fin 5, rowsA (ix2 m 0) = BitVec.ofNat 32 (65 * m.val) := by
  decide +kernel

/-- The second layer's row numbers, `128·m + j` at `64·m + j`. -/
def rowsB : IVec S320x1 32 :=
  let r : IVec S320 32 := shapeCast S320 (addi
    (broadcastInDim S5x64 ![0, 1] bcast_S5x1_S5x64_0_1 (muli (broadcastInDim S5x1 ![0] bcast_S5_S5x1_0 (iotaInDim S5 32 0)) (broadcastInDim S5x1 ![] bcast_S_S5x1 (constantI S_ 32 128#32))))
    (broadcastInDim S5x64 ![0, 1] bcast_S1x64_S5x64_0_1 (broadcastInDim S1x64 ![1] bcast_S64_S1x64_1 (iotaInDim S64 32 0)))) shapeCasts_S5x64_S320
  broadcastInDim S320x1 ![0] bcast_S320_S320x1_0 (select (cmpi .slt r (broadcastInDim S320 ![] bcast_S_S320 (constantI S_ 32 0#32)))
    (addi r (broadcastInDim S320 ![] bcast_S_S320 (constantI S_ 32 640#32))) r)

/-- The second layer's row numbers are 128 m + j. -/
theorem rowsB_apply : ∀ k : Fin 320, rowsB (ix2 k 0) = BitVec.ofNat 32 (128 * (k.val / 64) + k.val % 64) := by
  decide +kernel

/-- The rows gathered from the first layer's gate weights, their second half. -/
theorem wuA_apply (w : Vec Ideal S325x128 .f32) (m : Fin 5) (u : Fin 64) :
    truncf (F := Ideal) .bf16 (extractStridedSlice S5x64 ![0, 64] (Host.gather gather_S325x128_S5x1_S5x128_1_0_n_n_0_1_1128 w rowsA : Vec Ideal S5x128 .f32) slices_S5x128_S5x64_0_64 : Vec Ideal S5x64 .f32) bitsLt_bf16_f32 (ix2 m u)
      = w (ix2 ⟨65 * m.val, by omega⟩ (Fin.natAdd 64 u)) := by
  pointwise
  exact Routing.gather_row (nb := 325) (B := 128) (n := 5) _ rfl rfl rfl rfl rfl w rowsA m (Fin.natAdd 64 u) ⟨65 * m.val, by omega⟩ (rowsA_apply m) (by decide)

/-- The rows gathered from the first layer's candidate weights. -/
theorem wcA_apply (w : Vec Ideal S325x64 .f32) (m : Fin 5) (u : Fin 64) :
    truncf (F := Ideal) .bf16 (Host.gather gather_S325x64_S5x1_S5x64_1_0_n_n_0_1_164 w rowsA : Vec Ideal S5x64 .f32) bitsLt_bf16_f32 (ix2 m u)
      = w (ix2 ⟨65 * m.val, by omega⟩ u) :=
  Routing.gather_row (nb := 325) (B := 64) (n := 5) _ rfl rfl rfl rfl rfl w rowsA m u ⟨65 * m.val, by omega⟩ (rowsA_apply m) (by decide)

/-- The rows gathered from the second layer's gate weights, their second half. -/
theorem wuB_apply (w : Vec Ideal S640x128 .f32) (k : Fin 320) (u : Fin 64) :
    truncf (F := Ideal) .bf16 (extractStridedSlice S320x64 ![0, 64] (Host.gather gather_S640x128_S320x1_S320x128_1_0_n_n_0_1_1128 w rowsB : Vec Ideal S320x128 .f32) slices_S320x128_S320x64_0_64 : Vec Ideal S320x64 .f32) bitsLt_bf16_f32 (ix2 k u)
      = w (ix2 ⟨128 * (k.val / 64) + k.val % 64, by omega⟩ (Fin.natAdd 64 u)) := by
  pointwise
  exact Routing.gather_row (nb := 640) (B := 128) (n := 320) _ rfl rfl rfl rfl rfl w rowsB k (Fin.natAdd 64 u) ⟨128 * (k.val / 64) + k.val % 64, by omega⟩ (rowsB_apply k) (by decide)

/-- The rows gathered from the second layer's candidate weights. -/
theorem wcB_apply (w : Vec Ideal S640x64 .f32) (k : Fin 320) (u : Fin 64) :
    truncf (F := Ideal) .bf16 (Host.gather gather_S640x64_S320x1_S320x64_1_0_n_n_0_1_164 w rowsB : Vec Ideal S320x64 .f32) bitsLt_bf16_f32 (ix2 k u)
      = w (ix2 ⟨128 * (k.val / 64) + k.val % 64, by omega⟩ u) :=
  Routing.gather_row (nb := 640) (B := 64) (n := 320) _ rfl rfl rfl rfl rfl w rowsB k u ⟨128 * (k.val / 64) + k.val % 64, by omega⟩ (rowsB_apply k) (by decide)

/-- The host's guarded reciprocal of a row. -/
theorem recipRow_apply (s : Vec Ideal S1x3960 .f32) (j : Fin 3960) :
    select (cmpf .ogt s (broadcastInDim S1x3960 ![] bcast_S_S1x3960 (constant (F := Ideal) S_ .f32 0x00000000#32)))
      (Host.divf (broadcastInDim S1x3960 ![] bcast_S_S1x3960 (constant (F := Ideal) S_ .f32 0x3F800000#32)) s)
      (broadcastInDim S1x3960 ![] bcast_S_S1x3960 (id (constant (F := Ideal) S_ .f32 0x00000000#32))) (ix2 0 j) = recip (s (ix2 0 j)) := by
  unfold recip
  simp only [id_eq]
  pointwise

/-- A row laid out as a column. -/
theorem colOfRow_apply (s : Vec Ideal S1x3960 .f32) (j : Fin 3960) : shapeCast S3960x1 s shapeCasts_S1x3960_S3960x1 (ix2 j 0) = s (ix2 0 j) := by
  pointwise

/-- The projected output transposed. -/
theorem projT_apply (p : Vec Ideal S3960x4 .f32) (b : Fin 4) (i : Fin 3960) : transpose S4x3960 [1, 0] p transposes_S3960x4_S4x3960_1_0 (ix2 b i) = p (ix2 i b) := by
  pointwise

/-- The hidden states with nodes and units side by side. -/
theorem flat_apply (h : Vec Ideal S2x4x3960x64 .f32) (l : Fin 2) (b : Fin 4) (k : Fin 253440) :
    shapeCast S2x4x253440 h shapeCasts_S2x4x3960x64_S2x4x253440 (ix3 l b k) = h (ix4 l b ⟨k.val / 64, by omega⟩ ⟨k.val % 64, by omega⟩) := by
  pointwise

/-- The first layer's update bias. -/
theorem host_bu0 (u : Fin 64) : (StableHlo.after hostOps0_1 σ (Proc.devRef .tc main_call0_v49) : Vec Ideal S1x64 .f32) (ix2 0 u) = (σ (Proc.devRef .tc main_arg4) : Vec Ideal S128 .f32) (ix1 (Fin.natAdd 64 u)) := by
  entry_read
  exact upperBias_apply (σ (Proc.devRef .tc main_arg4)) u

/-- The first layer's candidate bias. -/
theorem host_bc0 (u : Fin 64) : (StableHlo.after hostOps0_1 σ (Proc.devRef .tc main_call0_v50) : Vec Ideal S1x64 .f32) (ix2 0 u) = (σ (Proc.devRef .tc main_arg6) : Vec Ideal S64 .f32) (ix1 u) := by
  entry_read
  exact rowBias_apply (σ (Proc.devRef .tc main_arg6)) u

/-- The second layer's update bias. -/
theorem host_bu1 (u : Fin 64) : (StableHlo.after hostOps0_1 σ (Proc.devRef .tc main_call0_v52) : Vec Ideal S1x64 .f32) (ix2 0 u) = (σ (Proc.devRef .tc main_arg8) : Vec Ideal S128 .f32) (ix1 (Fin.natAdd 64 u)) := by
  entry_read
  exact upperBias_apply (σ (Proc.devRef .tc main_arg8)) u

/-- The second layer's candidate bias. -/
theorem host_bc1 (u : Fin 64) : (StableHlo.after hostOps0_1 σ (Proc.devRef .tc main_call0_v53) : Vec Ideal S1x64 .f32) (ix2 0 u) = (σ (Proc.devRef .tc main_arg10) : Vec Ideal S64 .f32) (ix1 u) := by
  entry_read
  exact rowBias_apply (σ (Proc.devRef .tc main_arg10)) u

/-- The projection's weights. -/
theorem host_wp (u : Fin 64) : (StableHlo.after hostOps0_1 σ (Proc.devRef .tc main_call0_v55) : Vec Ideal S1x64 .f32) (ix2 0 u) = (σ (Proc.devRef .tc main_arg11) : Vec Ideal S64x1 .f32) (ix2 u 0) := by
  entry_read
  exact rowWeight_apply (σ (Proc.devRef .tc main_arg11)) u

/-- The projection's bias. -/
theorem host_bp  : (StableHlo.after hostOps0_1 σ (Proc.devRef .tc main_call0_v56) : Vec Ideal S1x1 .f32) (ix2 0 0) = (σ (Proc.devRef .tc main_arg12) : Vec Ideal S1 .f32) (ix1 0) := by
  entry_read
  exact oneBias_apply (σ (Proc.devRef .tc main_arg12))

/-- The first layer's update weights for the input rows. -/
theorem host_wu0 (m : Fin 5) (u : Fin 64) : (StableHlo.after hostOps0_1 σ (Proc.devRef .tc main_call0_v12) : Vec Ideal S5x64 .f32) (ix2 m u) = (σ (Proc.devRef .tc main_arg3) : Vec Ideal S325x128 .f32) (ix2 ⟨65 * m.val, by omega⟩ (Fin.natAdd 64 u)) := by
  entry_read
  exact wuA_apply (σ (Proc.devRef .tc main_arg3)) m u

/-- The first layer's candidate weights for the input rows. -/
theorem host_wc0 (m : Fin 5) (u : Fin 64) : (StableHlo.after hostOps0_1 σ (Proc.devRef .tc main_call0_v20) : Vec Ideal S5x64 .f32) (ix2 m u) = (σ (Proc.devRef .tc main_arg5) : Vec Ideal S325x64 .f32) (ix2 ⟨65 * m.val, by omega⟩ u) := by
  entry_read
  exact wcA_apply (σ (Proc.devRef .tc main_arg5)) m u

/-- The second layer's update weights for the input rows. -/
theorem host_wu1 (k : Fin 320) (u : Fin 64) : (StableHlo.after hostOps0_1 σ (Proc.devRef .tc main_call0_v39) : Vec Ideal S320x64 .f32) (ix2 k u) = (σ (Proc.devRef .tc main_arg7) : Vec Ideal S640x128 .f32) (ix2 ⟨128 * (k.val / 64) + k.val % 64, by omega⟩ (Fin.natAdd 64 u)) := by
  entry_read
  exact wuB_apply (σ (Proc.devRef .tc main_arg7)) k u

/-- The second layer's candidate weights for the input rows. -/
theorem host_wc1 (k : Fin 320) (u : Fin 64) : (StableHlo.after hostOps0_1 σ (Proc.devRef .tc main_call0_v47) : Vec Ideal S320x64 .f32) (ix2 k u) = (σ (Proc.devRef .tc main_arg9) : Vec Ideal S640x64 .f32) (ix2 ⟨128 * (k.val / 64) + k.val % 64, by omega⟩ u) := by
  entry_read
  exact wcB_apply (σ (Proc.devRef .tc main_arg9)) k u

/-- The input in the narrow format. -/
theorem host_x16 : (StableHlo.after hostOps0_1 σ (Proc.devRef .tc main_call0_v0) : Vec Ideal S3960x4 .f32) = (σ (Proc.devRef .tc main_v0) : Vec Ideal S3960x4 .f32) := by
  entry_read
  rfl

/-- The reciprocals of the column sums, as a row. -/
theorem host_row (j : Fin 3960) : (StableHlo.after hostOps1 σ (Proc.devRef .tc main_call0_v62) : Vec Ideal S1x3960 .f32) (ix2 0 j) = recip ((σ (Proc.devRef .tc main_call0_v57_1) : Vec Ideal S1x3960 .f32) (ix2 0 j)) := by
  entry_read
  exact recipRow_apply (σ (Proc.devRef .tc main_call0_v57_1)) j

/-- The same reciprocals as a column. -/
theorem host_col (j : Fin 3960) : (StableHlo.after hostOps1 σ (Proc.devRef .tc main_call0_v63) : Vec Ideal S3960x1 .f32) (ix2 j 0) = recip ((σ (Proc.devRef .tc main_call0_v57_1) : Vec Ideal S1x3960 .f32) (ix2 0 j)) := by
  entry_read
  exact (colOfRow_apply _ j).trans (recipRow_apply (σ (Proc.devRef .tc main_call0_v57_1)) j)

/-- The first result is the projected output transposed. -/
theorem host_proj (b : Fin 4) (i : Fin 3960) : (StableHlo.after hostOps6 σ (Proc.devRef .tc main_v1_0) : Vec Ideal S4x3960 .f32) (ix2 b i) = (σ (Proc.devRef .tc main_call0_v68_1) : Vec Ideal S3960x4 .f32) (ix2 i b) := by
  entry_read
  exact projT_apply (σ (Proc.devRef .tc main_call0_v68_1)) b i

/-- The second result is the hidden states reshaped. -/
theorem host_hidden (l : Fin 2) (b : Fin 4) (k : Fin 253440) : (StableHlo.after hostOps6 σ (Proc.devRef .tc main_v1_1) : Vec Ideal S2x4x253440 .f32) (ix3 l b k) = (σ (Proc.devRef .tc main_call0_v68_0) : Vec Ideal S2x4x3960x64 .f32) (ix4 l b ⟨k.val / 64, by omega⟩ ⟨k.val % 64, by omega⟩) := by
  entry_read
  exact flat_apply (σ (Proc.devRef .tc main_call0_v68_0)) l b k

end Cert.KernelIdeal.Val
-- ==== Proof.Val.Blocks.lean ====
/- The blocks of a 3960-row array, 792 rows each. -/
module

public import proofs.«01_k».proof.Proof.Run.Base
public import proofs.«01_k».proof.Proof.Val.Pay

@[expose] public section

noncomputable section

namespace Cert.KernelIdeal.Val

open Cert.KernelIdeal Cert.KernelIdeal.Gen
open Idealize.ShloMosaic

/-- Row `r` of block `n`. -/
def rowAt (n : ℕ) (r : Fin 792) : Fin 3960 := ⟨(n * 792 + r.val) % 3960, Nat.mod_lt _ (by decide)⟩

/-- A rank-2 index from its coordinates' values. -/
theorem ix2_ext {n m : ℕ} {i : (⟨2, ![n, m]⟩ : Shape).Idx} {a : Fin n} {b : Fin m} (h0 : (i 0).val = a.val) (h1 : (i 1).val = b.val) : i = ix2 a b := by
  funext d; match d with | ⟨0, _⟩ => exact Fin.ext h0 | ⟨1, _⟩ => exact Fin.ext h1

/-- Where a row of block `n` sits. -/
theorem row_val {n k : ℕ} (hn : n < 5) (hk : k = n) (r : Fin 792) : k * 792 + 1 * r.val = (rowAt n r).val := by
  subst hk; show _ = (k * 792 + r.val) % 3960; omega

/-- Where a coordinate of the only block sits. -/
theorem only_val {k s r : ℕ} (hk : k = 0) : k * s + 1 * r = r := by subst hk; omega

/-- A function on blocks and one on the array agree at an index when they agree at its two coordinates. -/
theorem at_ix2 {n m n' m' : ℕ} {f : (⟨2, ![n, m]⟩ : Shape).Idx → EReal} {g : (⟨2, ![n', m']⟩ : Shape).Idx → EReal} {y : (⟨2, ![n, m]⟩ : Shape).Idx}
    {i : (⟨2, ![n', m']⟩ : Shape).Idx} (r : Fin n → Fin n') (k : Fin m → Fin m') (h : ∀ a b, f (ix2 a b) = g (ix2 (r a) (k b)))
    (h0 : (i 0).val = (r (y 0)).val) (h1 : (i 1).val = (k (y 1)).val) : f y = g i :=
  (congrArg f (ix2_ext (a := (y 0 : Fin n)) (b := (y 1 : Fin m)) rfl rfl)).trans ((h _ _).trans (congrArg g (ix2_ext h0 h1).symm))

/-- A row's share depends on that row only. -/
theorem walk_congr {M N : ℕ} {a : (⟨2, ![M, 3960]⟩ : Shape).Idx → EReal} {A : (⟨2, ![N, 3960]⟩ : Shape).Idx → EReal} {r : Fin M} {i : Fin N}
    (h : ∀ k, a (ix2 r k) = A (ix2 i k)) (k : Fin 3960) : walk a r k = walk A i k := by
  unfold walk; simp only [h]

/-- A sum over the rows, block by block. -/
theorem sum_blocks {β : Type} [AddCommMonoid β] (f : Fin 3960 → β) : (∑ n ∈ Finset.range 5, ∑ r, f (rowAt n r)) = ∑ i, f i := by
  rw [← Fin.sum_univ_eq_sum_range (fun n => ∑ r, f (rowAt n r)) 5, ← Fintype.sum_prod_type']
  refine Fintype.sum_equiv (finProdFinEquiv (m := 5) (n := 792)) _ _ fun p => congrArg f (Fin.ext ?_)
  show (p.1.val * 792 + p.2.val) % 3960 = p.2.val + 792 * p.1.val
  omega

/-- A value that starts with the first block's sum and adds each later one's. -/
theorem acc_range {N n m : ℕ} {first : Fin N → (⟨2, ![n, m]⟩ : Shape).Idx → EReal} {next : Fin N → ((⟨2, ![n, m]⟩ : Shape).Idx → EReal) → (⟨2, ![n, m]⟩ : Shape).Idx → EReal}
    (f : Fin 3960 → Fin n → Fin m → EReal) (hf : ∀ t a b, first t (ix2 a b) = ∑ r, f (rowAt t.val r) a b)
    (hn : ∀ t s a b, next t s (ix2 a b) = s (ix2 a b) + ∑ r, f (rowAt t.val r) a b) (a : Fin n) (b : Fin m) :
    ∀ (q : ℕ) (h : q < N), Run.acc first next q h (ix2 a b) = ∑ k ∈ Finset.range (q + 1), ∑ r, f (rowAt k r) a b
  | 0, h => by rw [Finset.sum_range_one]; exact hf _ a b
  | q + 1, h => by rw [Finset.sum_range_succ, ← acc_range f hf hn a b q (Nat.lt_of_succ_lt h)]; exact hn _ _ a b

/-- After the last block it is the sum over the rows. -/
theorem acc_last {N n m : ℕ} {first : Fin N → (⟨2, ![n, m]⟩ : Shape).Idx → EReal} {next : Fin N → ((⟨2, ![n, m]⟩ : Shape).Idx → EReal) → (⟨2, ![n, m]⟩ : Shape).Idx → EReal}
    (f : Fin 3960 → Fin n → Fin m → EReal) (hf : ∀ t a b, first t (ix2 a b) = ∑ r, f (rowAt t.val r) a b)
    (hn : ∀ t s a b, next t s (ix2 a b) = s (ix2 a b) + ∑ r, f (rowAt t.val r) a b) (h : 4 < N) (a : Fin n) (b : Fin m) :
    Run.acc first next 4 h (ix2 a b) = ∑ i, f i a b :=
  (acc_range f hf hn a b 4 h).trans (sum_blocks fun i => f i a b)

end Cert.KernelIdeal.Val

end
-- ==== Proof.Val.Spec.lean ====
/- The cells' values at an index, as plain formulas over the extended reals. -/
module

public import proofs.«01_k».proof.Proof.Run.Cell0
public import proofs.«01_k».proof.Proof.Run.Cell1
public import proofs.«01_k».proof.Proof.Val.Blocks
public import Idealize.ShloMosaic.Lib.Pipeline.ValueKit

@[expose] public section

noncomputable section

namespace Cert.KernelIdeal.Val

open Cert.KernelIdeal Cert.KernelIdeal.Gen Cert.KernelIdeal.Run
open Idealize.ShloMosaic Idealize.ShloMosaic.TcCoe Idealize.SL.Sem

/-- The cell's value from its two gates, before their nonlinearities, when the hidden state was zero. -/
def act (zu zc : EReal) : EReal := (1 - Ideal.logistic zu) * Ideal.tanh zc

/-- Position `j` of piece `m`, the pieces 64 long. -/
def at64 {n : ℕ} (m : Fin n) (j : Fin 64) : Fin (64 * n) := ⟨64 * m.val + j.val, by omega⟩

/-- A layer-one gate at a row, a batch column and a unit: the bias plus the five terms' products. -/
def gateA {M : ℕ} (x t s p : (⟨2, ![M, 4]⟩ : Shape).Idx → EReal) (e : (⟨2, ![M, 1]⟩ : Shape).Idx → EReal) (q : (⟨2, ![M, 4]⟩ : Shape).Idx → EReal)
    (w : S5x64.Idx → EReal) (bias : S1x64.Idx → EReal) (r : Fin M) (b : Fin 4) (u : Fin 64) : EReal :=
  bias (ix2 0 u) + x (ix2 r b) * w (ix2 0 u) + t (ix2 r b) * w (ix2 1 u) + s (ix2 r b) * w (ix2 2 u)
    + e (ix2 r 0) * p (ix2 r b) * w (ix2 3 u) + (two * q (ix2 r b) - x (ix2 r b)) * w (ix2 4 u)

/-- A layer-two gate at a row, a batch column and a unit: the five terms' products plus the bias. -/
def gateB {M : ℕ} (h t s p q : (⟨2, ![M, 256]⟩ : Shape).Idx → EReal) (w : S320x64.Idx → EReal) (bias : S1x64.Idx → EReal) (r : Fin M) (b : Fin 4) (u : Fin 64) : EReal :=
  ((∑ j, h (ix2 r (at64 b j)) * w (ix2 (at64 (n := 5) 0 j) u)) + (∑ j, t (ix2 r (at64 b j)) * w (ix2 (at64 (n := 5) 1 j) u))
    + (∑ j, s (ix2 r (at64 b j)) * w (ix2 (at64 (n := 5) 2 j) u)) + (∑ j, p (ix2 r (at64 b j)) * w (ix2 (at64 (n := 5) 3 j) u))
    + (∑ j, (two * q (ix2 r (at64 b j)) - h (ix2 r (at64 b j))) * w (ix2 (at64 (n := 5) 4 j) u))) + bias (ix2 0 u)

/-- A sum over 320 positions, piece by piece. -/
theorem sum_at64 {β : Type} [AddCommMonoid β] (f : Fin 320 → β) :
    (∑ k, f k) = (∑ j, f (at64 (n := 5) 0 j)) + (∑ j, f (at64 (n := 5) 1 j)) + (∑ j, f (at64 (n := 5) 2 j)) + (∑ j, f (at64 (n := 5) 3 j)) + (∑ j, f (at64 (n := 5) 4 j)) := by
  rw [← Fin.sum_univ_five (f := fun m : Fin 5 => ∑ j, f (at64 m j)), ← Fintype.sum_prod_type']
  refine (Fintype.sum_equiv (finProdFinEquiv (m := 5) (n := 64)) _ _ fun p => congrArg f (Fin.ext ?_)).symm
  show 64 * p.1.val + p.2.val = p.2.val + 64 * p.1.val
  omega

section First
/-- A column times a row of weights. -/
theorem scaled_apply (col : FVec Ideal S792x1 .f32) (w : Vec Ideal S1x64 .bf16) (r : Fin 792) (u : Fin 64) :
    scaled col w (ix2 r u) = col (ix2 r 0) * w (ix2 0 u) := by
  unfold scaled; pointwise

/-- A block's batch column. -/
theorem column_apply (x : FVec Ideal S792x4 .f32) (b : Fin 4) (r : Fin 792) :
    (extractStridedSlice S792x1 ![0, b.val] x (column_in b)) (ix2 r 0) = x (ix2 r b) :=
  congrArg x (ix2_ext (by show 0 + r.val = r.val; omega) (by show b.val + 0 = b.val; omega))

/-- A row of the weights. -/
theorem row_apply (w : Vec Ideal S5x64 .bf16) (m : Fin 5) (u : Fin 64) :
    (View.ld w (Rect.unit ![m.val, 0] S1x64.size (row_in m)) : Vec Ideal S1x64 .bf16) (ix2 0 u) = w (ix2 m u) :=
  congrArg w (ix2_ext (by show m.val + 1 * 0 = m.val; omega) (by show 0 + 1 * u.val = u.val; omega))

/-- A layer-one gate of a block, at an index. -/
theorem gate0_apply (t0 t1 t2 t3 t4 : FVec Ideal S792x4 .f32) (b : Fin 4) (w : Vec Ideal S5x64 .bf16) (bias : Vec Ideal S1x64 .f32) (r : Fin 792) (u : Fin 64) :
    gate0 t0 t1 t2 t3 t4 b w bias (ix2 r u) = bias (ix2 0 u) + t0 (ix2 r b) * w (ix2 0 u) + t1 (ix2 r b) * w (ix2 1 u) + t2 (ix2 r b) * w (ix2 2 u)
      + t3 (ix2 r b) * w (ix2 3 u) + t4 (ix2 r b) * w (ix2 4 u) := by
  have h : gate0 t0 t1 t2 t3 t4 b w bias (ix2 r u)
      = (broadcastTo S792x64 (shapeCast S1x64 (shapeCast S1x64 bias shapeCasts_S1x64_S1x64 : FVec Ideal S1x64 .f32) shapeCasts_S1x64_S1x64 : FVec Ideal S1x64 .f32) broadcasts_S1x64_S792x64) (ix2 r u)
      + scaled (extractStridedSlice S792x1 ![0, b.val] t0 (column_in b)) (View.ld w (Rect.unit ![(0 : Fin 5).val, 0] S1x64.size (row_in 0))) (ix2 r u)
      + scaled (extractStridedSlice S792x1 ![0, b.val] t1 (column_in b)) (View.ld w (Rect.unit ![(1 : Fin 5).val, 0] S1x64.size (row_in 1))) (ix2 r u)
      + scaled (extractStridedSlice S792x1 ![0, b.val] t2 (column_in b)) (View.ld w (Rect.unit ![(2 : Fin 5).val, 0] S1x64.size (row_in 2))) (ix2 r u)
      + scaled (extractStridedSlice S792x1 ![0, b.val] t3 (column_in b)) (View.ld w (Rect.unit ![(3 : Fin 5).val, 0] S1x64.size (row_in 3))) (ix2 r u)
      + scaled (extractStridedSlice S792x1 ![0, b.val] t4 (column_in b)) (View.ld w (Rect.unit ![(4 : Fin 5).val, 0] S1x64.size (row_in 4))) (ix2 r u) := rfl
  rw [h]
  simp only [scaled_apply, column_apply, row_apply]
  pointwise

/-- The first layer's cell at an index. -/
theorem cell0_apply (x0 : Vec Ideal S792x4 .f32) (x1 x2 : Vec Ideal S792x4 .bf16) (x3 : Vec Ideal S792x4 .f32) (x4 : Vec Ideal S792x1 .f32) (x5 : Vec Ideal S792x4 .f32)
    (x6 x7 : Vec Ideal S5x64 .bf16) (x8 x9 : Vec Ideal S1x64 .f32) (b : Fin 4) (r : Fin 792) (u : Fin 64) :
    cell0 x0 x1 x2 x3 x4 x5 x6 x7 x8 x9 b (ix2 r u) = act (gateA x0 x1 x2 x3 x4 x5 x6 x8 r b u) (gateA x0 x1 x2 x3 x4 x5 x7 x9 r b u) := by
  have h : cell0 x0 x1 x2 x3 x4 x5 x6 x7 x8 x9 b (ix2 r u)
      = (broadcast S792x64 (Scalar.ofBits .f32 0x3F800000#32 : Ideal .f32) (ix2 r u)
          - logistic (gate0 (k2_pay4 x0) (k2_pay5 x1) (k2_pay6 x2) (k2_pay7 x4 x3) (k2_pay8 x0 x5) b x6 x8) (ix2 r u))
        * tanh (gate0 (k2_pay4 x0) (k2_pay5 x1) (k2_pay6 x2) (k2_pay7 x4 x3) (k2_pay8 x0 x5) b x7 x9) (ix2 r u) := rfl
  rw [h]
  unfold logistic tanh act gateA
  pointwise
  simp only [gate0_apply]
  unfold k2_pay4 k2_pay5 k2_pay6 k2_pay7 k2_pay8 k2_pay3
  pointwise
end First

section Second
variable (x0 : Vec Ideal S792x256 .f32) (x1 x2 : Vec Ideal S792x256 .bf16) (x3 x4 : Vec Ideal S792x256 .f32) (x5 x6 : Vec Ideal S320x64 .bf16) (x7 x8 : Vec Ideal S1x64 .f32)
  (x9 : Vec Ideal S1x64 .bf16) (x10 : Vec Ideal S1x1 .f32)

/-- A layer-two gate of a block, at an index. -/
theorem gate1_apply (z : FVec Ideal S792x320 .bf16) (w : Vec Ideal S320x64 .bf16) (bias : Vec Ideal S1x64 .f32) (r : Fin 792) (u : Fin 64) :
    gate1 z w bias (ix2 r u) = (∑ k, z (ix2 r k) * w (ix2 k u)) + bias (ix2 0 u) := by
  unfold gate1; pointwise

/-- A batch entry's columns of a block. -/
theorem columnsOf_apply (x : S792x256.Idx → EReal) (b : Fin 4) (r : Fin 792) (j : Fin 64) : columnsOf x b (ix2 r j) = x (ix2 r (at64 b j)) :=
  congrArg x (ix2_ext (by show 0 + r.val = r.val; omega) (by show 64 * b.val + j.val = 64 * b.val + j.val; rfl))

/-- The five terms of a batch, as a family. -/
def pieces (b : Fin 4) : Fin 5 → S792x64.Idx → EReal :=
  ![columnsOf (k5_pay6 x0) b, columnsOf (k5_pay7 x1) b, columnsOf (k5_pay8 x2) b, columnsOf (k5_pay9 x3) b, columnsOf (k5_pay10 x0 x4) b]

/-- The five terms side by side, piece by piece. -/
theorem terms1_apply (b : Fin 4) (r : Fin 792) (m : Fin 5) (j : Fin 64) : terms1 x0 x1 x2 x3 x4 b (ix2 r (at64 m j)) = pieces x0 x1 x2 x3 x4 b m (ix2 r j) := by
  have hj := j.isLt
  refine concatenate_ofFn_apply (t := S792x320) (s₁ := S792x64) 1 (pieces x0 x1 x2 x3 x4 b) concatenates_S792x64_S792x64_S792x64_S792x64_S792x64_S792x320_d1 rfl 64 rfl
    (ix2 r (at64 m j)) m ?_ (ix2 r j) ?_ ?_
  · show (64 * m.val + j.val) / 64 = m.val; omega
  · show j.val = (64 * m.val + j.val) % 64; omega
  · intro a ha; match a with | ⟨0, _⟩ => rfl | ⟨1, _⟩ => exact absurd rfl ha

/-- A layer-two gate over its five terms. -/
theorem gate1_terms1 (w : Vec Ideal S320x64 .bf16) (bias : Vec Ideal S1x64 .f32) (b : Fin 4) (r : Fin 792) (u : Fin 64) :
    gate1 (terms1 x0 x1 x2 x3 x4 b) w bias (ix2 r u) = gateB x0 x1 x2 x3 x4 w bias r b u := by
  have e0 : ∀ j, pieces x0 x1 x2 x3 x4 b 0 (ix2 r j) = x0 (ix2 r (at64 b j)) := fun j => (columnsOf_apply (k5_pay6 x0) b r j).trans (by unfold k5_pay6 k5_pay5; pointwise)
  have e1 : ∀ j, pieces x0 x1 x2 x3 x4 b 1 (ix2 r j) = x1 (ix2 r (at64 b j)) := fun j => (columnsOf_apply (k5_pay7 x1) b r j).trans (by unfold k5_pay7; pointwise)
  have e2 : ∀ j, pieces x0 x1 x2 x3 x4 b 2 (ix2 r j) = x2 (ix2 r (at64 b j)) := fun j => (columnsOf_apply (k5_pay8 x2) b r j).trans (by unfold k5_pay8; pointwise)
  have e3 : ∀ j, pieces x0 x1 x2 x3 x4 b 3 (ix2 r j) = x3 (ix2 r (at64 b j)) := fun j => (columnsOf_apply (k5_pay9 x3) b r j).trans (by unfold k5_pay9; pointwise)
  have e4 : ∀ j, pieces x0 x1 x2 x3 x4 b 4 (ix2 r j) = two * x4 (ix2 r (at64 b j)) - x0 (ix2 r (at64 b j)) := fun j =>
    (columnsOf_apply (k5_pay10 x0 x4) b r j).trans (by unfold k5_pay10 k5_pay5; pointwise)
  rw [gate1_apply, sum_at64]
  simp only [terms1_apply, e0, e1, e2, e3, e4]
  rfl

/-- The second layer's cell at an index. -/
theorem cell1_apply (b : Fin 4) (r : Fin 792) (u : Fin 64) :
    cell1 x0 x1 x2 x3 x4 x5 x6 x7 x8 b (ix2 r u) = act (gateB x0 x1 x2 x3 x4 x5 x7 r b u) (gateB x0 x1 x2 x3 x4 x6 x8 r b u) := by
  have h : cell1 x0 x1 x2 x3 x4 x5 x6 x7 x8 b (ix2 r u)
      = (broadcast S792x64 (Scalar.ofBits .f32 0x3F800000#32 : Ideal .f32) (ix2 r u) - logistic (gate1 (terms1 x0 x1 x2 x3 x4 b) x5 x7) (ix2 r u))
        * tanh (gate1 (terms1 x0 x1 x2 x3 x4 b) x6 x8) (ix2 r u) := rfl
  rw [h]
  unfold logistic tanh act
  pointwise
  simp only [gate1_terms1]

/-- The projection of a block's batch entry. -/
theorem project1_apply (h : FVec Ideal S792x64 .f32) (r : Fin 792) :
    project1 h x9 x10 (ix2 r 0) = (∑ u, h (ix2 r u) * x9 (ix2 0 u)) + x10 (ix2 0 0) := by
  unfold project1 k5_pay13; pointwise

/-- The projected cell at an index. -/
theorem projected1_apply (b : Fin 4) (r : Fin 792) :
    projected1 x0 x1 x2 x3 x4 x5 x6 x7 x8 x9 x10 b (ix2 r 0)
      = (∑ u, act (gateB x0 x1 x2 x3 x4 x5 x7 r b u) (gateB x0 x1 x2 x3 x4 x6 x8 r b u) * x9 (ix2 0 u)) + x10 (ix2 0 0) := by
  unfold projected1; rw [project1_apply]; simp only [cell1_apply]
end Second

end Cert.KernelIdeal.Val

end
-- ==== Proof.Val.Region2.lean ====
/- The third pallas_call's results, over the extended reals. -/
module

public import proofs.«01_k».proof.Proof.Run.Region2
public import proofs.«01_k».proof.Proof.Val.Spec
public import Idealize.ShloMosaic.Lib.Pipeline.ValueKit

@[expose] public section

noncomputable section

namespace Cert.KernelIdeal.Val

open Cert.KernelIdeal Cert.KernelIdeal.Gen Cert.KernelIdeal.Run
open Idealize.ShloMosaic Idealize.ShloMosaic.TcCoe Idealize.SL.Sem
open Idealize.ShloMosaic.Pipeline (Dat)

variable (V : (c : Dev nD) → (b : Ref sig .tc) → Buf (Elt Ideal) ((c : Thread nD τ).loc b)) (c : Dev nD)

/-- A block of operand 0 is its rows of the array. -/
theorem blk2_0_apply {A : S3960x4.Idx → EReal} (hA : V c (Pipeline.arrRef spec2 0) = A) (t : Fin cfg2.N) (r : Fin 792) (k : Fin 4) :
    blk2 V c 0 t (ix2 r k) = A (ix2 (rowAt t.val r) k) := by
  have h : win2_0.index t 0 = t.val ∧ win2_0.index t 1 = 0 := by revert t; decide +kernel
  exact (congrArg (V c (Pipeline.arrRef spec2 0)) (ix2_ext (row_val t.isLt h.1 r) (only_val h.2))).trans (congrFun hA _)

/-- A block of operand 1 is its rows of the array. -/
theorem blk2_1_apply {T : S3960x4.Idx → EReal} (hT : V c (Pipeline.arrRef spec2 1) = T) (t : Fin cfg2.N) (r : Fin 792) (k : Fin 4) :
    blk2 V c 1 t (ix2 r k) = T (ix2 (rowAt t.val r) k) := by
  have h : win2_1.index t 0 = t.val ∧ win2_1.index t 1 = 0 := by revert t; decide +kernel
  exact (congrArg (V c (Pipeline.arrRef spec2 1)) (ix2_ext (row_val t.isLt h.1 r) (only_val h.2))).trans (congrFun hT _)

/-- A block of operand 2 is its rows of the array. -/
theorem blk2_2_apply {S : S3960x4.Idx → EReal} (hS : V c (Pipeline.arrRef spec2 2) = S) (t : Fin cfg2.N) (r : Fin 792) (k : Fin 4) :
    blk2 V c 2 t (ix2 r k) = S (ix2 (rowAt t.val r) k) := by
  have h : win2_2.index t 0 = t.val ∧ win2_2.index t 1 = 0 := by revert t; decide +kernel
  exact (congrArg (V c (Pipeline.arrRef spec2 2)) (ix2_ext (row_val t.isLt h.1 r) (only_val h.2))).trans (congrFun hS _)

/-- A block of operand 3 is its rows of the array. -/
theorem blk2_3_apply {P : S3960x4.Idx → EReal} (hP : V c (Pipeline.arrRef spec2 3) = P) (t : Fin cfg2.N) (r : Fin 792) (k : Fin 4) :
    blk2 V c 3 t (ix2 r k) = P (ix2 (rowAt t.val r) k) := by
  have h : win2_3.index t 0 = t.val ∧ win2_3.index t 1 = 0 := by revert t; decide +kernel
  exact (congrArg (V c (Pipeline.arrRef spec2 3)) (ix2_ext (row_val t.isLt h.1 r) (only_val h.2))).trans (congrFun hP _)

/-- A block of operand 4 is its rows of the array. -/
theorem blk2_4_apply {E : S3960x1.Idx → EReal} (hE : V c (Pipeline.arrRef spec2 4) = E) (t : Fin cfg2.N) (r : Fin 792) (k : Fin 1) :
    blk2 V c 4 t (ix2 r k) = E (ix2 (rowAt t.val r) k) := by
  have h : win2_4.index t 0 = t.val ∧ win2_4.index t 1 = 0 := by revert t; decide +kernel
  exact (congrArg (V c (Pipeline.arrRef spec2 4)) (ix2_ext (row_val t.isLt h.1 r) (only_val h.2))).trans (congrFun hE _)

/-- A block of operand 5 is its rows of the array. -/
theorem blk2_5_apply {Q : S3960x4.Idx → EReal} (hQ : V c (Pipeline.arrRef spec2 5) = Q) (t : Fin cfg2.N) (r : Fin 792) (k : Fin 4) :
    blk2 V c 5 t (ix2 r k) = Q (ix2 (rowAt t.val r) k) := by
  have h : win2_5.index t 0 = t.val ∧ win2_5.index t 1 = 0 := by revert t; decide +kernel
  exact (congrArg (V c (Pipeline.arrRef spec2 5)) (ix2_ext (row_val t.isLt h.1 r) (only_val h.2))).trans (congrFun hQ _)

/-- A block of operand 6 is its rows of the array. -/
theorem blk2_6_apply {U : S5x64.Idx → EReal} (hU : V c (Pipeline.arrRef spec2 6) = U) (t : Fin cfg2.N) (r : Fin 5) (k : Fin 64) :
    blk2 V c 6 t (ix2 r k) = U (ix2 r k) := by
  have h : win2_6.index t 0 = 0 ∧ win2_6.index t 1 = 0 := by revert t; decide +kernel
  exact (congrArg (V c (Pipeline.arrRef spec2 6)) (ix2_ext (only_val h.1) (only_val h.2))).trans (congrFun hU _)

/-- A block of operand 7 is its rows of the array. -/
theorem blk2_7_apply {C : S5x64.Idx → EReal} (hC : V c (Pipeline.arrRef spec2 7) = C) (t : Fin cfg2.N) (r : Fin 5) (k : Fin 64) :
    blk2 V c 7 t (ix2 r k) = C (ix2 r k) := by
  have h : win2_7.index t 0 = 0 ∧ win2_7.index t 1 = 0 := by revert t; decide +kernel
  exact (congrArg (V c (Pipeline.arrRef spec2 7)) (ix2_ext (only_val h.1) (only_val h.2))).trans (congrFun hC _)

/-- A block of operand 8 is its rows of the array. -/
theorem blk2_8_apply {G : S1x64.Idx → EReal} (hG : V c (Pipeline.arrRef spec2 8) = G) (t : Fin cfg2.N) (r : Fin 1) (k : Fin 64) :
    blk2 V c 8 t (ix2 r k) = G (ix2 r k) := by
  have h : win2_8.index t 0 = 0 ∧ win2_8.index t 1 = 0 := by revert t; decide +kernel
  exact (congrArg (V c (Pipeline.arrRef spec2 8)) (ix2_ext (only_val h.1) (only_val h.2))).trans (congrFun hG _)

/-- A block of operand 9 is its rows of the array. -/
theorem blk2_9_apply {L : S1x64.Idx → EReal} (hL : V c (Pipeline.arrRef spec2 9) = L) (t : Fin cfg2.N) (r : Fin 1) (k : Fin 64) :
    blk2 V c 9 t (ix2 r k) = L (ix2 r k) := by
  have h : win2_9.index t 0 = 0 ∧ win2_9.index t 1 = 0 := by revert t; decide +kernel
  exact (congrArg (V c (Pipeline.arrRef spec2 9)) (ix2_ext (only_val h.1) (only_val h.2))).trans (congrFun hL _)

/-- The first layer's hidden state, batch columns side by side. -/
def hiddenA (A T S P : S3960x4.Idx → EReal) (E : S3960x1.Idx → EReal) (Q : S3960x4.Idx → EReal) (U C : S5x64.Idx → EReal) (G L : S1x64.Idx → EReal)
    (i : Fin 3960) (b : Fin 4) (u : Fin 64) : EReal := act (gateA A T S P E Q U G i b u) (gateA A T S P E Q C L i b u)

variable {A T S P : S3960x4.Idx → EReal} {E : S3960x1.Idx → EReal} {Q : S3960x4.Idx → EReal} {U C : S5x64.Idx → EReal} {G L : S1x64.Idx → EReal}
    (hA : V c (Pipeline.arrRef spec2 0) = A)
    (hT : V c (Pipeline.arrRef spec2 1) = T)
    (hS : V c (Pipeline.arrRef spec2 2) = S)
    (hP : V c (Pipeline.arrRef spec2 3) = P)
    (hE : V c (Pipeline.arrRef spec2 4) = E)
    (hQ : V c (Pipeline.arrRef spec2 5) = Q)
    (hU : V c (Pipeline.arrRef spec2 6) = U)
    (hC : V c (Pipeline.arrRef spec2 7) = C)
    (hG : V c (Pipeline.arrRef spec2 8) = G)
    (hL : V c (Pipeline.arrRef spec2 9) = L)
include hA hT hS hP hE hQ hU hC hG hL

/-- A block's cell is the array's cell at the block's rows. -/
theorem cell2_apply (t : Fin cfg2.N) (r : Fin 792) (b : Fin 4) (u : Fin 64) :
    cell0 (blk2 V c 0 t) (blk2 V c 1 t) (blk2 V c 2 t) (blk2 V c 3 t) (blk2 V c 4 t) (blk2 V c 5 t) (blk2 V c 6 t) (blk2 V c 7 t) (blk2 V c 8 t) (blk2 V c 9 t) b (ix2 r u)
      = hiddenA A T S P E Q U C G L (rowAt t.val r) b u := by
  rw [cell0_apply]
  unfold gateA
  simp only [blk2_0_apply V c hA, blk2_1_apply V c hT, blk2_2_apply V c hS, blk2_3_apply V c hP, blk2_4_apply V c hE, blk2_5_apply V c hQ, blk2_6_apply V c hU, blk2_7_apply V c hC, blk2_8_apply V c hG, blk2_9_apply V c hL]
  rfl

/-- The batch columns' cells, side by side, at the array's rows. -/
theorem beside2_apply (t : Fin cfg2.N) (y : S792x256.Idx) :
    beside (cell0 (blk2 V c 0 t) (blk2 V c 1 t) (blk2 V c 2 t) (blk2 V c 3 t) (blk2 V c 4 t) (blk2 V c 5 t) (blk2 V c 6 t) (blk2 V c 7 t) (blk2 V c 8 t) (blk2 V c 9 t)) y
      = hiddenA A T S P E Q U C G L (rowAt t.val (y 0)) (batchOf y) (withinBatch y 1) :=
  (congrArg _ (ix2_ext (i := withinBatch y) (a := (y 0 : Fin 792)) (b := (withinBatch y 1 : Fin 64)) rfl rfl)).trans (cell2_apply V c hA hT hS hP hE hQ hU hC hG hL t _ _ _)

/-- The unit and the batch of one of 256 columns. -/
def splitOf (k : Fin 256) : Fin 4 × Fin 64 := (⟨k.val / 64, by omega⟩, ⟨k.val % 64, by omega⟩)

/-- The first hidden state, whole. -/
theorem array2_10 : (dat2 V c).arrAt 10 cfg2.N
      = fun y : S3960x256.Idx => hiddenA A T S P E Q U C G L (y 0) (splitOf (y 1)).1 (splitOf (y 1)).2 := by
  have h : ∀ t : Fin cfg2.N, win2_10.index t 0 = t.val ∧ win2_10.index t 1 = 0 := by decide +kernel
  refine (dat2 V c).arrAt_eq_of_covers 10 _ (by decide +kernel) fun t hf y => ?_
  blk_simp
  rw [after2_10]
  refine at_ix2 (g := fun y : S3960x256.Idx => hiddenA A T S P E Q U C G L (y 0) (splitOf (y 1)).1 (splitOf (y 1)).2) (rowAt t.val) id (fun r k => ?_)
    (row_val t.isLt (h t).1 _) (only_val (h t).2)
  exact beside2_apply V c hA hT hS hP hE hQ hU hC hG hL t (ix2 r k)

/-- The same in the narrow format. -/
theorem array2_11 : (dat2 V c).arrAt 11 cfg2.N
      = fun y : S3960x256.Idx => hiddenA A T S P E Q U C G L (y 0) (splitOf (y 1)).1 (splitOf (y 1)).2 := by
  have h : ∀ t : Fin cfg2.N, win2_11.index t 0 = t.val ∧ win2_11.index t 1 = 0 := by decide +kernel
  refine (dat2 V c).arrAt_eq_of_covers 11 _ (by decide +kernel) fun t hf y => ?_
  blk_simp
  rw [after2_11]
  refine at_ix2 (g := fun y : S3960x256.Idx => hiddenA A T S P E Q U C G L (y 0) (splitOf (y 1)).1 (splitOf (y 1)).2) (rowAt t.val) id (fun r k => ?_)
    (row_val t.isLt (h t).1 _) (only_val (h t).2)
  exact beside2_apply V c hA hT hS hP hE hQ hU hC hG hL t (ix2 r k)

end Cert.KernelIdeal.Val

end
-- ==== Proof.Val.Region5.lean ====
/- The last pallas_call's results, over the extended reals. -/
module

public import proofs.«01_k».proof.Proof.Run.Region5
public import proofs.«01_k».proof.Proof.Val.Spec
public import Idealize.ShloMosaic.Lib.Pipeline.ValueKit

@[expose] public section

noncomputable section

namespace Cert.KernelIdeal.Val

open Cert.KernelIdeal Cert.KernelIdeal.Gen Cert.KernelIdeal.Run
open Idealize.ShloMosaic Idealize.ShloMosaic.TcCoe Idealize.SL.Sem
open Idealize.ShloMosaic.Pipeline (Dat)

variable (V : (c : Dev nD) → (b : Ref sig .tc) → Buf (Elt Ideal) ((c : Thread nD τ).loc b)) (c : Dev nD)

/-- A block of operand 0 is its rows of the array. -/
theorem blk5_0_apply {A : S3960x256.Idx → EReal} (hA : V c (Pipeline.arrRef spec5 0) = A) (t : Fin cfg5.N) (r : Fin 792) (k : Fin 256) :
    blk5 V c 0 t (ix2 r k) = A (ix2 (rowAt t.val r) k) := by
  have h : win5_0.index t 0 = t.val ∧ win5_0.index t 1 = 0 := by revert t; decide +kernel
  exact (congrArg (V c (Pipeline.arrRef spec5 0)) (ix2_ext (row_val t.isLt h.1 r) (only_val h.2))).trans (congrFun hA _)

/-- A block of operand 1 is its rows of the array. -/
theorem blk5_1_apply {T : S3960x256.Idx → EReal} (hT : V c (Pipeline.arrRef spec5 1) = T) (t : Fin cfg5.N) (r : Fin 792) (k : Fin 256) :
    blk5 V c 1 t (ix2 r k) = T (ix2 (rowAt t.val r) k) := by
  have h : win5_1.index t 0 = t.val ∧ win5_1.index t 1 = 0 := by revert t; decide +kernel
  exact (congrArg (V c (Pipeline.arrRef spec5 1)) (ix2_ext (row_val t.isLt h.1 r) (only_val h.2))).trans (congrFun hT _)

/-- A block of operand 2 is its rows of the array. -/
theorem blk5_2_apply {S : S3960x256.Idx → EReal} (hS : V c (Pipeline.arrRef spec5 2) = S) (t : Fin cfg5.N) (r : Fin 792) (k : Fin 256) :
    blk5 V c 2 t (ix2 r k) = S (ix2 (rowAt t.val r) k) := by
  have h : win5_2.index t 0 = t.val ∧ win5_2.index t 1 = 0 := by revert t; decide +kernel
  exact (congrArg (V c (Pipeline.arrRef spec5 2)) (ix2_ext (row_val t.isLt h.1 r) (only_val h.2))).trans (congrFun hS _)

/-- A block of operand 3 is its rows of the array. -/
theorem blk5_3_apply {P : S3960x256.Idx → EReal} (hP : V c (Pipeline.arrRef spec5 3) = P) (t : Fin cfg5.N) (r : Fin 792) (k : Fin 256) :
    blk5 V c 3 t (ix2 r k) = P (ix2 (rowAt t.val r) k) := by
  have h : win5_3.index t 0 = t.val ∧ win5_3.index t 1 = 0 := by revert t; decide +kernel
  exact (congrArg (V c (Pipeline.arrRef spec5 3)) (ix2_ext (row_val t.isLt h.1 r) (only_val h.2))).trans (congrFun hP _)

/-- A block of operand 4 is its rows of the array. -/
theorem blk5_4_apply {Q : S3960x256.Idx → EReal} (hQ : V c (Pipeline.arrRef spec5 4) = Q) (t : Fin cfg5.N) (r : Fin 792) (k : Fin 256) :
    blk5 V c 4 t (ix2 r k) = Q (ix2 (rowAt t.val r) k) := by
  have h : win5_4.index t 0 = t.val ∧ win5_4.index t 1 = 0 := by revert t; decide +kernel
  exact (congrArg (V c (Pipeline.arrRef spec5 4)) (ix2_ext (row_val t.isLt h.1 r) (only_val h.2))).trans (congrFun hQ _)

/-- A block of operand 5 is its rows of the array. -/
theorem blk5_5_apply {U : S320x64.Idx → EReal} (hU : V c (Pipeline.arrRef spec5 5) = U) (t : Fin cfg5.N) (r : Fin 320) (k : Fin 64) :
    blk5 V c 5 t (ix2 r k) = U (ix2 r k) := by
  have h : win5_5.index t 0 = 0 ∧ win5_5.index t 1 = 0 := by revert t; decide +kernel
  exact (congrArg (V c (Pipeline.arrRef spec5 5)) (ix2_ext (only_val h.1) (only_val h.2))).trans (congrFun hU _)

/-- A block of operand 6 is its rows of the array. -/
theorem blk5_6_apply {C : S320x64.Idx → EReal} (hC : V c (Pipeline.arrRef spec5 6) = C) (t : Fin cfg5.N) (r : Fin 320) (k : Fin 64) :
    blk5 V c 6 t (ix2 r k) = C (ix2 r k) := by
  have h : win5_6.index t 0 = 0 ∧ win5_6.index t 1 = 0 := by revert t; decide +kernel
  exact (congrArg (V c (Pipeline.arrRef spec5 6)) (ix2_ext (only_val h.1) (only_val h.2))).trans (congrFun hC _)

/-- A block of operand 7 is its rows of the array. -/
theorem blk5_7_apply {G : S1x64.Idx → EReal} (hG : V c (Pipeline.arrRef spec5 7) = G) (t : Fin cfg5.N) (r : Fin 1) (k : Fin 64) :
    blk5 V c 7 t (ix2 r k) = G (ix2 r k) := by
  have h : win5_7.index t 0 = 0 ∧ win5_7.index t 1 = 0 := by revert t; decide +kernel
  exact (congrArg (V c (Pipeline.arrRef spec5 7)) (ix2_ext (only_val h.1) (only_val h.2))).trans (congrFun hG _)

/-- A block of operand 8 is its rows of the array. -/
theorem blk5_8_apply {L : S1x64.Idx → EReal} (hL : V c (Pipeline.arrRef spec5 8) = L) (t : Fin cfg5.N) (r : Fin 1) (k : Fin 64) :
    blk5 V c 8 t (ix2 r k) = L (ix2 r k) := by
  have h : win5_8.index t 0 = 0 ∧ win5_8.index t 1 = 0 := by revert t; decide +kernel
  exact (congrArg (V c (Pipeline.arrRef spec5 8)) (ix2_ext (only_val h.1) (only_val h.2))).trans (congrFun hL _)

/-- A block of operand 9 is its rows of the array. -/
theorem blk5_9_apply {W : S1x64.Idx → EReal} (hW : V c (Pipeline.arrRef spec5 9) = W) (t : Fin cfg5.N) (r : Fin 1) (k : Fin 64) :
    blk5 V c 9 t (ix2 r k) = W (ix2 r k) := by
  have h : win5_9.index t 0 = 0 ∧ win5_9.index t 1 = 0 := by revert t; decide +kernel
  exact (congrArg (V c (Pipeline.arrRef spec5 9)) (ix2_ext (only_val h.1) (only_val h.2))).trans (congrFun hW _)

/-- A block of operand 10 is its rows of the array. -/
theorem blk5_10_apply {B : S1x1.Idx → EReal} (hB : V c (Pipeline.arrRef spec5 10) = B) (t : Fin cfg5.N) (r : Fin 1) (k : Fin 1) :
    blk5 V c 10 t (ix2 r k) = B (ix2 r k) := by
  have h : win5_10.index t 0 = 0 ∧ win5_10.index t 1 = 0 := by revert t; decide +kernel
  exact (congrArg (V c (Pipeline.arrRef spec5 10)) (ix2_ext (only_val h.1) (only_val h.2))).trans (congrFun hB _)

/-- The second layer's hidden state. -/
def hiddenB (A T S P Q : S3960x256.Idx → EReal) (U C : S320x64.Idx → EReal) (G L : S1x64.Idx → EReal)
    (i : Fin 3960) (b : Fin 4) (u : Fin 64) : EReal := act (gateB A T S P Q U G i b u) (gateB A T S P Q C L i b u)

/-- Both layers' hidden states, the first layer's given with its batch columns side by side. -/
def hiddenBoth (A T S P Q : S3960x256.Idx → EReal) (U C : S320x64.Idx → EReal) (G L : S1x64.Idx → EReal)
    (l : Fin 2) (b : Fin 4) (i : Fin 3960) (u : Fin 64) : EReal := if l = 0 then A (ix2 i (at64 b u)) else hiddenB A T S P Q U C G L i b u

variable {A T S P Q : S3960x256.Idx → EReal} {U C : S320x64.Idx → EReal} {G L : S1x64.Idx → EReal} {W : S1x64.Idx → EReal} {B : S1x1.Idx → EReal}
    (hA : V c (Pipeline.arrRef spec5 0) = A)
    (hT : V c (Pipeline.arrRef spec5 1) = T)
    (hS : V c (Pipeline.arrRef spec5 2) = S)
    (hP : V c (Pipeline.arrRef spec5 3) = P)
    (hQ : V c (Pipeline.arrRef spec5 4) = Q)
    (hU : V c (Pipeline.arrRef spec5 5) = U)
    (hC : V c (Pipeline.arrRef spec5 6) = C)
    (hG : V c (Pipeline.arrRef spec5 7) = G)
    (hL : V c (Pipeline.arrRef spec5 8) = L)
    (hW : V c (Pipeline.arrRef spec5 9) = W)
    (hB : V c (Pipeline.arrRef spec5 10) = B)
include hA hT hS hP hQ hU hC hG hL

/-- A block's cell is the array's cell at the block's rows. -/
theorem cell5_apply (t : Fin cfg5.N) (r : Fin 792) (b : Fin 4) (u : Fin 64) :
    cell1 (blk5 V c 0 t) (blk5 V c 1 t) (blk5 V c 2 t) (blk5 V c 3 t) (blk5 V c 4 t) (blk5 V c 5 t) (blk5 V c 6 t) (blk5 V c 7 t) (blk5 V c 8 t) b (ix2 r u)
      = hiddenB A T S P Q U C G L (rowAt t.val r) b u := by
  rw [cell1_apply]
  unfold gateB
  simp only [blk5_0_apply V c hA, blk5_1_apply V c hT, blk5_2_apply V c hS, blk5_3_apply V c hP, blk5_4_apply V c hQ, blk5_5_apply V c hU, blk5_6_apply V c hC, blk5_7_apply V c hG, blk5_8_apply V c hL]
  rfl

/-- A block's hidden states are the array's at the block's rows. -/
theorem hidden5_apply (t : Fin cfg5.N) (l : Fin 2) (b : Fin 4) (r : Fin 792) (u : Fin 64) :
    hidden1 (blk5 V c 0 t) (cell1 (blk5 V c 0 t) (blk5 V c 1 t) (blk5 V c 2 t) (blk5 V c 3 t) (blk5 V c 4 t) (blk5 V c 5 t) (blk5 V c 6 t) (blk5 V c 7 t) (blk5 V c 8 t)) l b (ix2 r u) = hiddenBoth A T S P Q U C G L l b (rowAt t.val r) u := by
  unfold hidden1 hiddenBoth
  by_cases h0 : l = 0
  · rw [if_pos h0, if_pos h0]
    refine (columnsOf_apply (k5_pay5 (blk5 V c 0 t)) b r u).trans (Eq.trans ?_ (blk5_0_apply V c hA t r _))
    unfold k5_pay5; pointwise
  · rw [if_neg h0, if_neg h0]
    exact cell5_apply V c hA hT hS hP hQ hU hC hG hL t r b u

/-- Both layers' hidden states, by layer and batch. -/
theorem array5_11 : (dat5 V c).arrAt 11 cfg5.N
      = fun y : S2x4x3960x64.Idx => hiddenBoth A T S P Q U C G L (y 0) (y 1) (y 2) (y 3) := by
  have h : ∀ t : Fin cfg5.N, win5_11.index t 0 = 0 ∧ win5_11.index t 1 = 0 ∧ win5_11.index t 2 = t.val ∧ win5_11.index t 3 = 0 := by decide +kernel
  refine (dat5 V c).arrAt_eq_of_covers 11 _ (by decide +kernel) fun t hf y => ?_
  blk_simp
  rw [after5_11]
  have e : ((cfg5.win 11).blk t).view.emb y = (ix4 (y 0 : Fin 2) (y 1 : Fin 4) (rowAt t.val (y 2 : Fin 792)) (y 3 : Fin 64) : S2x4x3960x64.Idx) := by
    funext a
    match a with
    | ⟨0, _⟩ => exact Fin.ext (only_val (h t).1)
    | ⟨1, _⟩ => exact Fin.ext (only_val (h t).2.1)
    | ⟨2, _⟩ => exact Fin.ext (row_val t.isLt (h t).2.2.1 _)
    | ⟨3, _⟩ => exact Fin.ext (only_val (h t).2.2.2)
  refine Eq.trans ?_ (congrArg (fun y : S2x4x3960x64.Idx => hiddenBoth A T S P Q U C G L (y 0) (y 1) (y 2) (y 3)) e.symm)
  show hidden1 (blk5 V c 0 t) (cell1 (blk5 V c 0 t) (blk5 V c 1 t) (blk5 V c 2 t) (blk5 V c 3 t) (blk5 V c 4 t) (blk5 V c 5 t) (blk5 V c 6 t) (blk5 V c 7 t) (blk5 V c 8 t)) (y 0) (y 1) (withinStack y)
    = hiddenBoth A T S P Q U C G L (y 0) (y 1) (rowAt t.val (y 2)) (y 3)
  rw [show withinStack y = ix2 (y 2 : Fin 792) (y 3 : Fin 64) from ix2_ext rfl rfl]
  exact hidden5_apply V c hA hT hS hP hQ hU hC hG hL t _ _ _ _

include hW hB in
/-- The projection of the second layer's hidden state. -/
theorem array5_12 : (dat5 V c).arrAt 12 cfg5.N
      = fun y : S3960x4.Idx => (∑ u, hiddenB A T S P Q U C G L (y 0) (y 1) u * W (ix2 0 u)) + B (ix2 0 0) := by
  have h : ∀ t : Fin cfg5.N, win5_12.index t 0 = t.val ∧ win5_12.index t 1 = 0 := by decide +kernel
  refine (dat5 V c).arrAt_eq_of_covers 12 _ (by decide +kernel) fun t hf y => ?_
  blk_simp
  rw [after5_12]
  refine at_ix2 (g := fun y : S3960x4.Idx => (∑ u, hiddenB A T S P Q U C G L (y 0) (y 1) u * W (ix2 0 u)) + B (ix2 0 0)) (rowAt t.val) id (fun r b => ?_)
    (row_val t.isLt (h t).1 _) (only_val (h t).2)
  show projected1 (blk5 V c 0 t) (blk5 V c 1 t) (blk5 V c 2 t) (blk5 V c 3 t) (blk5 V c 4 t) (blk5 V c 5 t) (blk5 V c 6 t) (blk5 V c 7 t) (blk5 V c 8 t) (blk5 V c 9 t) (blk5 V c 10 t) b (withinColumns (ix2 r b)) = _
  rw [show withinColumns (ix2 r b) = ix2 r 0 from ix2_ext rfl rfl]
  unfold projected1
  rw [project1_apply]
  simp only [cell5_apply V c hA hT hS hP hQ hU hC hG hL, blk5_9_apply V c hW, blk5_10_apply V c hB]
  rfl

end Cert.KernelIdeal.Val

end
-- ==== Proof.Val.Terms.lean ====
/- The five diffusion terms of one column, as both programs compute them. -/
module

public import proofs.«01_k».proof.Proof.Val.Pay

@[expose] public section

noncomputable section

namespace Cert.KernelIdeal.Val

open Idealize.ShloMosaic

variable (A : (⟨2, ![3960, 3960]⟩ : Shape).Idx → EReal)

/-- The forward walk: a row divided by its sum. -/
def fwd (i j : Fin 3960) : EReal := recip (∑ k, A (ix2 i k)) * A (ix2 i j)

/-- The backward walk: a row of the transpose divided by its sum. -/
def bwd (i j : Fin 3960) : EReal := recip (∑ k, A (ix2 k i)) * A (ix2 j i)

/-- One step of a walk. -/
def step (P : Fin 3960 → Fin 3960 → EReal) (x : Fin 3960 → EReal) (i : Fin 3960) : EReal := ∑ j, x j * P i j

/-- The five terms: the column, then one and two steps of each walk. -/
def term (P Q : Fin 3960 → Fin 3960 → EReal) (x : Fin 3960 → EReal) : Fin 5 → Fin 3960 → EReal :=
  ![x, step P x, fun i => two * step P (step P x) i - x i, step Q x, fun i => two * step Q (step Q x) i - x i]

/-- A step of the zero column is zero. -/
theorem step_zero (P : Fin 3960 → Fin 3960 → EReal) : step P (fun _ => 0) = fun _ => 0 := by
  funext i; unfold step; simp

/-- A zero column's terms are zero. -/
theorem term_zero (P Q : Fin 3960 → Fin 3960 → EReal) (m : Fin 5) (i : Fin 3960) : term P Q (fun _ => 0) m i = 0 := by
  unfold term; fin_cases m <;> simp [step_zero]

/-- One over a sum is a nonnegative finite factor. -/
theorem recip_nonneg (d : EReal) : 0 ≤ recip d := by
  unfold recip Ideal.div
  split_ifs with h h0
  · exact absurd h0 h.ne'
  · exact absurd h0 h.ne'
  · rw [one_mul]; exact EReal.inv_nonneg_of_nonneg h.le
  · exact le_refl _

/-- The factor is not infinite. -/
theorem recip_ne_top (d : EReal) : recip d ≠ ⊤ := by
  unfold recip Ideal.div
  split_ifs with h h0
  · exact absurd h0 h.ne'
  · exact absurd h0 h.ne'
  · rw [one_mul]
    induction d with
    | bot => simp
    | top => simp
    | coe r => rw [← EReal.coe_inv]; exact EReal.coe_ne_top _
  · exact EReal.zero_ne_top

/-- Such a factor comes out of a sum. -/
theorem recip_mul_sum {ι : Type} (s : Finset ι) (d : EReal) (f : ι → EReal) : recip d * ∑ i ∈ s, f i = ∑ i ∈ s, recip d * f i := by
  classical
  induction s using Finset.induction_on with
  | empty => simp
  | insert a s h ih => rw [Finset.sum_insert h, Finset.sum_insert h, EReal.left_distrib_of_nonneg_of_ne_top (recip_nonneg d) (recip_ne_top d), ih]

/-- Position `d` of piece `m`, the pieces `D` long. -/
def atN {n D : ℕ} (m : Fin n) (d : Fin D) : Fin (n * D) := finProdFinEquiv (m, d)

/-- The position as a number. -/
theorem atN_val {n D : ℕ} (m : Fin n) (d : Fin D) : (atN m d).val = d.val + D * m.val := rfl

/-- A sum over the positions, piece by piece. -/
theorem sum_atN {β : Type} [AddCommMonoid β] {n D : ℕ} (f : Fin (n * D) → β) : (∑ k, f k) = ∑ m, ∑ d, f (atN m d) := by
  rw [← Fintype.sum_prod_type']; exact (Equiv.sum_comp finProdFinEquiv f).symm

end Cert.KernelIdeal.Val

end
-- ==== Proof.Val.Cols.lean ====
/- Arrays given by their columns, and what the walks and the gates are on them. -/
module

public import proofs.«01_k».proof.Proof.Val.Region2
public import proofs.«01_k».proof.Proof.Val.Region5
public import proofs.«01_k».proof.Proof.Val.Terms

@[expose] public section

noncomputable section

namespace Cert.KernelIdeal.Val

open Cert.KernelIdeal Cert.KernelIdeal.Gen Cert.KernelIdeal.Run
open Idealize.ShloMosaic Idealize.ShloMosaic.TcCoe Idealize.SL.Sem

/-- The array with the given columns. -/
def cols {K : ℕ} (x : Fin K → Fin 3960 → EReal) : (⟨2, ![3960, K]⟩ : Shape).Idx → EReal := fun y => x (y 1) (y 0)

/-- An entry of an array given by its columns. -/
theorem cols_apply {K : ℕ} (x : Fin K → Fin 3960 → EReal) (i : Fin 3960) (k : Fin K) : cols x (ix2 i k) = x k i := rfl

variable (A : S3960x3960.Idx → EReal)

/-- The reciprocals of the column sums, as a row. -/
def invRow : S1x3960.Idx → EReal := fun y => recip (∑ i, A (ix2 i (y 1)))
/-- The same reciprocals, as a column. -/
def invCol : S3960x1.Idx → EReal := fun y => recip (∑ i, A (ix2 i (y 0)))

/-- The backward walk's first step before its division. -/
def raw (x : Fin 3960 → EReal) (j : Fin 3960) : EReal := ∑ i, A (ix2 i j) * x i

/-- The third term, and the fifth's double step. -/
def two_steps (P : Fin 3960 → Fin 3960 → EReal) (x : Fin 3960 → EReal) : Fin 3960 → EReal := fun i => two * step P (step P x) i - x i

/-- A row of the kernel's forward product is one forward step. -/
theorem walk_step (x : Fin 3960 → EReal) (i : Fin 3960) : (∑ k, walk A i k * x k) = step (fwd A) x i := by
  unfold step walk fwd
  exact Finset.sum_congr rfl fun k _ => by rw [mul_comm (x k), mul_comm (A (ix2 i k))]

/-- A column of the kernel's scaled transposed product is one backward step. -/
theorem back_step (x : Fin 3960 → EReal) (j : Fin 3960) : (∑ i, (A (ix2 i j) * invRow A (ix2 0 j)) * x i) = step (bwd A) x j := by
  unfold step bwd
  exact Finset.sum_congr rfl fun i _ => by rw [mul_comm (x i), mul_comm (A (ix2 i j))]; rfl

/-- The undivided backward step, divided, is one backward step. -/
theorem back_first (x : Fin 3960 → EReal) (j : Fin 3960) : invCol A (ix2 j 0) * raw A x j = step (bwd A) x j := by
  unfold raw step bwd
  refine (recip_mul_sum _ _ _).trans (Finset.sum_congr rfl fun i _ => ?_)
  rw [mul_comm (x i), mul_assoc]; rfl

/-- The forward product, column by column. -/
theorem cols_walk {K : ℕ} (x : Fin K → Fin 3960 → EReal) :
    (fun y : (⟨2, ![3960, K]⟩ : Shape).Idx => ∑ k, walk A (y 0) k * cols x (ix2 k (y 1))) = cols fun b => step (fwd A) (x b) :=
  funext fun y => walk_step A (x (y 1)) (y 0)

/-- Twice the forward product of a step less the column: the third term. -/
theorem cols_walk_two {K : ℕ} (x : Fin K → Fin 3960 → EReal) :
    (fun y : (⟨2, ![3960, K]⟩ : Shape).Idx => two * (∑ k, walk A (y 0) k * cols (fun b => step (fwd A) (x b)) (ix2 k (y 1))) - cols x (ix2 (y 0) (y 1)))
      = cols fun b => two_steps (fwd A) (x b) :=
  funext fun y => congrArg (fun z => two * z - x (y 1) (y 0)) (walk_step A (step (fwd A) (x (y 1))) (y 0))

/-- The backward product, column by column. -/
theorem cols_back {K : ℕ} (x : Fin K → Fin 3960 → EReal) :
    (fun y : (⟨2, ![3960, K]⟩ : Shape).Idx => ∑ i, (A (ix2 i (y 0)) * invRow A (ix2 0 (y 0))) * cols x (ix2 i (y 1))) = cols fun b => step (bwd A) (x b) :=
  funext fun y => back_step A (x (y 1)) (y 0)

/-- The backward product of a divided first step: two backward steps. -/
theorem cols_back_raw {K : ℕ} (x : Fin K → Fin 3960 → EReal) :
    (fun y : (⟨2, ![3960, K]⟩ : Shape).Idx => ∑ i, (A (ix2 i (y 0)) * invRow A (ix2 0 (y 0))) * (invCol A (ix2 i 0) * cols (fun b => raw A (x b)) (ix2 i (y 1))))
      = cols fun b => step (bwd A) (step (bwd A) (x b)) :=
  funext fun y => (Finset.sum_congr rfl fun i _ => congrArg (fun z => A (ix2 i (y 0)) * invRow A (ix2 0 (y 0)) * z) (back_first A (x (y 1)) i)).trans
    (back_step A (step (bwd A) (x (y 1))) (y 0))

/-- A layer-one gate is the five terms' products plus the bias. -/
theorem gateA_eq (x : Fin 4 → Fin 3960 → EReal) (w : S5x64.Idx → EReal) (bias : S1x64.Idx → EReal) (r : Fin 3960) (b : Fin 4) (u : Fin 64) :
    gateA (cols x) (cols fun b => step (fwd A) (x b)) (cols fun b => two_steps (fwd A) (x b)) (cols fun b => raw A (x b)) (invCol A)
        (cols fun b => step (bwd A) (step (bwd A) (x b))) w bias r b u
      = (∑ m, term (fwd A) (bwd A) (x b) m r * w (ix2 m u)) + bias (ix2 0 u) := by
  unfold gateA
  simp only [cols_apply, back_first]
  rw [Fin.sum_univ_five, add_comm _ (bias (ix2 0 u))]
  simp only [add_assoc]
  rfl

/-- A layer-two gate is the five terms' products, summed over the units, plus the bias. -/
theorem gateB_eq (x : Fin 256 → Fin 3960 → EReal) (w : S320x64.Idx → EReal) (bias : S1x64.Idx → EReal) (r : Fin 3960) (b : Fin 4) (u : Fin 64) :
    gateB (cols x) (cols fun b => step (fwd A) (x b)) (cols fun b => two_steps (fwd A) (x b)) (cols fun b => step (bwd A) (x b))
        (cols fun b => step (bwd A) (step (bwd A) (x b))) w bias r b u
      = (∑ m, ∑ d, term (fwd A) (bwd A) (x (at64 b d)) m r * w (ix2 (at64 (n := 5) m d) u)) + bias (ix2 0 u) := by
  unfold gateB
  rw [Fin.sum_univ_five]
  rfl

end Cert.KernelIdeal.Val

end
-- ==== Proof.Val.Region0.lean ====
/- The first pallas_call's results, over the extended reals. -/
module

public import proofs.«01_k».proof.Proof.Run.Region0
public import proofs.«01_k».proof.Proof.Val.Blocks
public import Idealize.ShloMosaic.Lib.Pipeline.ValueKit

@[expose] public section

noncomputable section

namespace Cert.KernelIdeal.Val

open Cert.KernelIdeal Cert.KernelIdeal.Gen Cert.KernelIdeal.Run
open Idealize.ShloMosaic Idealize.ShloMosaic.TcCoe Idealize.SL.Sem
open Idealize.ShloMosaic.Pipeline (Dat)

variable (V : (c : Dev nD) → (b : Ref sig .tc) → Buf (Elt Ideal) ((c : Thread nD τ).loc b)) (c : Dev nD)
  {A : S3960x3960.Idx → EReal} {X Y : S3960x4.Idx → EReal}

/-- A block of operand 0 is its rows of the array. -/
theorem blk0_0_apply (hA : V c (Pipeline.arrRef spec0 0) = A) (t : Fin cfg0.N) (r : Fin 792) (k : Fin 3960) :
    blk0 V c 0 t (ix2 r k) = A (ix2 (rowAt t.val r) k) := by
  have h : win0_0.index t 0 = t.val ∧ win0_0.index t 1 = 0 := by revert t; decide +kernel
  exact (congrArg (V c (Pipeline.arrRef spec0 0)) (ix2_ext (row_val t.isLt h.1 r) (only_val h.2))).trans (congrFun hA _)

/-- A block of operand 1 is its rows of the array. -/
theorem blk0_1_apply (hX : V c (Pipeline.arrRef spec0 1) = X) (t : Fin cfg0.N) (k : Fin 3960) (b : Fin 4) :
    blk0 V c 1 t (ix2 k b) = X (ix2 k b) := by
  have h : win0_1.index t 0 = 0 ∧ win0_1.index t 1 = 0 := by revert t; decide +kernel
  exact (congrArg (V c (Pipeline.arrRef spec0 1)) (ix2_ext (only_val h.1) (only_val h.2))).trans (congrFun hX _)

/-- A block of operand 2 is its rows of the array. -/
theorem blk0_2_apply (hY : V c (Pipeline.arrRef spec0 2) = Y) (t : Fin cfg0.N) (r : Fin 792) (b : Fin 4) :
    blk0 V c 2 t (ix2 r b) = Y (ix2 (rowAt t.val r) b) := by
  have h : win0_2.index t 0 = t.val ∧ win0_2.index t 1 = 0 := by revert t; decide +kernel
  exact (congrArg (V c (Pipeline.arrRef spec0 2)) (ix2_ext (row_val t.isLt h.1 r) (only_val h.2))).trans (congrFun hY _)

/-- The matrix with each row divided by its sum, times the input. -/
theorem array0_3 (hA : V c (Pipeline.arrRef spec0 0) = A) (hX : V c (Pipeline.arrRef spec0 1) = X) :
    (dat0 V c).arrAt 3 cfg0.N = fun y : S3960x4.Idx => ∑ k, walk A (y 0) k * X (ix2 k (y 1)) := by
  have h : ∀ t : Fin cfg0.N, win0_3.index t 0 = t.val ∧ win0_3.index t 1 = 0 := by decide +kernel
  refine (dat0 V c).arrAt_eq_of_covers 3 _ (by decide +kernel) fun t hf y => ?_
  have e := fun r => walk_congr (blk0_0_apply V c hA t r)
  blk_simp
  rw [after0_3]
  refine at_ix2 (g := fun y : S3960x4.Idx => ∑ k, walk A (y 0) k * X (ix2 k (y 1))) (rowAt t.val) id (fun r b => ?_) (row_val t.isLt (h t).1 _) (only_val (h t).2)
  rw [k0_pay1_apply]
  simp only [e, blk0_1_apply V c hX]; rfl

/-- The column sums. -/
theorem array0_4 (hA : V c (Pipeline.arrRef spec0 0) = A) :
    (dat0 V c).arrAt 4 cfg0.N = fun y : S1x3960.Idx => ∑ i, A (ix2 i (y 1)) := by
  refine (dat0 V c).arrAt_eq_of_after_last 4 t0_4 (by decide +kernel) _ fun y => ?_
  blk_simp
  rw [after0_4]
  refine at_ix2 (g := fun y : S1x3960.Idx => ∑ i, A (ix2 i (y 1))) id id (fun r b => ?_) rfl rfl
  exact acc_last (fun i _ j => A (ix2 i j)) (fun t a b => by rw [k0_pay2_apply]; simp only [blk0_0_apply V c hA])
    (fun t s a b => by rw [k0_pay4_apply]; simp only [blk0_0_apply V c hA]) _ r b

/-- The transposed matrix times the input. -/
theorem array0_5 (hA : V c (Pipeline.arrRef spec0 0) = A) (hY : V c (Pipeline.arrRef spec0 2) = Y) :
    (dat0 V c).arrAt 5 cfg0.N = fun y : S3960x4.Idx => ∑ i, A (ix2 i (y 0)) * Y (ix2 i (y 1)) := by
  refine (dat0 V c).arrAt_eq_of_after_last 5 t0_4 (by decide +kernel) _ fun y => ?_
  blk_simp
  rw [after0_5]
  refine at_ix2 (g := fun y : S3960x4.Idx => ∑ i, A (ix2 i (y 0)) * Y (ix2 i (y 1))) id id (fun j b => ?_) rfl rfl
  exact acc_last (fun i j b => A (ix2 i j) * Y (ix2 i b)) (fun t a b => by rw [k0_pay3_apply]; simp only [blk0_0_apply V c hA, blk0_2_apply V c hY])
    (fun t s a b => by rw [k0_pay5_apply]; simp only [blk0_0_apply V c hA, blk0_2_apply V c hY]) _ j b

end Cert.KernelIdeal.Val

end
-- ==== Proof.Val.Region1.lean ====
/- The second pallas_call's results, over the extended reals. -/
module

public import proofs.«01_k».proof.Proof.Run.Region1
public import proofs.«01_k».proof.Proof.Val.Blocks
public import Idealize.ShloMosaic.Lib.Pipeline.ValueKit

@[expose] public section

noncomputable section

namespace Cert.KernelIdeal.Val

open Cert.KernelIdeal Cert.KernelIdeal.Gen Cert.KernelIdeal.Run
open Idealize.ShloMosaic Idealize.ShloMosaic.TcCoe Idealize.SL.Sem
open Idealize.ShloMosaic.Pipeline (Dat)

variable (V : (c : Dev nD) → (b : Ref sig .tc) → Buf (Elt Ideal) ((c : Thread nD τ).loc b)) (c : Dev nD)

/-- A block of operand 0 is its rows of the array. -/
theorem blk1_0_apply {A : S3960x3960.Idx → EReal} (hA : V c (Pipeline.arrRef spec1 0) = A) (t : Fin cfg1.N) (r : Fin 792) (k : Fin 3960) :
    blk1 V c 0 t (ix2 r k) = A (ix2 (rowAt t.val r) k) := by
  have h : win1_0.index t 0 = t.val ∧ win1_0.index t 1 = 0 := by revert t; decide +kernel
  exact (congrArg (V c (Pipeline.arrRef spec1 0)) (ix2_ext (row_val t.isLt h.1 r) (only_val h.2))).trans (congrFun hA _)

/-- A block of operand 1 is its rows of the array. -/
theorem blk1_1_apply {D : S1x3960.Idx → EReal} (hD : V c (Pipeline.arrRef spec1 1) = D) (t : Fin cfg1.N) (r : Fin 1) (k : Fin 3960) :
    blk1 V c 1 t (ix2 r k) = D (ix2 r k) := by
  have h : win1_1.index t 0 = 0 ∧ win1_1.index t 1 = 0 := by revert t; decide +kernel
  exact (congrArg (V c (Pipeline.arrRef spec1 1)) (ix2_ext (only_val h.1) (only_val h.2))).trans (congrFun hD _)

/-- A block of operand 2 is its rows of the array. -/
theorem blk1_2_apply {E : S3960x1.Idx → EReal} (hE : V c (Pipeline.arrRef spec1 2) = E) (t : Fin cfg1.N) (r : Fin 792) (k : Fin 1) :
    blk1 V c 2 t (ix2 r k) = E (ix2 (rowAt t.val r) k) := by
  have h : win1_2.index t 0 = t.val ∧ win1_2.index t 1 = 0 := by revert t; decide +kernel
  exact (congrArg (V c (Pipeline.arrRef spec1 2)) (ix2_ext (row_val t.isLt h.1 r) (only_val h.2))).trans (congrFun hE _)

/-- A block of operand 3 is its rows of the array. -/
theorem blk1_3_apply {X : S3960x4.Idx → EReal} (hX : V c (Pipeline.arrRef spec1 3) = X) (t : Fin cfg1.N) (r : Fin 3960) (k : Fin 4) :
    blk1 V c 3 t (ix2 r k) = X (ix2 r k) := by
  have h : win1_3.index t 0 = 0 ∧ win1_3.index t 1 = 0 := by revert t; decide +kernel
  exact (congrArg (V c (Pipeline.arrRef spec1 3)) (ix2_ext (only_val h.1) (only_val h.2))).trans (congrFun hX _)

/-- A block of operand 4 is its rows of the array. -/
theorem blk1_4_apply {Y : S3960x4.Idx → EReal} (hY : V c (Pipeline.arrRef spec1 4) = Y) (t : Fin cfg1.N) (r : Fin 792) (k : Fin 4) :
    blk1 V c 4 t (ix2 r k) = Y (ix2 (rowAt t.val r) k) := by
  have h : win1_4.index t 0 = t.val ∧ win1_4.index t 1 = 0 := by revert t; decide +kernel
  exact (congrArg (V c (Pipeline.arrRef spec1 4)) (ix2_ext (row_val t.isLt h.1 r) (only_val h.2))).trans (congrFun hY _)

/-- A block of operand 5 is its rows of the array. -/
theorem blk1_5_apply {Z : S3960x4.Idx → EReal} (hZ : V c (Pipeline.arrRef spec1 5) = Z) (t : Fin cfg1.N) (r : Fin 792) (k : Fin 4) :
    blk1 V c 5 t (ix2 r k) = Z (ix2 (rowAt t.val r) k) := by
  have h : win1_5.index t 0 = t.val ∧ win1_5.index t 1 = 0 := by revert t; decide +kernel
  exact (congrArg (V c (Pipeline.arrRef spec1 5)) (ix2_ext (row_val t.isLt h.1 r) (only_val h.2))).trans (congrFun hZ _)

/-- Twice the row-normalised matrix times the first term, less the input. -/
theorem array1_6 {A : S3960x3960.Idx → EReal} {X Y : S3960x4.Idx → EReal} (hA : V c (Pipeline.arrRef spec1 0) = A) (hX : V c (Pipeline.arrRef spec1 3) = X) (hY : V c (Pipeline.arrRef spec1 4) = Y) :
    (dat1 V c).arrAt 6 cfg1.N = fun y : S3960x4.Idx => two * (∑ k, walk A (y 0) k * X (ix2 k (y 1))) - Y (ix2 (y 0) (y 1)) := by
  have h : ∀ t : Fin cfg1.N, win1_6.index t 0 = t.val ∧ win1_6.index t 1 = 0 := by decide +kernel
  refine (dat1 V c).arrAt_eq_of_covers 6 _ (by decide +kernel) fun t hf y => ?_
  have e := fun r => walk_congr (blk1_0_apply V c hA t r)
  blk_simp
  rw [after1_6]
  refine at_ix2 (g := fun y : S3960x4.Idx => two * (∑ k, walk A (y 0) k * X (ix2 k (y 1))) - Y (ix2 (y 0) (y 1))) (rowAt t.val) id (fun r b => ?_) (row_val t.isLt (h t).1 _) (only_val (h t).2)
  rw [k1_pay2_apply]
  simp only [e, blk1_3_apply V c hX, blk1_4_apply V c hY]; rfl

/-- The transposed matrix, its columns scaled, times the scaled product before it. -/
theorem array1_7 {A : S3960x3960.Idx → EReal} {D : S1x3960.Idx → EReal} {E : S3960x1.Idx → EReal} {Z : S3960x4.Idx → EReal} (hA : V c (Pipeline.arrRef spec1 0) = A) (hD : V c (Pipeline.arrRef spec1 1) = D) (hE : V c (Pipeline.arrRef spec1 2) = E) (hZ : V c (Pipeline.arrRef spec1 5) = Z) :
    (dat1 V c).arrAt 7 cfg1.N = fun y : S3960x4.Idx => ∑ i, (A (ix2 i (y 0)) * D (ix2 0 (y 0))) * (E (ix2 i 0) * Z (ix2 i (y 1))) := by
  refine (dat1 V c).arrAt_eq_of_after_last 7 t1_4 (by decide +kernel) _ fun y => ?_
  blk_simp
  rw [after1_7]
  refine at_ix2 (g := fun y : S3960x4.Idx => ∑ i, (A (ix2 i (y 0)) * D (ix2 0 (y 0))) * (E (ix2 i 0) * Z (ix2 i (y 1)))) id id (fun j b => ?_) rfl rfl
  exact acc_last (fun i j b => (A (ix2 i j) * D (ix2 0 j)) * (E (ix2 i 0) * Z (ix2 i b))) (fun t a b => by rw [k1_pay3_apply]; simp only [blk1_0_apply V c hA, blk1_1_apply V c hD, blk1_2_apply V c hE, blk1_5_apply V c hZ])
    (fun t s a b => by rw [k1_pay1_apply, k1_pay3_apply]; simp only [blk1_0_apply V c hA, blk1_1_apply V c hD, blk1_2_apply V c hE, blk1_5_apply V c hZ]) _ j b

end Cert.KernelIdeal.Val

end
-- ==== Proof.Val.Region3.lean ====
/- The fourth pallas_call's results, over the extended reals. -/
module

public import proofs.«01_k».proof.Proof.Run.Region3
public import proofs.«01_k».proof.Proof.Val.Blocks
public import Idealize.ShloMosaic.Lib.Pipeline.ValueKit

@[expose] public section

noncomputable section

namespace Cert.KernelIdeal.Val

open Cert.KernelIdeal Cert.KernelIdeal.Gen Cert.KernelIdeal.Run
open Idealize.ShloMosaic Idealize.ShloMosaic.TcCoe Idealize.SL.Sem
open Idealize.ShloMosaic.Pipeline (Dat)

variable (V : (c : Dev nD) → (b : Ref sig .tc) → Buf (Elt Ideal) ((c : Thread nD τ).loc b)) (c : Dev nD)

/-- A block of operand 0 is its rows of the array. -/
theorem blk3_0_apply {A : S3960x3960.Idx → EReal} (hA : V c (Pipeline.arrRef spec3 0) = A) (t : Fin cfg3.N) (r : Fin 792) (k : Fin 3960) :
    blk3 V c 0 t (ix2 r k) = A (ix2 (rowAt t.val r) k) := by
  have h : win3_0.index t 0 = t.val ∧ win3_0.index t 1 = 0 := by revert t; decide +kernel
  exact (congrArg (V c (Pipeline.arrRef spec3 0)) (ix2_ext (row_val t.isLt h.1 r) (only_val h.2))).trans (congrFun hA _)

/-- A block of operand 1 is its rows of the array. -/
theorem blk3_1_apply {D : S1x3960.Idx → EReal} (hD : V c (Pipeline.arrRef spec3 1) = D) (t : Fin cfg3.N) (r : Fin 1) (k : Fin 3960) :
    blk3 V c 1 t (ix2 r k) = D (ix2 r k) := by
  have h : win3_1.index t 0 = 0 ∧ win3_1.index t 1 = 0 := by revert t; decide +kernel
  exact (congrArg (V c (Pipeline.arrRef spec3 1)) (ix2_ext (only_val h.1) (only_val h.2))).trans (congrFun hD _)

/-- A block of operand 2 is its rows of the array. -/
theorem blk3_2_apply {X : S3960x256.Idx → EReal} (hX : V c (Pipeline.arrRef spec3 2) = X) (t : Fin cfg3.N) (r : Fin 3960) (k : Fin 256) :
    blk3 V c 2 t (ix2 r k) = X (ix2 r k) := by
  have h : win3_2.index t 0 = 0 ∧ win3_2.index t 1 = 0 := by revert t; decide +kernel
  exact (congrArg (V c (Pipeline.arrRef spec3 2)) (ix2_ext (only_val h.1) (only_val h.2))).trans (congrFun hX _)

/-- A block of operand 3 is its rows of the array. -/
theorem blk3_3_apply {Y : S3960x256.Idx → EReal} (hY : V c (Pipeline.arrRef spec3 3) = Y) (t : Fin cfg3.N) (r : Fin 792) (k : Fin 256) :
    blk3 V c 3 t (ix2 r k) = Y (ix2 (rowAt t.val r) k) := by
  have h : win3_3.index t 0 = t.val ∧ win3_3.index t 1 = 0 := by revert t; decide +kernel
  exact (congrArg (V c (Pipeline.arrRef spec3 3)) (ix2_ext (row_val t.isLt h.1 r) (only_val h.2))).trans (congrFun hY _)

/-- The row-normalised matrix times the hidden state. -/
theorem array3_4 {A : S3960x3960.Idx → EReal} {X : S3960x256.Idx → EReal} (hA : V c (Pipeline.arrRef spec3 0) = A) (hX : V c (Pipeline.arrRef spec3 2) = X) :
    (dat3 V c).arrAt 4 cfg3.N = fun y : S3960x256.Idx => ∑ k, walk A (y 0) k * X (ix2 k (y 1)) := by
  have h : ∀ t : Fin cfg3.N, win3_4.index t 0 = t.val ∧ win3_4.index t 1 = 0 := by decide +kernel
  refine (dat3 V c).arrAt_eq_of_covers 4 _ (by decide +kernel) fun t hf y => ?_
  have e := fun r => walk_congr (blk3_0_apply V c hA t r)
  blk_simp
  rw [after3_4]
  refine at_ix2 (g := fun y : S3960x256.Idx => ∑ k, walk A (y 0) k * X (ix2 k (y 1))) (rowAt t.val) id (fun r b => ?_) (row_val t.isLt (h t).1 _) (only_val (h t).2)
  rw [k3_pay1_apply]
  simp only [e, blk3_2_apply V c hX]; rfl

/-- The transposed matrix, its columns scaled, times the hidden state. -/
theorem array3_5 {A : S3960x3960.Idx → EReal} {D : S1x3960.Idx → EReal} {Y : S3960x256.Idx → EReal} (hA : V c (Pipeline.arrRef spec3 0) = A) (hD : V c (Pipeline.arrRef spec3 1) = D) (hY : V c (Pipeline.arrRef spec3 3) = Y) :
    (dat3 V c).arrAt 5 cfg3.N = fun y : S3960x256.Idx => ∑ i, (A (ix2 i (y 0)) * D (ix2 0 (y 0))) * Y (ix2 i (y 1)) := by
  refine (dat3 V c).arrAt_eq_of_after_last 5 t3_4 (by decide +kernel) _ fun y => ?_
  blk_simp
  rw [after3_5]
  refine at_ix2 (g := fun y : S3960x256.Idx => ∑ i, (A (ix2 i (y 0)) * D (ix2 0 (y 0))) * Y (ix2 i (y 1))) id id (fun j b => ?_) rfl rfl
  exact acc_last (fun i j b => (A (ix2 i j) * D (ix2 0 j)) * Y (ix2 i b)) (fun t a b => by rw [k3_pay2_apply]; simp only [blk3_0_apply V c hA, blk3_1_apply V c hD, blk3_3_apply V c hY])
    (fun t s a b => by rw [k3_pay3_apply]; simp only [blk3_0_apply V c hA, blk3_1_apply V c hD, blk3_3_apply V c hY]) _ j b

end Cert.KernelIdeal.Val

end
-- ==== Proof.Val.Region4.lean ====
/- The fifth pallas_call's results, over the extended reals. -/
module

public import proofs.«01_k».proof.Proof.Run.Region4
public import proofs.«01_k».proof.Proof.Val.Blocks
public import Idealize.ShloMosaic.Lib.Pipeline.ValueKit

@[expose] public section

noncomputable section

namespace Cert.KernelIdeal.Val

open Cert.KernelIdeal Cert.KernelIdeal.Gen Cert.KernelIdeal.Run
open Idealize.ShloMosaic Idealize.ShloMosaic.TcCoe Idealize.SL.Sem
open Idealize.ShloMosaic.Pipeline (Dat)

variable (V : (c : Dev nD) → (b : Ref sig .tc) → Buf (Elt Ideal) ((c : Thread nD τ).loc b)) (c : Dev nD)

/-- A block of operand 0 is its rows of the array. -/
theorem blk4_0_apply {A : S3960x3960.Idx → EReal} (hA : V c (Pipeline.arrRef spec4 0) = A) (t : Fin cfg4.N) (r : Fin 792) (k : Fin 3960) :
    blk4 V c 0 t (ix2 r k) = A (ix2 (rowAt t.val r) k) := by
  have h : win4_0.index t 0 = t.val ∧ win4_0.index t 1 = 0 := by revert t; decide +kernel
  exact (congrArg (V c (Pipeline.arrRef spec4 0)) (ix2_ext (row_val t.isLt h.1 r) (only_val h.2))).trans (congrFun hA _)

/-- A block of operand 1 is its rows of the array. -/
theorem blk4_1_apply {D : S1x3960.Idx → EReal} (hD : V c (Pipeline.arrRef spec4 1) = D) (t : Fin cfg4.N) (r : Fin 1) (k : Fin 3960) :
    blk4 V c 1 t (ix2 r k) = D (ix2 r k) := by
  have h : win4_1.index t 0 = 0 ∧ win4_1.index t 1 = 0 := by revert t; decide +kernel
  exact (congrArg (V c (Pipeline.arrRef spec4 1)) (ix2_ext (only_val h.1) (only_val h.2))).trans (congrFun hD _)

/-- A block of operand 2 is its rows of the array. -/
theorem blk4_2_apply {X : S3960x256.Idx → EReal} (hX : V c (Pipeline.arrRef spec4 2) = X) (t : Fin cfg4.N) (r : Fin 3960) (k : Fin 256) :
    blk4 V c 2 t (ix2 r k) = X (ix2 r k) := by
  have h : win4_2.index t 0 = 0 ∧ win4_2.index t 1 = 0 := by revert t; decide +kernel
  exact (congrArg (V c (Pipeline.arrRef spec4 2)) (ix2_ext (only_val h.1) (only_val h.2))).trans (congrFun hX _)

/-- A block of operand 3 is its rows of the array. -/
theorem blk4_3_apply {Y : S3960x256.Idx → EReal} (hY : V c (Pipeline.arrRef spec4 3) = Y) (t : Fin cfg4.N) (r : Fin 792) (k : Fin 256) :
    blk4 V c 3 t (ix2 r k) = Y (ix2 (rowAt t.val r) k) := by
  have h : win4_3.index t 0 = t.val ∧ win4_3.index t 1 = 0 := by revert t; decide +kernel
  exact (congrArg (V c (Pipeline.arrRef spec4 3)) (ix2_ext (row_val t.isLt h.1 r) (only_val h.2))).trans (congrFun hY _)

/-- A block of operand 4 is its rows of the array. -/
theorem blk4_4_apply {Z : S3960x256.Idx → EReal} (hZ : V c (Pipeline.arrRef spec4 4) = Z) (t : Fin cfg4.N) (r : Fin 792) (k : Fin 256) :
    blk4 V c 4 t (ix2 r k) = Z (ix2 (rowAt t.val r) k) := by
  have h : win4_4.index t 0 = t.val ∧ win4_4.index t 1 = 0 := by revert t; decide +kernel
  exact (congrArg (V c (Pipeline.arrRef spec4 4)) (ix2_ext (row_val t.isLt h.1 r) (only_val h.2))).trans (congrFun hZ _)

/-- Twice the row-normalised matrix times the first term, less the hidden state. -/
theorem array4_5 {A : S3960x3960.Idx → EReal} {X Y : S3960x256.Idx → EReal} (hA : V c (Pipeline.arrRef spec4 0) = A) (hX : V c (Pipeline.arrRef spec4 2) = X) (hY : V c (Pipeline.arrRef spec4 3) = Y) :
    (dat4 V c).arrAt 5 cfg4.N = fun y : S3960x256.Idx => two * (∑ k, walk A (y 0) k * X (ix2 k (y 1))) - Y (ix2 (y 0) (y 1)) := by
  have h : ∀ t : Fin cfg4.N, win4_5.index t 0 = t.val ∧ win4_5.index t 1 = 0 := by decide +kernel
  refine (dat4 V c).arrAt_eq_of_covers 5 _ (by decide +kernel) fun t hf y => ?_
  have e := fun r => walk_congr (blk4_0_apply V c hA t r)
  blk_simp
  rw [after4_5]
  refine at_ix2 (g := fun y : S3960x256.Idx => two * (∑ k, walk A (y 0) k * X (ix2 k (y 1))) - Y (ix2 (y 0) (y 1))) (rowAt t.val) id (fun r b => ?_) (row_val t.isLt (h t).1 _) (only_val (h t).2)
  rw [k4_pay2_apply]
  simp only [e, blk4_2_apply V c hX, blk4_3_apply V c hY]; rfl

/-- The transposed matrix, its columns scaled, times the product before it. -/
theorem array4_6 {A : S3960x3960.Idx → EReal} {D : S1x3960.Idx → EReal} {Z : S3960x256.Idx → EReal} (hA : V c (Pipeline.arrRef spec4 0) = A) (hD : V c (Pipeline.arrRef spec4 1) = D) (hZ : V c (Pipeline.arrRef spec4 4) = Z) :
    (dat4 V c).arrAt 6 cfg4.N = fun y : S3960x256.Idx => ∑ i, (A (ix2 i (y 0)) * D (ix2 0 (y 0))) * Z (ix2 i (y 1)) := by
  refine (dat4 V c).arrAt_eq_of_after_last 6 t4_4 (by decide +kernel) _ fun y => ?_
  blk_simp
  rw [after4_6]
  refine at_ix2 (g := fun y : S3960x256.Idx => ∑ i, (A (ix2 i (y 0)) * D (ix2 0 (y 0))) * Z (ix2 i (y 1))) id id (fun j b => ?_) rfl rfl
  exact acc_last (fun i j b => (A (ix2 i j) * D (ix2 0 j)) * Z (ix2 i b)) (fun t a b => by rw [k4_pay3_apply]; simp only [blk4_0_apply V c hA, blk4_1_apply V c hD, blk4_4_apply V c hZ])
    (fun t s a b => by rw [k4_pay1_apply, k4_pay3_apply]; simp only [blk4_0_apply V c hA, blk4_1_apply V c hD, blk4_4_apply V c hZ]) _ j b

end Cert.KernelIdeal.Val

end
-- ==== Proof.Val.Ref.lean ====
/- The reference's values read at an index: each layer's gates as sums over the five terms of its columns. -/
module

public import proofs.«01_k».proof.Proof.Gen.ReferenceIdeal.Read
public import proofs.«01_k».proof.Proof.Val.Terms
public import Idealize.ShloMosaic.Lib.Pointwise

@[expose] public section

noncomputable section

namespace Cert.ReferenceIdeal.Val

open Cert.ReferenceIdeal Cert.ReferenceIdeal.Gen Cert.ReferenceIdeal.Read
open Idealize.ShloMosaic Idealize.ShloMosaic.TcCoe Idealize.SL.Sem
open Cert.KernelIdeal.Val (recip two fwd bwd step term term_zero atN atN_val sum_atN)

/-- A rank-3 index is its three coordinates. -/
theorem ix3_eta {n m k : ℕ} (i : (⟨3, ![n, m, k]⟩ : Shape).Idx) : i = ix3 (i 0 : Fin n) (i 1 : Fin m) (i 2 : Fin k) := by
  funext a; match a with | ⟨0, _⟩ => rfl | ⟨1, _⟩ => rfl | ⟨2, _⟩ => rfl

variable (x0 : Vec Ideal S4x3960 .f32) (x1 : Vec Ideal S3960x3960 .f32) (x3 : Vec Ideal S325x128 .f32) (x4 : Vec Ideal S128 .f32) (x5 : Vec Ideal S325x64 .f32)
  (x6 : Vec Ideal S64 .f32) (x7 : Vec Ideal S640x128 .f32) (x8 : Vec Ideal S128 .f32) (x9 : Vec Ideal S640x64 .f32) (x10 : Vec Ideal S64 .f32)
  (x11 : Vec Ideal S64x1 .f32) (x12 : Vec Ideal S1 .f32)

/-- The forward walk. -/
theorem v8_apply (i j : Fin 3960) : val_main_v8 (F := Ideal) x1 (ix2 i j) = fwd x1 i j := by
  unfold val_main_v8 val_main_v7 val_main_v6 val_main_v5 val_main_v4 val_main_v3 val_main_v2 val_main_v1 val_main_v0 val_main_cst val_main_cst_0 val_main_cst_1 val_main_call0_v1 val_main_call0_v0 val_main_cst_2 fwd recip
  pointwise
  simp only [id_eq]
  pointwise

/-- The backward walk. -/
theorem v18_apply (i j : Fin 3960) : val_main_v18 (F := Ideal) x1 (ix2 i j) = bwd x1 i j := by
  unfold val_main_v18 val_main_v17 val_main_v16 val_main_v15 val_main_v14 val_main_v13 val_main_v12 val_main_v11 val_main_v10 val_main_v9 val_main_cst_3 val_main_cst_4 val_main_cst_5 val_main_call1_v1 val_main_call1_v0 val_main_cst_6 bwd recip
  pointwise
  simp only [id_eq]
  pointwise

section First

/-- The zero hidden state. -/
theorem v21_eq : val_main_v21 (F := Ideal) = fun _ => 0 := by
  funext i; rw [ix3_eta i]; unfold val_main_v21 val_main_v19 val_main_cst_7; pointwise

/-- A reset gate times a zero hidden state is zero, so the candidate's input is the gates' input. -/
theorem v51_eq : val_main_v51 (F := Ideal) x0 x1 x3 x4 = val_main_v22 (F := Ideal) x0 := by
  have h : val_main_v50 (F := Ideal) x0 x1 x3 x4 = val_main_v21 (F := Ideal) := by
    unfold val_main_v50; rw [v21_eq]; funext i; exact mul_zero _
  unfold val_main_v51 val_main_v22; rw [h]

/-- The first layer's node features: the input first. -/
theorem v22_zero (b : Fin 4) (i : Fin 3960) : val_main_v22 (F := Ideal) x0 (ix3 b i 0) = x0 (ix2 b i) := by
  unfold val_main_v22 val_main_v20; pointwise

/-- The hidden part of them is zero. -/
theorem v22_succ (b : Fin 4) (i : Fin 3960) (d : Fin 64) : val_main_v22 (F := Ideal) x0 (ix3 b i d.succ) = 0 := by
  unfold val_main_v22; rw [v21_eq]; pointwise
  exact dif_neg (by rw [Fin.val_succ]; omega)

/-- Column `d` of batch `b` of the first layer's input. -/
abbrev col0 (b : Fin 4) (d : Fin 65) (i : Fin 3960) : EReal := val_main_v22 (F := Ideal) x0 (ix3 b i d)

/-- The second term, first layer. -/
theorem v24_apply (b : Fin 4) (i : Fin 3960) (d : Fin 65) : val_main_v24 (F := Ideal) x0 x1 (ix3 b i d) = step (fwd x1) (col0 x0 b d) i := by
  unfold val_main_v24 val_main_v23 step; pointwise; simp only [v8_apply]

/-- The third term, first layer. -/
theorem v29_apply (b : Fin 4) (i : Fin 3960) (d : Fin 65) :
    val_main_v29 (F := Ideal) x0 x1 (ix3 b i d) = two * step (fwd x1) (step (fwd x1) (col0 x0 b d)) i - col0 x0 b d i := by
  unfold val_main_v29 val_main_v28 val_main_v27 val_main_v26 val_main_v25 val_main_cst_8; pointwise; simp only [v8_apply, v24_apply]; rfl

/-- The fourth term, first layer. -/
theorem v31_apply (b : Fin 4) (i : Fin 3960) (d : Fin 65) : val_main_v31 (F := Ideal) x0 x1 (ix3 b i d) = step (bwd x1) (col0 x0 b d) i := by
  unfold val_main_v31 val_main_v30 step; pointwise; simp only [v18_apply]

/-- The fifth term, first layer. -/
theorem v36_apply (b : Fin 4) (i : Fin 3960) (d : Fin 65) :
    val_main_v36 (F := Ideal) x0 x1 (ix3 b i d) = two * step (bwd x1) (step (bwd x1) (col0 x0 b d)) i - col0 x0 b d i := by
  unfold val_main_v36 val_main_v35 val_main_v34 val_main_v33 val_main_v32 val_main_cst_9; pointwise; simp only [v18_apply, v31_apply]; rfl

/-- The five terms of the first layer, as a family. -/
def pieces0 : Fin 5 → S4x3960x65.Idx → EReal :=
  ![val_main_v22 (F := Ideal) x0, val_main_v24 (F := Ideal) x0 x1, val_main_v29 (F := Ideal) x0 x1, val_main_v31 (F := Ideal) x0 x1, val_main_v36 (F := Ideal) x0 x1]

/-- The concatenated terms, piece by piece. -/
theorem pieces0_apply (m : Fin 5) (b : Fin 4) (i : Fin 3960) (d : Fin 65) : pieces0 x0 x1 m (ix3 b i d) = term (fwd x1) (bwd x1) (col0 x0 b d) m i := by
  match m with
  | 0 => rfl
  | 1 => exact v24_apply x0 x1 b i d
  | 2 => exact v29_apply x0 x1 b i d
  | 3 => exact v31_apply x0 x1 b i d
  | 4 => exact v36_apply x0 x1 b i d

/-- The first layer's concatenated terms. -/
theorem v37_apply (m : Fin 5) (b : Fin 4) (i : Fin 3960) (d : Fin 65) :
    val_main_v37 (F := Ideal) x0 x1 (ix3 b i (atN m d)) = term (fwd x1) (bwd x1) (col0 x0 b d) m i := by
  have hd := d.isLt
  rw [← pieces0_apply]
  refine concatenate_ofFn_apply (t := S4x3960x325) (s₁ := S4x3960x65) 2 (pieces0 x0 x1)
    concatenates_S4x3960x65_S4x3960x65_S4x3960x65_S4x3960x65_S4x3960x65_S4x3960x325_d2 rfl 65 rfl (ix3 b i (atN m d)) m ?_ (ix3 b i d) ?_ ?_
  · show (d.val + 65 * m.val) / 65 = m.val; omega
  · show d.val = (d.val + 65 * m.val) % 65; omega
  · intro a ha; match a with | ⟨0, _⟩ => rfl | ⟨1, _⟩ => rfl | ⟨2, _⟩ => exact absurd rfl ha

/-- The candidate's terms are the gates' terms. -/
theorem v66_eq : val_main_v66 (F := Ideal) x0 x1 x3 x4 = val_main_v37 (F := Ideal) x0 x1 := by
  unfold val_main_v66 val_main_v65 val_main_v64 val_main_v62 val_main_v61 val_main_v60 val_main_v59 val_main_v58 val_main_v57 val_main_v55 val_main_v54 val_main_v53 val_main_v52
  rw [v51_eq]; rfl

/-- A product of the terms with a weight column uses the rows of the one column that is not zero. -/
theorem terms0_sum {n : ℕ} (w : (⟨2, ![325, n]⟩ : Shape).Idx → EReal) (b : Fin 4) (i : Fin 3960) (o : Fin n) :
    (∑ k, val_main_v37 (F := Ideal) x0 x1 (ix3 b i k) * w (ix2 k o))
      = ∑ m, term (fwd x1) (bwd x1) (fun j => x0 (ix2 b j)) m i * w (ix2 (atN (n := 5) (D := 65) m 0) o) := by
  refine (sum_atN (n := 5) (D := 65) fun k => val_main_v37 (F := Ideal) x0 x1 (ix3 b i k) * w (ix2 k o)).trans (Finset.sum_congr rfl fun m _ => ?_)
  rw [Fin.sum_univ_succ]
  have e0 : col0 x0 b 0 = fun j => x0 (ix2 b j) := funext fun j => v22_zero x0 b j
  have e1 : ∀ d : Fin 64, col0 x0 b d.succ = fun _ => 0 := fun d => funext fun j => v22_succ x0 b j d
  simp only [v37_apply, e0, e1, term_zero, zero_mul, Finset.sum_const_zero, add_zero]

/-- The first layer's hidden state at an index. -/
theorem v76_apply (b : Fin 4) (i : Fin 3960) (u : Fin 64) :
    val_main_v76 (F := Ideal) x0 x1 x3 x4 x5 x6 (ix3 b i u)
      = (1 - Ideal.logistic ((∑ m, term (fwd x1) (bwd x1) (fun j => x0 (ix2 b j)) m i * x3 (ix2 (atN (n := 5) (D := 65) m 0) (Fin.natAdd 64 u))) + x4 (ix1 (Fin.natAdd 64 u))))
        * Ideal.tanh ((∑ m, term (fwd x1) (bwd x1) (fun j => x0 (ix2 b j)) m i * x5 (ix2 (atN (n := 5) (D := 65) m 0) u)) + x6 (ix1 u)) := by
  rw [← terms0_sum x0 x1 x3, ← terms0_sum x0 x1 x5]
  unfold val_main_v76 val_main_v75 val_main_v74 val_main_v73 val_main_v72 val_main_v71 val_main_v70 val_main_v69 val_main_v68 val_main_v67 val_main_v49 val_main_v47 val_main_v46 val_main_v45 val_main_v44 val_main_v43 val_main_v42 val_main_v41 val_main_v40 val_main_v39 val_main_v38 val_main_cst_10 val_main_cst_11 val_main_cst_14 Ideal.logistic
  rw [v21_eq, v66_eq]
  pointwise
  rw [mul_zero, zero_add]; rfl

end First

section Second

/-- The zero hidden state of the second layer. -/
theorem v79_eq : val_main_v79 (F := Ideal) = fun _ => 0 := by
  funext i; rw [ix3_eta i]; unfold val_main_v79 val_main_v19 val_main_cst_7; pointwise

/-- A reset gate times a zero hidden state is zero, so the candidate's input is the gates' input. -/
theorem v109_eq : val_main_v109 (F := Ideal) x0 x1 x3 x4 x5 x6 x7 x8 = val_main_v80 (F := Ideal) x0 x1 x3 x4 x5 x6 := by
  have h : val_main_v108 (F := Ideal) x0 x1 x3 x4 x5 x6 x7 x8 = val_main_v79 (F := Ideal) := by
    unfold val_main_v108; rw [v79_eq]; funext i; exact mul_zero _
  unfold val_main_v109 val_main_v80; rw [h]

/-- The second layer's node features: the first hidden state first. -/
theorem v80_left (b : Fin 4) (i : Fin 3960) (d : Fin 64) : val_main_v80 (F := Ideal) x0 x1 x3 x4 x5 x6 (ix3 b i (Fin.castAdd 64 d)) = val_main_v76 (F := Ideal) x0 x1 x3 x4 x5 x6 (ix3 b i d) := by
  unfold val_main_v80 val_main_v78 val_main_v77; pointwise
  exact dif_pos d.isLt

/-- The rest of them is zero. -/
theorem v80_right (b : Fin 4) (i : Fin 3960) (d : Fin 64) : val_main_v80 (F := Ideal) x0 x1 x3 x4 x5 x6 (ix3 b i (Fin.natAdd 64 d)) = 0 := by
  unfold val_main_v80; rw [v79_eq]; pointwise
  exact dif_neg (by rw [Fin.val_natAdd]; omega)

/-- Column `d` of batch `b` of the second layer's input. -/
abbrev col1 (b : Fin 4) (d : Fin 128) (i : Fin 3960) : EReal := val_main_v80 (F := Ideal) x0 x1 x3 x4 x5 x6 (ix3 b i d)

/-- The second term, second layer. -/
theorem v82_apply (b : Fin 4) (i : Fin 3960) (d : Fin 128) : val_main_v82 (F := Ideal) x0 x1 x3 x4 x5 x6 (ix3 b i d) = step (fwd x1) (col1 x0 x1 x3 x4 x5 x6 b d) i := by
  unfold val_main_v82 val_main_v81 step; pointwise; simp only [v8_apply]

/-- The third term, second layer. -/
theorem v87_apply (b : Fin 4) (i : Fin 3960) (d : Fin 128) :
    val_main_v87 (F := Ideal) x0 x1 x3 x4 x5 x6 (ix3 b i d) = two * step (fwd x1) (step (fwd x1) (col1 x0 x1 x3 x4 x5 x6 b d)) i - col1 x0 x1 x3 x4 x5 x6 b d i := by
  unfold val_main_v87 val_main_v86 val_main_v85 val_main_v84 val_main_v83 val_main_cst_15; pointwise; simp only [v8_apply, v82_apply]; rfl

/-- The fourth term, second layer. -/
theorem v89_apply (b : Fin 4) (i : Fin 3960) (d : Fin 128) : val_main_v89 (F := Ideal) x0 x1 x3 x4 x5 x6 (ix3 b i d) = step (bwd x1) (col1 x0 x1 x3 x4 x5 x6 b d) i := by
  unfold val_main_v89 val_main_v88 step; pointwise; simp only [v18_apply]

/-- The fifth term, second layer. -/
theorem v94_apply (b : Fin 4) (i : Fin 3960) (d : Fin 128) :
    val_main_v94 (F := Ideal) x0 x1 x3 x4 x5 x6 (ix3 b i d) = two * step (bwd x1) (step (bwd x1) (col1 x0 x1 x3 x4 x5 x6 b d)) i - col1 x0 x1 x3 x4 x5 x6 b d i := by
  unfold val_main_v94 val_main_v93 val_main_v92 val_main_v91 val_main_v90 val_main_cst_16; pointwise; simp only [v18_apply, v89_apply]; rfl

/-- The five terms of the second layer, as a family. -/
def pieces1 : Fin 5 → S4x3960x128.Idx → EReal :=
  ![val_main_v80 (F := Ideal) x0 x1 x3 x4 x5 x6, val_main_v82 (F := Ideal) x0 x1 x3 x4 x5 x6, val_main_v87 (F := Ideal) x0 x1 x3 x4 x5 x6, val_main_v89 (F := Ideal) x0 x1 x3 x4 x5 x6, val_main_v94 (F := Ideal) x0 x1 x3 x4 x5 x6]

/-- The concatenated terms, piece by piece. -/
theorem pieces1_apply (m : Fin 5) (b : Fin 4) (i : Fin 3960) (d : Fin 128) : pieces1 x0 x1 x3 x4 x5 x6 m (ix3 b i d) = term (fwd x1) (bwd x1) (col1 x0 x1 x3 x4 x5 x6 b d) m i := by
  match m with
  | 0 => rfl
  | 1 => exact v82_apply x0 x1 x3 x4 x5 x6 b i d
  | 2 => exact v87_apply x0 x1 x3 x4 x5 x6 b i d
  | 3 => exact v89_apply x0 x1 x3 x4 x5 x6 b i d
  | 4 => exact v94_apply x0 x1 x3 x4 x5 x6 b i d

/-- The second layer's concatenated terms. -/
theorem v95_apply (m : Fin 5) (b : Fin 4) (i : Fin 3960) (d : Fin 128) :
    val_main_v95 (F := Ideal) x0 x1 x3 x4 x5 x6 (ix3 b i (atN m d)) = term (fwd x1) (bwd x1) (col1 x0 x1 x3 x4 x5 x6 b d) m i := by
  have hd := d.isLt
  rw [← pieces1_apply]
  refine concatenate_ofFn_apply (t := S4x3960x640) (s₁ := S4x3960x128) 2 (pieces1 x0 x1 x3 x4 x5 x6)
    concatenates_S4x3960x128_S4x3960x128_S4x3960x128_S4x3960x128_S4x3960x128_S4x3960x640_d2 rfl 128 rfl (ix3 b i (atN m d)) m ?_ (ix3 b i d) ?_ ?_
  · show (d.val + 128 * m.val) / 128 = m.val; omega
  · show d.val = (d.val + 128 * m.val) % 128; omega
  · intro a ha; match a with | ⟨0, _⟩ => rfl | ⟨1, _⟩ => rfl | ⟨2, _⟩ => exact absurd rfl ha

/-- The candidate's terms are the gates' terms. -/
theorem v124_eq : val_main_v124 (F := Ideal) x0 x1 x3 x4 x5 x6 x7 x8 = val_main_v95 (F := Ideal) x0 x1 x3 x4 x5 x6 := by
  unfold val_main_v124 val_main_v123 val_main_v122 val_main_v120 val_main_v119 val_main_v118 val_main_v117 val_main_v116 val_main_v115 val_main_v113 val_main_v112 val_main_v111 val_main_v110
  rw [v109_eq]; rfl

/-- A product of the terms with a weight column uses the rows of the first layer's units. -/
theorem terms1_sum {n : ℕ} (w : (⟨2, ![640, n]⟩ : Shape).Idx → EReal) (b : Fin 4) (i : Fin 3960) (o : Fin n) :
    (∑ k, val_main_v95 (F := Ideal) x0 x1 x3 x4 x5 x6 (ix3 b i k) * w (ix2 k o))
      = ∑ m, ∑ d : Fin 64, term (fwd x1) (bwd x1) (fun j => val_main_v76 (F := Ideal) x0 x1 x3 x4 x5 x6 (ix3 b j d)) m i * w (ix2 (atN (n := 5) (D := 128) m (Fin.castAdd 64 d)) o) := by
  refine (sum_atN (n := 5) (D := 128) fun k => val_main_v95 (F := Ideal) x0 x1 x3 x4 x5 x6 (ix3 b i k) * w (ix2 k o)).trans (Finset.sum_congr rfl fun m _ => ?_)
  refine (Fin.sum_univ_add (a := 64) (b := 64) _).trans ?_
  have e0 : ∀ d : Fin 64, col1 x0 x1 x3 x4 x5 x6 b (Fin.castAdd 64 d) = fun j => val_main_v76 (F := Ideal) x0 x1 x3 x4 x5 x6 (ix3 b j d) := fun d => funext fun j => v80_left x0 x1 x3 x4 x5 x6 b j d
  have e1 : ∀ d : Fin 64, col1 x0 x1 x3 x4 x5 x6 b (Fin.natAdd 64 d) = fun _ => 0 := fun d => funext fun j => v80_right x0 x1 x3 x4 x5 x6 b j d
  simp only [v95_apply, e0, e1, term_zero, zero_mul, Finset.sum_const_zero, add_zero]

/-- The second layer's hidden state at an index. -/
theorem v134_apply (b : Fin 4) (i : Fin 3960) (u : Fin 64) :
    val_main_v134 (F := Ideal) x0 x1 x3 x4 x5 x6 x7 x8 x9 x10 (ix3 b i u)
      = (1 - Ideal.logistic ((∑ m, ∑ d : Fin 64, term (fwd x1) (bwd x1) (fun j => val_main_v76 (F := Ideal) x0 x1 x3 x4 x5 x6 (ix3 b j d)) m i
            * x7 (ix2 (atN (n := 5) (D := 128) m (Fin.castAdd 64 d)) (Fin.natAdd 64 u))) + x8 (ix1 (Fin.natAdd 64 u))))
        * Ideal.tanh ((∑ m, ∑ d : Fin 64, term (fwd x1) (bwd x1) (fun j => val_main_v76 (F := Ideal) x0 x1 x3 x4 x5 x6 (ix3 b j d)) m i
            * x9 (ix2 (atN (n := 5) (D := 128) m (Fin.castAdd 64 d)) u)) + x10 (ix1 u)) := by
  rw [← terms1_sum x0 x1 x3 x4 x5 x6 x7, ← terms1_sum x0 x1 x3 x4 x5 x6 x9]
  unfold val_main_v134 val_main_v133 val_main_v132 val_main_v131 val_main_v130 val_main_v129 val_main_v128 val_main_v127 val_main_v126 val_main_v125 val_main_v107 val_main_v105 val_main_v104 val_main_v103 val_main_v102 val_main_v101 val_main_v100 val_main_v99 val_main_v98 val_main_v97 val_main_v96 val_main_cst_17 val_main_cst_18 val_main_cst_21 Ideal.logistic
  rw [v79_eq, v124_eq]
  pointwise
  rw [mul_zero, zero_add]; rfl

/-- The projected output at an index. -/
theorem v141_apply (b : Fin 4) (i : Fin 3960) :
    val_main_v141 (F := Ideal) x0 x1 x3 x4 x5 x6 x7 x8 x9 x10 x11 x12 (ix2 b i) = (∑ u, val_main_v134 (F := Ideal) x0 x1 x3 x4 x5 x6 x7 x8 x9 x10 (ix3 b i u) * x11 (ix2 u 0)) + x12 (ix1 0) := by
  unfold val_main_v141 val_main_v140 val_main_v139 val_main_v138 val_main_v137 val_main_v136 val_main_v135
  pointwise

/-- The hidden states at an index. -/
theorem v144_apply (l : Fin 2) (b : Fin 4) (k : Fin 253440) :
    val_main_v144 (F := Ideal) x0 x1 x3 x4 x5 x6 x7 x8 x9 x10 (ix3 l b k)
      = if l = 0 then val_main_v76 (F := Ideal) x0 x1 x3 x4 x5 x6 (ix3 b ⟨k.val / 64, by omega⟩ ⟨k.val % 64, by omega⟩)
        else val_main_v134 (F := Ideal) x0 x1 x3 x4 x5 x6 x7 x8 x9 x10 (ix3 b ⟨k.val / 64, by omega⟩ ⟨k.val % 64, by omega⟩) := by
  unfold val_main_v144 val_main_v143 val_main_v142 val_main_v135 val_main_v77
  pointwise
  by_cases h : l = 0
  · rw [if_pos h, dif_pos (show l.val < 1 by rw [h]; decide)]
  · rw [if_neg h, dif_neg fun e => h (Fin.ext (Nat.lt_one_iff.1 e))]

end Second

end Cert.ReferenceIdeal.Val

end
-- ==== Proof.Val.Chain.lean ====
/- The buffers' contents down @main, over the extended reals, ending at the two results. -/
module

public import proofs.«01_k».proof.Proof.Val.Host
public import proofs.«01_k».proof.Proof.Val.Cols
public import proofs.«01_k».proof.Proof.Val.Region0
public import proofs.«01_k».proof.Proof.Val.Region1
public import proofs.«01_k».proof.Proof.Val.Region3
public import proofs.«01_k».proof.Proof.Val.Region4
public import proofs.«01_k».proof.Proof.Val.Ref

@[expose] public section

noncomputable section

namespace Cert.KernelIdeal.Val

open Cert.KernelIdeal Cert.KernelIdeal.Gen Cert.KernelIdeal.Run
open Idealize.ShloMosaic Idealize.ShloMosaic.TcCoe Idealize.SL.Sem

variable (m : (ℓ : Loc nD τ sig) → Buf (Elt Ideal) ℓ) (ρ : Dev nD → PrngReg) (c : Dev nD)

/-- Argument 0 as launched. -/
abbrev arg0 : Vec Ideal S4x3960 .f32 := m ((c : Thread nD τ).loc main_arg0)
/-- Argument 1 as launched. -/
abbrev arg1 : Vec Ideal S3960x3960 .f32 := m ((c : Thread nD τ).loc main_arg1)
/-- Argument 3 as launched. -/
abbrev arg3 : Vec Ideal S325x128 .f32 := m ((c : Thread nD τ).loc main_arg3)
/-- Argument 4 as launched. -/
abbrev arg4 : Vec Ideal S128 .f32 := m ((c : Thread nD τ).loc main_arg4)
/-- Argument 5 as launched. -/
abbrev arg5 : Vec Ideal S325x64 .f32 := m ((c : Thread nD τ).loc main_arg5)
/-- Argument 6 as launched. -/
abbrev arg6 : Vec Ideal S64 .f32 := m ((c : Thread nD τ).loc main_arg6)
/-- Argument 7 as launched. -/
abbrev arg7 : Vec Ideal S640x128 .f32 := m ((c : Thread nD τ).loc main_arg7)
/-- Argument 8 as launched. -/
abbrev arg8 : Vec Ideal S128 .f32 := m ((c : Thread nD τ).loc main_arg8)
/-- Argument 9 as launched. -/
abbrev arg9 : Vec Ideal S640x64 .f32 := m ((c : Thread nD τ).loc main_arg9)
/-- Argument 10 as launched. -/
abbrev arg10 : Vec Ideal S64 .f32 := m ((c : Thread nD τ).loc main_arg10)
/-- Argument 11 as launched. -/
abbrev arg11 : Vec Ideal S64x1 .f32 := m ((c : Thread nD τ).loc main_arg11)
/-- Argument 12 as launched. -/
abbrev arg12 : Vec Ideal S1 .f32 := m ((c : Thread nD τ).loc main_arg12)

/-- The columns of the input: one per batch entry. -/
def xs (b : Fin 4) (i : Fin 3960) : EReal := arg0 m c (ix2 b i)

/-- The first layer's hidden state, as the reference has it. -/
def hid : Vec Ideal Cert.ReferenceIdeal.S4x3960x64 .f32 := Cert.ReferenceIdeal.Read.val_main_v76 (F := Ideal) (arg0 m c) (arg1 m c) (arg3 m c) (arg4 m c) (arg5 m c) (arg6 m c)
/-- The second layer's hidden state, as the reference has it. -/
def hid2 : Vec Ideal Cert.ReferenceIdeal.S4x3960x64 .f32 := Cert.ReferenceIdeal.Read.val_main_v134 (F := Ideal) (arg0 m c) (arg1 m c) (arg3 m c) (arg4 m c) (arg5 m c) (arg6 m c) (arg7 m c) (arg8 m c) (arg9 m c) (arg10 m c)

/-- The columns of the first layer's hidden state: one per batch entry and unit. -/
def hs (k : Fin 256) (i : Fin 3960) : EReal := hid m c (ix3 (splitOf k).1 i (splitOf k).2)

/-- Splitting the column of a batch entry and a unit gives them back. -/
theorem splitOf_at64 (b : Fin 4) (u : Fin 64) : splitOf (at64 b u) = (b, u) :=
  Prod.ext (Fin.ext (by show (64 * b.val + u.val) / 64 = b.val; omega)) (Fin.ext (by show (64 * b.val + u.val) % 64 = u.val; omega))

/-- A hidden column, by its batch entry and unit. -/
theorem hs_at64 (b : Fin 4) (u : Fin 64) : hs m c (at64 b u) = fun i => hid m c (ix3 b i u) := by
  funext i; unfold hs; rw [splitOf_at64]

/-- An array of rows and columns is known by its entries. -/
theorem ext2 {n k : ℕ} {f g : (⟨2, ![n, k]⟩ : Shape).Idx → EReal} (h : ∀ i j, f (ix2 i j) = g (ix2 i j)) : f = g :=
  funext fun y => (congrArg f (ix2_eta y)).symm.trans ((h (y 0) (y 1)).trans (congrArg g (ix2_eta y)))

/-! ### Buffers that keep their contents -/

/-- A buffer that neither the first pallas_call nor the host's lines after it write is as it was before them. -/
theorem keep4 (r : Ref sig .tc) (h0 : ∀ w : Fin cfg0.W, Pipeline.arrRef spec0 w = r → (cfg0.win w).isOut = false) (h1 : r ∉ hostOps1_W) :
    W4 m ρ c (Proc.devRef .tc r) = W2 m ρ c (Proc.devRef .tc r) := (W4_of m ρ c r h1).trans (W3_of m ρ c r h0)

/-- The same up to the end of the second pallas_call. -/
theorem keep5 (r : Ref sig .tc) (h0 : ∀ w : Fin cfg0.W, Pipeline.arrRef spec0 w = r → (cfg0.win w).isOut = false) (h1 : r ∉ hostOps1_W)
    (h2 : ∀ w : Fin cfg1.W, Pipeline.arrRef spec1 w = r → (cfg1.win w).isOut = false) :
    W5 m ρ c (Proc.devRef .tc r) = W2 m ρ c (Proc.devRef .tc r) := (W5_of m ρ c r h2).trans (keep4 m ρ c r h0 h1)

/-- The same up to the end of the fifth pallas_call. -/
theorem keep8 (r : Ref sig .tc) (h0 : ∀ w : Fin cfg0.W, Pipeline.arrRef spec0 w = r → (cfg0.win w).isOut = false) (h1 : r ∉ hostOps1_W)
    (h2 : ∀ w : Fin cfg1.W, Pipeline.arrRef spec1 w = r → (cfg1.win w).isOut = false) (h3 : ∀ w : Fin cfg2.W, Pipeline.arrRef spec2 w = r → (cfg2.win w).isOut = false)
    (h4 : ∀ w : Fin cfg3.W, Pipeline.arrRef spec3 w = r → (cfg3.win w).isOut = false) (h5 : ∀ w : Fin cfg4.W, Pipeline.arrRef spec4 w = r → (cfg4.win w).isOut = false) :
    W8 m ρ c (Proc.devRef .tc r) = W2 m ρ c (Proc.devRef .tc r) :=
  (W8_of m ρ c r h5).trans ((W7_of m ρ c r h4).trans ((W6_of m ρ c r h3).trans (keep5 m ρ c r h0 h1 h2)))

/-! ### What the host lays out before the first pallas_call -/

/-- The input as the host transposes it: its columns are the batch entries. -/
theorem in_x : (W2 m ρ c (Proc.devRef .tc main_v0) : S3960x4.Idx → EReal) = cols (xs m c) :=
  (W2_of m ρ c main_v0 (by decide +kernel)).trans (ext2 fun i b => host_x (W0 m ρ c) i b)

/-- The same input in the narrow format, over the extended reals the same numbers. -/
theorem in_x16 : (W2 m ρ c (Proc.devRef .tc main_call0_v0) : S3960x4.Idx → EReal) = cols (xs m c) :=
  (host_x16 (W1 m ρ c)).trans (ext2 fun i b => host_x (W0 m ρ c) i b)

/-- An operand the host cuts from an argument. -/
def wu0 : S5x64.Idx → EReal := W2 m ρ c (Proc.devRef .tc main_call0_v12)
/-- The operand at an index, as an entry of the argument. -/
theorem wu0_apply (k : Fin 5) (u : Fin 64) : wu0 m ρ c (ix2 k u) = arg3 m c (ix2 ⟨65 * k.val, by omega⟩ (Fin.natAdd 64 u)) :=
  (host_wu0 (W1 m ρ c) k u).trans (congrFun (W1_args m ρ c main_arg3 (by simp)) _)

/-- An operand the host cuts from an argument. -/
def wc0 : S5x64.Idx → EReal := W2 m ρ c (Proc.devRef .tc main_call0_v20)
/-- The operand at an index, as an entry of the argument. -/
theorem wc0_apply (k : Fin 5) (u : Fin 64) : wc0 m ρ c (ix2 k u) = arg5 m c (ix2 ⟨65 * k.val, by omega⟩ u) :=
  (host_wc0 (W1 m ρ c) k u).trans (congrFun (W1_args m ρ c main_arg5 (by simp)) _)

/-- An operand the host cuts from an argument. -/
def wu1 : S320x64.Idx → EReal := W2 m ρ c (Proc.devRef .tc main_call0_v39)
/-- The operand at an index, as an entry of the argument. -/
theorem wu1_apply (k : Fin 320) (u : Fin 64) : wu1 m ρ c (ix2 k u) = arg7 m c (ix2 ⟨128 * (k.val / 64) + k.val % 64, by omega⟩ (Fin.natAdd 64 u)) :=
  (host_wu1 (W1 m ρ c) k u).trans (congrFun (W1_args m ρ c main_arg7 (by simp)) _)

/-- An operand the host cuts from an argument. -/
def wc1 : S320x64.Idx → EReal := W2 m ρ c (Proc.devRef .tc main_call0_v47)
/-- The operand at an index, as an entry of the argument. -/
theorem wc1_apply (k : Fin 320) (u : Fin 64) : wc1 m ρ c (ix2 k u) = arg9 m c (ix2 ⟨128 * (k.val / 64) + k.val % 64, by omega⟩ u) :=
  (host_wc1 (W1 m ρ c) k u).trans (congrFun (W1_args m ρ c main_arg9 (by simp)) _)

/-- An operand the host cuts from an argument. -/
def bu0 : S1x64.Idx → EReal := W2 m ρ c (Proc.devRef .tc main_call0_v49)
/-- The operand at an index, as an entry of the argument. -/
theorem bu0_apply (u : Fin 64) : bu0 m ρ c (ix2 0 u) = arg4 m c (ix1 (Fin.natAdd 64 u)) :=
  (host_bu0 (W1 m ρ c) u).trans (congrFun (W1_args m ρ c main_arg4 (by simp)) _)

/-- An operand the host cuts from an argument. -/
def bc0 : S1x64.Idx → EReal := W2 m ρ c (Proc.devRef .tc main_call0_v50)
/-- The operand at an index, as an entry of the argument. -/
theorem bc0_apply (u : Fin 64) : bc0 m ρ c (ix2 0 u) = arg6 m c (ix1 u) :=
  (host_bc0 (W1 m ρ c) u).trans (congrFun (W1_args m ρ c main_arg6 (by simp)) _)

/-- An operand the host cuts from an argument. -/
def bu1 : S1x64.Idx → EReal := W2 m ρ c (Proc.devRef .tc main_call0_v52)
/-- The operand at an index, as an entry of the argument. -/
theorem bu1_apply (u : Fin 64) : bu1 m ρ c (ix2 0 u) = arg8 m c (ix1 (Fin.natAdd 64 u)) :=
  (host_bu1 (W1 m ρ c) u).trans (congrFun (W1_args m ρ c main_arg8 (by simp)) _)

/-- An operand the host cuts from an argument. -/
def bc1 : S1x64.Idx → EReal := W2 m ρ c (Proc.devRef .tc main_call0_v53)
/-- The operand at an index, as an entry of the argument. -/
theorem bc1_apply (u : Fin 64) : bc1 m ρ c (ix2 0 u) = arg10 m c (ix1 u) :=
  (host_bc1 (W1 m ρ c) u).trans (congrFun (W1_args m ρ c main_arg10 (by simp)) _)

/-- An operand the host cuts from an argument. -/
def wp : S1x64.Idx → EReal := W2 m ρ c (Proc.devRef .tc main_call0_v55)
/-- The operand at an index, as an entry of the argument. -/
theorem wp_apply (u : Fin 64) : wp m ρ c (ix2 0 u) = arg11 m c (ix2 u 0) :=
  (host_wp (W1 m ρ c) u).trans (congrFun (W1_args m ρ c main_arg11 (by simp)) _)

/-- An operand the host cuts from an argument. -/
def bp : S1x1.Idx → EReal := W2 m ρ c (Proc.devRef .tc main_call0_v56)
/-- The operand at an index, as an entry of the argument. -/
theorem bp_apply  : bp m ρ c (ix2 0 0) = arg12 m c (ix1 0) :=
  (host_bp (W1 m ρ c) ).trans (congrFun (W1_args m ρ c main_arg12 (by simp)) _)

/-! ### The first layer -/

/-- The first pallas_call leaves one forward step of every input column. -/
theorem out0_t1 : (W3 m ρ c (Proc.devRef .tc main_call0_v57_0) : S3960x4.Idx → EReal) = cols fun b => step (fwd (arg1 m c)) (xs m c b) :=
  (W3_arr m ρ c 3).trans ((array0_3 (V2 m ρ) c (W2_args m ρ c main_arg1 (by simp)) (in_x16 m ρ c)).trans (cols_walk _ _))

/-- It leaves the adjacency's column sums. -/
theorem out0_sums : (W3 m ρ c (Proc.devRef .tc main_call0_v57_1) : S1x3960.Idx → EReal) = fun y : S1x3960.Idx => ∑ i, arg1 m c (ix2 i (y 1)) :=
  (W3_arr m ρ c 4).trans (array0_4 (V2 m ρ) c (W2_args m ρ c main_arg1 (by simp)))

/-- It leaves the undivided backward step of every input column. -/
theorem out0_b1 : (W3 m ρ c (Proc.devRef .tc main_call0_v57_2) : S3960x4.Idx → EReal) = cols fun b => raw (arg1 m c) (xs m c b) :=
  (W3_arr m ρ c 5).trans ((array0_5 (V2 m ρ) c (W2_args m ρ c main_arg1 (by simp)) (in_x m ρ c)).trans rfl)

/-- The host's row of reciprocal column sums. -/
theorem in_row : (W4 m ρ c (Proc.devRef .tc main_call0_v62) : S1x3960.Idx → EReal) = invRow (arg1 m c) :=
  ext2 fun i j => by
    obtain rfl : i = 0 := Subsingleton.elim _ _
    exact (host_row (W3 m ρ c) j).trans (congrArg recip (congrFun (out0_sums m ρ c) (ix2 0 j)))

/-- The host's column of the same reciprocals. -/
theorem in_col : (W4 m ρ c (Proc.devRef .tc main_call0_v63) : S3960x1.Idx → EReal) = invCol (arg1 m c) :=
  ext2 fun j i => by
    obtain rfl : i = 0 := Subsingleton.elim _ _
    exact (host_col (W3 m ρ c) j).trans (congrArg recip (congrFun (out0_sums m ρ c) (ix2 0 j)))

/-- The second pallas_call leaves the third term of every input column. -/
theorem out1_t2 : (W5 m ρ c (Proc.devRef .tc main_call0_v64_0) : S3960x4.Idx → EReal) = cols fun b => two_steps (fwd (arg1 m c)) (xs m c b) :=
  (W5_arr m ρ c 6).trans ((array1_6 (V4 m ρ) c (W4_args m ρ c main_arg1 (by simp)) ((W4_of m ρ c main_call0_v57_0 (by decide +kernel)).trans (out0_t1 m ρ c))
    ((keep4 m ρ c main_v0 (by decide +kernel) (by decide +kernel)).trans (in_x m ρ c))).trans (cols_walk_two _ _))

/-- It leaves two backward steps of every input column. -/
theorem out1_b2 : (W5 m ρ c (Proc.devRef .tc main_call0_v64_1) : S3960x4.Idx → EReal) = cols fun b => step (bwd (arg1 m c)) (step (bwd (arg1 m c)) (xs m c b)) :=
  (W5_arr m ρ c 7).trans ((array1_7 (V4 m ρ) c (W4_args m ρ c main_arg1 (by simp)) (in_row m ρ c) (in_col m ρ c)
    ((W4_of m ρ c main_call0_v57_2 (by decide +kernel)).trans (out0_b1 m ρ c))).trans (cols_back_raw _ _))

/-- The kernel's first layer is the reference's. -/
theorem first_eq (i : Fin 3960) (b : Fin 4) (u : Fin 64) :
    hiddenA (cols (xs m c)) (cols fun b => step (fwd (arg1 m c)) (xs m c b)) (cols fun b => two_steps (fwd (arg1 m c)) (xs m c b)) (cols fun b => raw (arg1 m c) (xs m c b)) (invCol (arg1 m c))
        (cols fun b => step (bwd (arg1 m c)) (step (bwd (arg1 m c)) (xs m c b))) (wu0 m ρ c) (wc0 m ρ c) (bu0 m ρ c) (bc0 m ρ c) i b u
      = hid m c (ix3 b i u) := by
  unfold hiddenA hid
  rw [gateA_eq, gateA_eq, Cert.ReferenceIdeal.Val.v76_apply, bu0_apply, bc0_apply]
  simp only [wu0_apply, wc0_apply]
  have e : ∀ k : Fin 5, (⟨65 * k.val, by omega⟩ : Fin 325) = atN (n := 5) (D := 65) k 0 := fun k => Fin.ext (by rw [atN_val]; show 65 * k.val = 0 + 65 * k.val; omega)
  simp only [e]
  rfl

/-- The third pallas_call's function of its operands has the reference's hidden columns. -/
theorem second_input : (fun y : S3960x256.Idx => hiddenA (cols (xs m c)) (cols fun b => step (fwd (arg1 m c)) (xs m c b)) (cols fun b => two_steps (fwd (arg1 m c)) (xs m c b)) (cols fun b => raw (arg1 m c) (xs m c b)) (invCol (arg1 m c))
        (cols fun b => step (bwd (arg1 m c)) (step (bwd (arg1 m c)) (xs m c b))) (wu0 m ρ c) (wc0 m ρ c) (bu0 m ρ c) (bc0 m ρ c) (y 0) (splitOf (y 1)).1 (splitOf (y 1)).2) = cols (hs m c) :=
  funext fun y => first_eq m ρ c (y 0) (splitOf (y 1)).1 (splitOf (y 1)).2

/-- The third pallas_call leaves the first hidden state. -/
theorem out2_h : (W6 m ρ c (Proc.devRef .tc main_call0_v65_0) : S3960x256.Idx → EReal) = cols (hs m c) :=
  (W6_arr m ρ c 10).trans ((array2_10 (V5 m ρ) c ((keep5 m ρ c main_v0 (by decide +kernel) (by decide +kernel) (by decide +kernel)).trans (in_x m ρ c))
    ((W5_of m ρ c main_call0_v57_0 (by decide +kernel)).trans ((W4_of m ρ c main_call0_v57_0 (by decide +kernel)).trans (out0_t1 m ρ c))) (out1_t2 m ρ c)
    ((W5_of m ρ c main_call0_v57_2 (by decide +kernel)).trans ((W4_of m ρ c main_call0_v57_2 (by decide +kernel)).trans (out0_b1 m ρ c)))
    ((W5_of m ρ c main_call0_v63 (by decide +kernel)).trans (in_col m ρ c)) (out1_b2 m ρ c)
    (keep5 m ρ c main_call0_v12 (by decide +kernel) (by decide +kernel) (by decide +kernel)) (keep5 m ρ c main_call0_v20 (by decide +kernel) (by decide +kernel) (by decide +kernel)) (keep5 m ρ c main_call0_v49 (by decide +kernel) (by decide +kernel) (by decide +kernel)) (keep5 m ρ c main_call0_v50 (by decide +kernel) (by decide +kernel) (by decide +kernel))).trans
    (second_input m ρ c))

/-- It leaves it in the narrow format too. -/
theorem out2_h16 : (W6 m ρ c (Proc.devRef .tc main_call0_v65_1) : S3960x256.Idx → EReal) = cols (hs m c) :=
  (W6_arr m ρ c 11).trans ((array2_11 (V5 m ρ) c ((keep5 m ρ c main_v0 (by decide +kernel) (by decide +kernel) (by decide +kernel)).trans (in_x m ρ c))
    ((W5_of m ρ c main_call0_v57_0 (by decide +kernel)).trans ((W4_of m ρ c main_call0_v57_0 (by decide +kernel)).trans (out0_t1 m ρ c))) (out1_t2 m ρ c)
    ((W5_of m ρ c main_call0_v57_2 (by decide +kernel)).trans ((W4_of m ρ c main_call0_v57_2 (by decide +kernel)).trans (out0_b1 m ρ c)))
    ((W5_of m ρ c main_call0_v63 (by decide +kernel)).trans (in_col m ρ c)) (out1_b2 m ρ c)
    (keep5 m ρ c main_call0_v12 (by decide +kernel) (by decide +kernel) (by decide +kernel)) (keep5 m ρ c main_call0_v20 (by decide +kernel) (by decide +kernel) (by decide +kernel)) (keep5 m ρ c main_call0_v49 (by decide +kernel) (by decide +kernel) (by decide +kernel)) (keep5 m ρ c main_call0_v50 (by decide +kernel) (by decide +kernel) (by decide +kernel))).trans
    (second_input m ρ c))

/-! ### The second layer -/

/-- The reciprocals are still there after the third pallas_call. -/
theorem row6 : (W6 m ρ c (Proc.devRef .tc main_call0_v62) : S1x3960.Idx → EReal) = invRow (arg1 m c) :=
  (W6_of m ρ c main_call0_v62 (by decide +kernel)).trans ((W5_of m ρ c main_call0_v62 (by decide +kernel)).trans (in_row m ρ c))

/-- The fourth pallas_call leaves one forward step of every hidden column. -/
theorem out3_t1 : (W7 m ρ c (Proc.devRef .tc main_call0_v66_0) : S3960x256.Idx → EReal) = cols fun k => step (fwd (arg1 m c)) (hs m c k) :=
  (W7_arr m ρ c 4).trans ((array3_4 (V6 m ρ) c (W6_args m ρ c main_arg1 (by simp)) (out2_h16 m ρ c)).trans (cols_walk _ _))

/-- It leaves one backward step of every hidden column. -/
theorem out3_b1 : (W7 m ρ c (Proc.devRef .tc main_call0_v66_1) : S3960x256.Idx → EReal) = cols fun k => step (bwd (arg1 m c)) (hs m c k) :=
  (W7_arr m ρ c 5).trans ((array3_5 (V6 m ρ) c (W6_args m ρ c main_arg1 (by simp)) (row6 m ρ c) (out2_h16 m ρ c)).trans (cols_back _ _))

/-- The fifth pallas_call leaves the third term of every hidden column. -/
theorem out4_t2 : (W8 m ρ c (Proc.devRef .tc main_call0_v67_0) : S3960x256.Idx → EReal) = cols fun k => two_steps (fwd (arg1 m c)) (hs m c k) :=
  (W8_arr m ρ c 5).trans ((array4_5 (V7 m ρ) c (W7_args m ρ c main_arg1 (by simp)) (out3_t1 m ρ c) ((W7_of m ρ c main_call0_v65_0 (by decide +kernel)).trans (out2_h m ρ c))).trans (cols_walk_two _ _))

/-- It leaves two backward steps of every hidden column. -/
theorem out4_b2 : (W8 m ρ c (Proc.devRef .tc main_call0_v67_1) : S3960x256.Idx → EReal) = cols fun k => step (bwd (arg1 m c)) (step (bwd (arg1 m c)) (hs m c k)) :=
  (W8_arr m ρ c 6).trans ((array4_6 (V7 m ρ) c (W7_args m ρ c main_arg1 (by simp)) ((W7_of m ρ c main_call0_v62 (by decide +kernel)).trans (row6 m ρ c)) (out3_b1 m ρ c)).trans (cols_back _ _))

/-- The kernel's second layer is the reference's. -/
theorem second_eq (i : Fin 3960) (b : Fin 4) (u : Fin 64) :
    hiddenB (cols (hs m c)) (cols fun k => step (fwd (arg1 m c)) (hs m c k)) (cols fun k => two_steps (fwd (arg1 m c)) (hs m c k)) (cols fun k => step (bwd (arg1 m c)) (hs m c k)) (cols fun k => step (bwd (arg1 m c)) (step (bwd (arg1 m c)) (hs m c k))) (wu1 m ρ c) (wc1 m ρ c) (bu1 m ρ c) (bc1 m ρ c) i b u
      = hid2 m c (ix3 b i u) := by
  unfold hiddenB hid2
  rw [gateB_eq, gateB_eq, Cert.ReferenceIdeal.Val.v134_apply, bu1_apply, bc1_apply]
  simp only [wu1_apply, wc1_apply, hs_at64]
  have e : ∀ (k : Fin 5) (d : Fin 64), (⟨128 * ((at64 k d).val / 64) + (at64 k d).val % 64, by omega⟩ : Fin 640) = atN (n := 5) (D := 128) k (Fin.castAdd 64 d) := fun k d => Fin.ext (by
    rw [atN_val]; show 128 * ((64 * k.val + d.val) / 64) + (64 * k.val + d.val) % 64 = d.val + 128 * k.val; omega)
  simp only [e]
  rfl

/-- The last pallas_call leaves both hidden states. -/
theorem out5_hidden (l : Fin 2) (b : Fin 4) (i : Fin 3960) (u : Fin 64) : (W9 m ρ c (Proc.devRef .tc main_call0_v68_0) : S2x4x3960x64.Idx → EReal) (ix4 l b i u)
    = if l = 0 then hid m c (ix3 b i u) else hid2 m c (ix3 b i u) := by
  have h := (W9_arr m ρ c 11).trans (array5_11 (V8 m ρ) c ((W8_of m ρ c main_call0_v65_0 (by decide +kernel)).trans ((W7_of m ρ c main_call0_v65_0 (by decide +kernel)).trans (out2_h m ρ c)))
    ((W8_of m ρ c main_call0_v66_0 (by decide +kernel)).trans (out3_t1 m ρ c)) (out4_t2 m ρ c) ((W8_of m ρ c main_call0_v66_1 (by decide +kernel)).trans (out3_b1 m ρ c)) (out4_b2 m ρ c)
    (keep8 m ρ c main_call0_v39 (by decide +kernel) (by decide +kernel) (by decide +kernel) (by decide +kernel) (by decide +kernel) (by decide +kernel)) (keep8 m ρ c main_call0_v47 (by decide +kernel) (by decide +kernel) (by decide +kernel) (by decide +kernel) (by decide +kernel) (by decide +kernel)) (keep8 m ρ c main_call0_v52 (by decide +kernel) (by decide +kernel) (by decide +kernel) (by decide +kernel) (by decide +kernel) (by decide +kernel)) (keep8 m ρ c main_call0_v53 (by decide +kernel) (by decide +kernel) (by decide +kernel) (by decide +kernel) (by decide +kernel) (by decide +kernel)))
  refine (congrFun h (ix4 l b i u)).trans ?_
  show hiddenBoth _ _ _ _ _ _ _ _ _ l b i u = _
  unfold hiddenBoth
  rw [cols_apply, hs_at64]
  exact if_congr Iff.rfl rfl (second_eq m ρ c i b u)

/-- It leaves the projected output. -/
theorem out5_proj (i : Fin 3960) (b : Fin 4) : (W9 m ρ c (Proc.devRef .tc main_call0_v68_1) : S3960x4.Idx → EReal) (ix2 i b)
    = (∑ u, hid2 m c (ix3 b i u) * arg11 m c (ix2 u 0)) + arg12 m c (ix1 0) := by
  have h := (W9_arr m ρ c 12).trans (array5_12 (V8 m ρ) c ((W8_of m ρ c main_call0_v65_0 (by decide +kernel)).trans ((W7_of m ρ c main_call0_v65_0 (by decide +kernel)).trans (out2_h m ρ c)))
    ((W8_of m ρ c main_call0_v66_0 (by decide +kernel)).trans (out3_t1 m ρ c)) (out4_t2 m ρ c) ((W8_of m ρ c main_call0_v66_1 (by decide +kernel)).trans (out3_b1 m ρ c)) (out4_b2 m ρ c)
    (keep8 m ρ c main_call0_v39 (by decide +kernel) (by decide +kernel) (by decide +kernel) (by decide +kernel) (by decide +kernel) (by decide +kernel)) (keep8 m ρ c main_call0_v47 (by decide +kernel) (by decide +kernel) (by decide +kernel) (by decide +kernel) (by decide +kernel) (by decide +kernel)) (keep8 m ρ c main_call0_v52 (by decide +kernel) (by decide +kernel) (by decide +kernel) (by decide +kernel) (by decide +kernel) (by decide +kernel)) (keep8 m ρ c main_call0_v53 (by decide +kernel) (by decide +kernel) (by decide +kernel) (by decide +kernel) (by decide +kernel) (by decide +kernel))
    (keep8 m ρ c main_call0_v55 (by decide +kernel) (by decide +kernel) (by decide +kernel) (by decide +kernel) (by decide +kernel) (by decide +kernel)) (keep8 m ρ c main_call0_v56 (by decide +kernel) (by decide +kernel) (by decide +kernel) (by decide +kernel) (by decide +kernel) (by decide +kernel)))
  refine (congrFun h (ix2 i b)).trans ?_
  refine congrArg₂ (· + ·) (Finset.sum_congr rfl fun u _ => congrArg₂ (· * ·) (second_eq m ρ c i b u) (wp_apply m ρ c u)) (bp_apply m ρ c)

/-! ### The results -/

/-- The projected output is the reference's. -/
theorem result0 : (W10 m ρ c (Proc.devRef .tc main_v1_0) : S4x3960.Idx → EReal)
    = Cert.ReferenceIdeal.Read.val_main_v141 (F := Ideal) (arg0 m c) (arg1 m c) (arg3 m c) (arg4 m c) (arg5 m c) (arg6 m c) (arg7 m c) (arg8 m c) (arg9 m c) (arg10 m c) (arg11 m c) (arg12 m c) :=
  ext2 fun b i => ((host_proj (W9 m ρ c) b i).trans (out5_proj m ρ c i b)).trans (Cert.ReferenceIdeal.Val.v141_apply _ _ _ _ _ _ _ _ _ _ _ _ b i).symm

/-- The hidden states are the reference's. -/
theorem result1 : (W10 m ρ c (Proc.devRef .tc main_v1_1) : S2x4x253440.Idx → EReal)
    = Cert.ReferenceIdeal.Read.val_main_v144 (F := Ideal) (arg0 m c) (arg1 m c) (arg3 m c) (arg4 m c) (arg5 m c) (arg6 m c) (arg7 m c) (arg8 m c) (arg9 m c) (arg10 m c) :=
  funext fun y => by
    rw [Cert.ReferenceIdeal.Val.ix3_eta y]
    exact ((host_hidden (W9 m ρ c) _ _ _).trans (out5_hidden m ρ c _ _ _ _)).trans (Cert.ReferenceIdeal.Val.v144_apply _ _ _ _ _ _ _ _ _ _ _ _ _).symm

end Cert.KernelIdeal.Val

end
-- ==== Proof.Val.Equal.lean ====
/- The kernel and the reference, from equal arguments over the extended reals, end with equal results. -/
module

public import proofs.«01_k».proof.Defs
public import proofs.«01_k».proof.Proof.Run.Whole
public import proofs.«01_k».proof.Proof.Val.Chain
public import proofs.«01_k».proof.Proof.Gen.ReferenceIdeal.Run

@[expose] public section

noncomputable section

namespace Cert.Equal

open Idealize.ShloMosaic Idealize.ShloMosaic.TcCoe Idealize.SL.Sem

section Reference
open Cert.ReferenceIdeal Cert.ReferenceIdeal.Gen

variable (m : (ℓ : Loc nD τ sig) → Buf (Elt Ideal) ℓ) (ρ : Dev nD → PrngReg)

/-- The reference's run, its results as the stages read in `Val/Ref.lean`. -/
theorem reference : θ_run (defs (F := Ideal)) (onTc (τ := τ) (main (F := Ideal))) ⟨m, fun _ => 0, ρ⟩ fun r => ∀ c : Dev nD,
    (r.2.mem ((c.tc : Thread nD τ).loc main_v141) = Read.val_main_v141 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)))
    ∧ (r.2.mem ((c.tc : Thread nD τ).loc main_v144) = Read.val_main_v144 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)))
    ∧ (∀ a ∈ [main_arg0, main_arg1, main_arg2, main_arg3, main_arg4, main_arg5, main_arg6, main_arg7, main_arg8, main_arg9, main_arg10, main_arg11, main_arg12], r.2.mem ((c.tc : Thread nD τ).loc a) = m ((c.tc : Thread nD τ).loc a)) :=
  (θ_run _ _ _).mono (fun r h c => by
    obtain ⟨h1, h2, a0, a1, a2, a3, a4, a5, a6, a7, a8, a9, a10, a11, a12⟩ := h c
    refine ⟨h1.trans (Read.val_main_v141_eq _), h2.trans (Read.val_main_v144_eq _), fun a ha => ?_⟩
    simp only [List.mem_cons, List.not_mem_nil, or_false] at ha
    rcases ha with rfl | rfl | rfl | rfl | rfl | rfl | rfl | rfl | rfl | rfl | rfl | rfl | rfl <;> assumption)
    (Value.run (F := Ideal) m ρ)

end Reference

/-- From equal arguments both end with equal results, each argument unchanged. -/
theorem algebraic : Cert.algebraic_KernelIdeal_ReferenceIdeal (hKernelIdeal := Cert.KernelIdeal.Gen.facts) (hReferenceIdeal := Cert.ReferenceIdeal.Gen.facts) := by
  intro m g m' g' _ hm
  refine ⟨fun c => Cert.KernelIdeal.Run.W10 m g c (Proc.devRef .tc Cert.KernelIdeal.main_v1_0), fun c => Cert.KernelIdeal.Run.W10 m g c (Proc.devRef .tc Cert.KernelIdeal.main_v1_1), ?_, ?_⟩
  · refine (θ_run _ _ _).mono (fun r h c => ?_) (Cert.KernelIdeal.Run.run (F := Ideal) m g)
    have k := Cert.KernelIdeal.Run.run_arg m g r h.1 c
    exact ⟨Cert.KernelIdeal.Run.run_read m g r h.1 c _ (by decide), Cert.KernelIdeal.Run.run_read m g r h.1 c _ (by decide),
      k _ (by simp) (by decide), k _ (by simp) (by decide), k _ (by simp) (by decide), k _ (by simp) (by decide), k _ (by simp) (by decide), k _ (by simp) (by decide), k _ (by simp) (by decide),
      k _ (by simp) (by decide), k _ (by simp) (by decide), k _ (by simp) (by decide), k _ (by simp) (by decide), k _ (by simp) (by decide), k _ (by simp) (by decide)⟩
  · refine (θ_run _ _ _).mono (fun r h c => ?_) (reference m' g')
    obtain ⟨h1, h2, k⟩ := h c
    obtain ⟨e0, e1, e2, e3, e4, e5, e6, e7, e8, e9, e10, e11, e12⟩ := hm c
    refine ⟨h1.trans ?_, h2.trans ?_, k _ (by simp), k _ (by simp), k _ (by simp), k _ (by simp), k _ (by simp), k _ (by simp), k _ (by simp),
      k _ (by simp), k _ (by simp), k _ (by simp), k _ (by simp), k _ (by simp), k _ (by simp)⟩
    · rw [e0, e1, e3, e4, e5, e6, e7, e8, e9, e10, e11, e12]
      exact (Cert.KernelIdeal.Val.result0 m g c).symm
    · rw [e0, e1, e3, e4, e5, e6, e7, e8, e9, e10]
      exact (Cert.KernelIdeal.Val.result1 m g c).symm

end Cert.Equal

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.ReferenceIdeal.Read
public import proofs.«01_k».proof.Proof.Run.Frames
public import proofs.«01_k».proof.Proof.Val.Equal
public import Idealize.ShloMosaic.Adequacy
public import Idealize.ShloMosaic.Init

@[expose] public section

noncomputable section

namespace Cert.Proof

open Idealize.ShloMosaic Idealize.SL.Sem Cert.Kernel

/-- Every claim of the certificate: the three frames, the idealization, and the equality of the results. -/
theorem claim : Cert.Claim :=
  ⟨Cert.Kernel.Gen.facts, Cert.KernelIdeal.Gen.facts, Cert.ReferenceIdeal.Gen.facts, Cert.Frames.quiescent_kernel, Cert.Frames.quiescent_kernelIdeal,
    Cert.Frames.quiescent_referenceIdeal, trivial, Cert.Equal.algebraic⟩

end Cert.Proof

end
